-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x768x10x256 : Shape := ⟨4, ![2, 768, 10, 256]⟩
abbrev S2x12x10 : Shape := ⟨3, ![2, 12, 10]⟩
abbrev S2x768x10x512 : Shape := ⟨4, ![2, 768, 10, 512]⟩
abbrev S2x768x10 : Shape := ⟨3, ![2, 768, 10]⟩
abbrev S_ : Shape := ⟨0, ![]⟩

class Facts : Prop where
  bcast_S_S2x12x10 : S_.BroadcastsInDim S2x12x10 (![] : Fin 0 → Fin S2x12x10.rank)
  reducesTo_S2x12x10_S_d0_1_2 : S2x12x10.ReducesTo [0, 1, 2] S_
  h_S_ : 0 < S_.numel
  bcast_S_S2x768x10 : S_.BroadcastsInDim S2x768x10 (![] : Fin 0 → Fin S2x768x10.rank)
  reducesTo_S2x768x10_S_d0_1_2 : S2x768x10.ReducesTo [0, 1, 2] S_
  bcast_S_S2x768x10x256 : S_.BroadcastsInDim S2x768x10x256 (![] : Fin 0 → Fin S2x768x10x256.rank)
  reducesTo_S2x768x10x256_S_d0_1_2_3 : S2x768x10x256.ReducesTo [0, 1, 2, 3] S_
  natLt_8_32 : 8 < 32
  bcast_S_S2x768x10x512 : S_.BroadcastsInDim S2x768x10x512 (![] : Fin 0 → Fin S2x768x10x512.rank)
  reducesTo_S2x768x10x512_S_d0_1_2_3 : S2x768x10x512.ReducesTo [0, 1, 2, 3] S_

variable [Facts]

def fn_part3 {F : FTy → Type} [FloatOps F] (main_v44 : IVec S_ 1) (main_v49 : IVec S2x768x10x512 1) (main_c_19 : IVec S_ 1) : IVec S_ 1 :=
  let main_v50 : IVec S_ 1 := (fun x v => Host.reduce IntOp.andi x v reducesTo_S2x768x10x512_S_d0_1_2_3 h_S_) main_v49 main_c_19
  let main_v51 : IVec S_ 1 := andi main_v44 main_v50
  main_v51

def fn_part2 {F : FTy → Type} [FloatOps F] (main_arg4 : IVec S2x768x10x512 8) (main_arg6 : IVec S2x768x10x512 8) (main_v30 : IVec S_ 1) (main_v33 : IVec S2x768x10x256 32) : IVec S_ 1 :=
  let main_c_12 : IVec S_ 32 := constantI S_ 32 127#32
  let main_v34 : IVec S2x768x10x256 32 := broadcastInDim S2x768x10x256 ![] bcast_S_S2x768x10x256 main_c_12
  let main_v35 : IVec S2x768x10x256 1 := cmpi .ne main_v33 main_v34
  let main_c_13 : IVec S_ 1 := constantI S_ 1 1#1
  let main_v36 : IVec S_ 1 := (fun x v => Host.reduce IntOp.andi x v reducesTo_S2x768x10x256_S_d0_1_2_3 h_S_) main_v35 main_c_13
  let main_v37 : IVec S_ 1 := andi main_v30 main_v36
  let main_v38 : IVec S2x768x10x512 32 := (extui 32 · natLt_8_32) main_arg4
  let main_c_14 : IVec S_ 32 := constantI S_ 32 127#32
  let main_v39 : IVec S2x768x10x512 32 := broadcastInDim S2x768x10x512 ![] bcast_S_S2x768x10x512 main_c_14
  let main_v40 : IVec S2x768x10x512 32 := andi main_v38 main_v39
  let main_c_15 : IVec S_ 32 := constantI S_ 32 127#32
  let main_v41 : IVec S2x768x10x512 32 := broadcastInDim S2x768x10x512 ![] bcast_S_S2x768x10x512 main_c_15
  let main_v42 : IVec S2x768x10x512 1 := cmpi .ne main_v40 main_v41
  let main_c_16 : IVec S_ 1 := constantI S_ 1 1#1
  let main_v43 : IVec S_ 1 := (fun x v => Host.reduce IntOp.andi x v reducesTo_S2x768x10x512_S_d0_1_2_3 h_S_) main_v42 main_c_16
  let main_v44 : IVec S_ 1 := andi main_v37 main_v43
  let main_v45 : IVec S2x768x10x512 32 := (extui 32 · natLt_8_32) main_arg6
  let main_c_17 : IVec S_ 32 := constantI S_ 32 127#32
  let main_v46 : IVec S2x768x10x512 32 := broadcastInDim S2x768x10x512 ![] bcast_S_S2x768x10x512 main_c_17
  let main_v47 : IVec S2x768x10x512 32 := andi main_v45 main_v46
  let main_c_18 : IVec S_ 32 := constantI S_ 32 124#32
  let main_v48 : IVec S2x768x10x512 32 := broadcastInDim S2x768x10x512 ![] bcast_S_S2x768x10x512 main_c_18
  let main_v49 : IVec S2x768x10x512 1 := cmpi .slt main_v47 main_v48
  let main_c_19 : IVec S_ 1 := constantI S_ 1 1#1
  fn_part3 (F := F) main_v44 main_v49 main_c_19

def fn_part1 {F : FTy → Type} [FloatOps F] (main_arg0 : IVec S2x768x10x256 8) (main_arg1 : IVec S2x768x10x256 8) (main_arg4 : IVec S2x768x10x512 8) (main_arg6 : IVec S2x768x10x512 8) (main_arg8 : FVec F S2x768x10x256 .f32) (main_v13 : IVec S_ 1) (main_v16 : IVec S2x768x10 1) : IVec S_ 1 :=
  let main_c_5 : IVec S_ 1 := constantI S_ 1 1#1
  let main_v17 : IVec S_ 1 := (fun x v => Host.reduce IntOp.andi x v reducesTo_S2x768x10_S_d0_1_2 h_S_) main_v16 main_c_5
  let main_v18 : IVec S_ 1 := andi main_v13 main_v17
  let main_v19 : FVec F S2x768x10x256 .f32 := Host.absf main_arg8
  let main_cst_6 : FVec F S_ .f32 := constant S_ .f32 0x7F800000#32
  let main_v20 : FVec F S2x768x10x256 .f32 := broadcastInDim S2x768x10x256 ![] bcast_S_S2x768x10x256 main_cst_6
  let main_v21 : IVec S2x768x10x256 1 := cmpf .olt main_v19 main_v20
  let main_c_7 : IVec S_ 1 := constantI S_ 1 1#1
  let main_v22 : IVec S_ 1 := (fun x v => Host.reduce IntOp.andi x v reducesTo_S2x768x10x256_S_d0_1_2_3 h_S_) main_v21 main_c_7
  let main_v23 : IVec S_ 1 := andi main_v18 main_v22
  let main_v24 : IVec S2x768x10x256 32 := (extui 32 · natLt_8_32) main_arg0
  let main_c_8 : IVec S_ 32 := constantI S_ 32 127#32
  let main_v25 : IVec S2x768x10x256 32 := broadcastInDim S2x768x10x256 ![] bcast_S_S2x768x10x256 main_c_8
  let main_v26 : IVec S2x768x10x256 32 := andi main_v24 main_v25
  let main_c_9 : IVec S_ 32 := constantI S_ 32 127#32
  let main_v27 : IVec S2x768x10x256 32 := broadcastInDim S2x768x10x256 ![] bcast_S_S2x768x10x256 main_c_9
  let main_v28 : IVec S2x768x10x256 1 := cmpi .ne main_v26 main_v27
  let main_c_10 : IVec S_ 1 := constantI S_ 1 1#1
  let main_v29 : IVec S_ 1 := (fun x v => Host.reduce IntOp.andi x v reducesTo_S2x768x10x256_S_d0_1_2_3 h_S_) main_v28 main_c_10
  let main_v30 : IVec S_ 1 := andi main_v23 main_v29
  let main_v31 : IVec S2x768x10x256 32 := (extui 32 · natLt_8_32) main_arg1
  let main_c_11 : IVec S_ 32 := constantI S_ 32 127#32
  let main_v32 : IVec S2x768x10x256 32 := broadcastInDim S2x768x10x256 ![] bcast_S_S2x768x10x256 main_c_11
  let main_v33 : IVec S2x768x10x256 32 := andi main_v31 main_v32
  fn_part2 (F := F) main_arg4 main_arg6 main_v30 main_v33

def fn {F : FTy → Type} [FloatOps F] (main_arg0 : IVec S2x768x10x256 8) (main_arg1 : IVec S2x768x10x256 8) (main_arg2 : FVec F S2x12x10 .f32) (main_arg3 : FVec F S2x12x10 .f32) (main_arg4 : IVec S2x768x10x512 8) (main_arg5 : FVec F S2x12x10 .f32) (main_arg6 : IVec S2x768x10x512 8) (main_arg7 : FVec F S2x768x10 .f32) (main_arg8 : FVec F S2x768x10x256 .f32) : IVec S_ 1 :=
  let main_v0 : FVec F S2x12x10 .f32 := Host.absf main_arg2
  let main_cst : FVec F S_ .f32 := constant S_ .f32 0x7F800000#32
  let main_v1 : FVec F S2x12x10 .f32 := broadcastInDim S2x12x10 ![] bcast_S_S2x12x10 main_cst
  let main_v2 : IVec S2x12x10 1 := cmpf .olt main_v0 main_v1
  let main_c : IVec S_ 1 := constantI S_ 1 1#1
  let main_v3 : IVec S_ 1 := (fun x v => Host.reduce IntOp.andi x v reducesTo_S2x12x10_S_d0_1_2 h_S_) main_v2 main_c
  let main_v4 : FVec F S2x12x10 .f32 := Host.absf main_arg3
  let main_cst_0 : FVec F S_ .f32 := constant S_ .f32 0x7F800000#32
  let main_v5 : FVec F S2x12x10 .f32 := broadcastInDim S2x12x10 ![] bcast_S_S2x12x10 main_cst_0
  let main_v6 : IVec S2x12x10 1 := cmpf .olt main_v4 main_v5
  let main_c_1 : IVec S_ 1 := constantI S_ 1 1#1
  let main_v7 : IVec S_ 1 := (fun x v => Host.reduce IntOp.andi x v reducesTo_S2x12x10_S_d0_1_2 h_S_) main_v6 main_c_1
  let main_v8 : IVec S_ 1 := andi main_v3 main_v7
  let main_v9 : FVec F S2x12x10 .f32 := Host.absf main_arg5
  let main_cst_2 : FVec F S_ .f32 := constant S_ .f32 0x7F800000#32
  let main_v10 : FVec F S2x12x10 .f32 := broadcastInDim S2x12x10 ![] bcast_S_S2x12x10 main_cst_2
  let main_v11 : IVec S2x12x10 1 := cmpf .olt main_v9 main_v10
  let main_c_3 : IVec S_ 1 := constantI S_ 1 1#1
  let main_v12 : IVec S_ 1 := (fun x v => Host.reduce IntOp.andi x v reducesTo_S2x12x10_S_d0_1_2 h_S_) main_v11 main_c_3
  let main_v13 : IVec S_ 1 := andi main_v8 main_v12
  let main_v14 : FVec F S2x768x10 .f32 := Host.absf main_arg7
  let main_cst_4 : FVec F S_ .f32 := constant S_ .f32 0x7F800000#32
  let main_v15 : FVec F S2x768x10 .f32 := broadcastInDim S2x768x10 ![] bcast_S_S2x768x10 main_cst_4
  let main_v16 : IVec S2x768x10 1 := cmpf .olt main_v14 main_v15
  fn_part1 (F := F) main_arg0 main_arg1 main_arg4 main_arg6 main_arg8 main_v13 main_v16
-- ==== Kernel.lean ====
abbrev S2x768x10x256 : Shape := ⟨4, ![2, 768, 10, 256]⟩
abbrev S2x12x10 : Shape := ⟨3, ![2, 12, 10]⟩
abbrev S2x768x10x512 : Shape := ⟨4, ![2, 768, 10, 512]⟩
abbrev S2x768x10 : Shape := ⟨3, ![2, 768, 10]⟩
abbrev S2x10x768x256 : Shape := ⟨4, ![2, 10, 768, 256]⟩
abbrev S2x10x768x512 : Shape := ⟨4, ![2, 10, 768, 512]⟩
abbrev S10x2x12 : Shape := ⟨3, ![10, 2, 12]⟩
abbrev S10x2x768 : Shape := ⟨3, ![10, 2, 768]⟩
abbrev S1x1x768x256 : Shape := ⟨4, ![1, 1, 768, 256]⟩
abbrev S1x1x768x512 : Shape := ⟨4, ![1, 1, 768, 512]⟩
abbrev S1x2x768 : Shape := ⟨3, ![1, 2, 768]⟩
abbrev S768x256 : Shape := ⟨2, ![768, 256]⟩
abbrev S384x256 : Shape := ⟨2, ![384, 256]⟩
abbrev S256x256 : Shape := ⟨2, ![256, 256]⟩
abbrev S768x768 : Shape := ⟨2, ![768, 768]⟩
abbrev S128x128 : Shape := ⟨2, ![128, 128]⟩
abbrev S1x1x128x256 : Shape := ⟨4, ![1, 1, 128, 256]⟩
abbrev S128x256 : Shape := ⟨2, ![128, 256]⟩
abbrev S1x256 : Shape := ⟨2, ![1, 256]⟩
abbrev S1x1x1 : Shape := ⟨3, ![1, 1, 1]⟩
abbrev S64x256 : Shape := ⟨2, ![64, 256]⟩
abbrev S1x1x768 : Shape := ⟨3, ![1, 1, 768]⟩
abbrev S1x768 : Shape := ⟨2, ![1, 768]⟩
abbrev S1x1x256x512 : Shape := ⟨4, ![1, 1, 256, 512]⟩
abbrev S256x512 : Shape := ⟨2, ![256, 512]⟩
abbrev S1x128 : Shape := ⟨2, ![1, 128]⟩
abbrev S256x768 : Shape := ⟨2, ![256, 768]⟩
abbrev S768x512 : Shape := ⟨2, ![768, 512]⟩
abbrev S1x1x512x512 : Shape := ⟨4, ![1, 1, 512, 512]⟩
abbrev S512x512 : Shape := ⟨2, ![512, 512]⟩

abbrev nBuf : Space → Nat
  | .hbm => 27
  | .vmem => 38
  | .smem => 3
  | _ => 0

abbrev bufTy : (tb : Table) → Fin (tcTables nBuf tb) → BufTy
  | .hbm, ⟨0, _⟩ => ⟨S2x768x10x256, .i8⟩
  | .hbm, ⟨1, _⟩ => ⟨S2x768x10x256, .i8⟩
  | .hbm, ⟨2, _⟩ => ⟨S2x12x10, .f32⟩
  | .hbm, ⟨3, _⟩ => ⟨S2x12x10, .f32⟩
  | .hbm, ⟨4, _⟩ => ⟨S2x768x10x512, .i8⟩
  | .hbm, ⟨5, _⟩ => ⟨S2x12x10, .f32⟩
  | .hbm, ⟨6, _⟩ => ⟨S2x768x10x512, .i8⟩
  | .hbm, ⟨7, _⟩ => ⟨S2x768x10, .f32⟩
  | .hbm, ⟨8, _⟩ => ⟨S2x768x10x256, .f32⟩
  | .hbm, ⟨9, _⟩ => ⟨S2x768x10x256, .fp8e4m3⟩
  | .hbm, ⟨10, _⟩ => ⟨S2x768x10x256, .fp8e4m3⟩
  | .hbm, ⟨11, _⟩ => ⟨S2x768x10x512, .fp8e4m3⟩
  | .hbm, ⟨12, _⟩ => ⟨S2x768x10x512, .fp8e5m2⟩
  | .hbm, ⟨13, _⟩ => ⟨S2x10x768x256, .fp8e4m3⟩
  | .hbm, ⟨14, _⟩ => ⟨S2x10x768x256, .fp8e4m3⟩
  | .hbm, ⟨15, _⟩ => ⟨S2x10x768x512, .fp8e4m3⟩
  | .hbm, ⟨16, _⟩ => ⟨S2x10x768x512, .fp8e5m2⟩
  | .hbm, ⟨17, _⟩ => ⟨S2x10x768x256, .f32⟩
  | .hbm, ⟨18, _⟩ => ⟨S10x2x12, .f32⟩
  | .hbm, ⟨19, _⟩ => ⟨S10x2x12, .f32⟩
  | .hbm, ⟨20, _⟩ => ⟨S10x2x12, .f32⟩
  | .hbm, ⟨21, _⟩ => ⟨S10x2x768, .f32⟩
  | .hbm, ⟨22, _⟩ => ⟨S2x10x768x256, .bf16⟩
  | .hbm, ⟨23, _⟩ => ⟨S2x10x768x256, .bf16⟩
  | .hbm, ⟨24, _⟩ => ⟨S2x10x768x512, .bf16⟩
  | .hbm, ⟨25, _⟩ => ⟨S2x10x768x256, .f32⟩
  | .hbm, ⟨26, _⟩ => ⟨S2x10x768x256, .f32⟩
  | .local _ .vmem, ⟨0, _⟩ => ⟨S1x1x768x256, .fp8e4m3⟩
  | .local _ .vmem, ⟨1, _⟩ => ⟨S1x1x768x256, .fp8e4m3⟩
  | .local _ .vmem, ⟨2, _⟩ => ⟨S1x1x768x256, .fp8e4m3⟩
  | .local _ .vmem, ⟨3, _⟩ => ⟨S1x1x768x256, .fp8e4m3⟩
  | .local _ .vmem, ⟨4, _⟩ => ⟨S1x1x768x512, .fp8e4m3⟩
  | .local _ .vmem, ⟨5, _⟩ => ⟨S1x1x768x512, .fp8e4m3⟩
  | .local _ .vmem, ⟨6, _⟩ => ⟨S1x1x768x512, .fp8e5m2⟩
  | .local _ .vmem, ⟨7, _⟩ => ⟨S1x1x768x512, .fp8e5m2⟩
  | .local _ .vmem, ⟨8, _⟩ => ⟨S1x1x768x256, .f32⟩
  | .local _ .vmem, ⟨9, _⟩ => ⟨S1x1x768x256, .f32⟩
  | .local _ .vmem, ⟨10, _⟩ => ⟨S1x2x768, .f32⟩
  | .local _ .vmem, ⟨11, _⟩ => ⟨S1x2x768, .f32⟩
  | .local _ .vmem, ⟨12, _⟩ => ⟨S1x1x768x256, .bf16⟩
  | .local _ .vmem, ⟨13, _⟩ => ⟨S1x1x768x256, .bf16⟩
  | .local _ .vmem, ⟨14, _⟩ => ⟨S1x1x768x256, .bf16⟩
  | .local _ .vmem, ⟨15, _⟩ => ⟨S1x1x768x256, .bf16⟩
  | .local _ .vmem, ⟨16, _⟩ => ⟨S1x1x768x512, .bf16⟩
  | .local _ .vmem, ⟨17, _⟩ => ⟨S1x1x768x512, .bf16⟩
  | .local _ .vmem, ⟨18, _⟩ => ⟨S1x1x768x256, .f32⟩
  | .local _ .vmem, ⟨19, _⟩ => ⟨S1x1x768x256, .f32⟩
  | .local _ .vmem, ⟨20, _⟩ => ⟨S1x1x768x256, .f32⟩
  | .local _ .vmem, ⟨21, _⟩ => ⟨S1x1x768x256, .f32⟩
  | .local _ .vmem, ⟨22, _⟩ => ⟨S768x256, .bf16⟩
  | .local _ .vmem, ⟨23, _⟩ => ⟨S768x256, .bf16⟩
  | .local _ .vmem, ⟨24, _⟩ => ⟨S384x256, .bf16⟩
  | .local _ .vmem, ⟨25, _⟩ => ⟨S384x256, .bf16⟩
  | .local _ .vmem, ⟨26, _⟩ => ⟨S768x256, .bf16⟩
  | .local _ .vmem, ⟨27, _⟩ => ⟨S768x256, .bf16⟩
  | .local _ .vmem, ⟨28, _⟩ => ⟨S256x256, .bf16⟩
  | .local _ .vmem, ⟨29, _⟩ => ⟨S256x256, .bf16⟩
  | .local _ .vmem, ⟨30, _⟩ => ⟨S768x768, .bf16⟩
  | .local _ .vmem, ⟨31, _⟩ => ⟨S768x768, .bf16⟩
  | .local _ .vmem, ⟨32, _⟩ => ⟨S768x256, .f32⟩
  | .local _ .vmem, ⟨33, _⟩ => ⟨S768x256, .f32⟩
  | .local _ .vmem, ⟨34, _⟩ => ⟨S768x256, .f32⟩
  | .local _ .vmem, ⟨35, _⟩ => ⟨S768x256, .f32⟩
  | .local _ .vmem, ⟨36, _⟩ => ⟨S768x256, .f32⟩
  | .local _ .vmem, ⟨37, _⟩ => ⟨S768x256, .f32⟩
  | .local _ .smem, ⟨0, _⟩ => ⟨S10x2x12, .f32⟩
  | .local _ .smem, ⟨1, _⟩ => ⟨S10x2x12, .f32⟩
  | .local _ .smem, ⟨2, _⟩ => ⟨S10x2x12, .f32⟩
  | _, _ => ⟨S2x768x10x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_scratch15 : Ref sig .tc := ⟨.vmem, 37, rfl⟩
abbrev cc0_stg5_0 : Ref sig .tc := ⟨.smem, 0, rfl⟩
abbrev cc0_stg6_0 : Ref sig .tc := ⟨.smem, 1, rfl⟩
abbrev cc0_stg7_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 10], ![false, false]⟩

def k0_off1 (i : grid0.Coords) : Fin 3 → Nat :=
  let arg1 : BitVec 32 := BitVec.ofNat 32 (i 1).val
  let v42 : Index := Scalar.indexCast arg1
  let arg0 : BitVec 32 := BitVec.ofNat 32 (i 0).val
  let v43 : Index := Scalar.indexCast arg0
  let c0_16 : Index := 0#32
  ![v42.toNat, v43.toNat, 0]
def k0_off2 (i : grid0.Coords) : Fin 3 → Nat :=
  let arg1 : BitVec 32 := BitVec.ofNat 32 (i 1).val
  let v45 : Index := Scalar.indexCast arg1
  let arg0 : BitVec 32 := BitVec.ofNat 32 (i 0).val
  let v46 : Index := Scalar.indexCast arg0
  let c1 : Index := 1#32
  ![v45.toNat, v46.toNat, 1]
def k0_off3 (i : grid0.Coords) : Fin 3 → Nat :=
  let arg1 : BitVec 32 := BitVec.ofNat 32 (i 1).val
  let v122 : Index := Scalar.indexCast arg1
  let arg0 : BitVec 32 := BitVec.ofNat 32 (i 0).val
  let v123 : Index := Scalar.indexCast arg0
  let c2 : Index := 2#32
  ![v122.toNat, v123.toNat, 2]
def k0_off4 (i : grid0.Coords) : Fin 3 → Nat :=
  let arg1 : BitVec 32 := BitVec.ofNat 32 (i 1).val
  let v125 : Index := Scalar.indexCast arg1
  let arg0 : BitVec 32 := BitVec.ofNat 32 (i 0).val
  let v126 : Index := Scalar.indexCast arg0
  let c3 : Index := 3#32
  ![v125.toNat, v126.toNat, 3]
def k0_off5 (i : grid0.Coords) : Fin 3 → Nat :=
  let arg1 : BitVec 32 := BitVec.ofNat 32 (i 1).val
  let v202 : Index := Scalar.indexCast arg1
  let arg0 : BitVec 32 := BitVec.ofNat 32 (i 0).val
  let v203 : Index := Scalar.indexCast arg0
  let c4 : Index := 4#32
  ![v202.toNat, v203.toNat, 4]
def k0_off6 (i : grid0.Coords) : Fin 3 → Nat :=
  let arg1 : BitVec 32 := BitVec.ofNat 32 (i 1).val
  let v205 : Index := Scalar.indexCast arg1
  let arg0 : BitVec 32 := BitVec.ofNat 32 (i 0).val
  let v206 : Index := Scalar.indexCast arg0
  let c5 : Index := 5#32
  ![v205.toNat, v206.toNat, 5]
def k0_off7 (i : grid0.Coords) : Fin 3 → Nat :=
  let arg1 : BitVec 32 := BitVec.ofNat 32 (i 1).val
  let v282 : Index := Scalar.indexCast arg1
  let arg0 : BitVec 32 := BitVec.ofNat 32 (i 0).val
  let v283 : Index := Scalar.indexCast arg0
  let c6 : Index := 6#32
  ![v282.toNat, v283.toNat, 6]
def k0_off8 (i : grid0.Coords) : Fin 3 → Nat :=
  let arg1 : BitVec 32 := BitVec.ofNat 32 (i 1).val
  let v285 : Index := Scalar.indexCast arg1
  let arg0 : BitVec 32 := BitVec.ofNat 32 (i 0).val
  let v286 : Index := Scalar.indexCast arg0
  let c7 : Index := 7#32
  ![v285.toNat, v286.toNat, 7]
def k0_off9 (i : grid0.Coords) : Fin 3 → Nat :=
  let arg1 : BitVec 32 := BitVec.ofNat 32 (i 1).val
  let v362 : Index := Scalar.indexCast arg1
  let arg0 : BitVec 32 := BitVec.ofNat 32 (i 0).val
  let v363 : Index := Scalar.indexCast arg0
  let c8 : Index := 8#32
  ![v362.toNat, v363.toNat, 8]
def k0_off10 (i : grid0.Coords) : Fin 3 → Nat :=
  let arg1 : BitVec 32 := BitVec.ofNat 32 (i 1).val
  let v365 : Index := Scalar.indexCast arg1
  let arg0 : BitVec 32 := BitVec.ofNat 32 (i 0).val
  let v366 : Index := Scalar.indexCast arg0
  let c9 : Index := 9#32
  ![v365.toNat, v366.toNat, 9]
def k0_off11 (i : grid0.Coords) : Fin 3 → Nat :=
  let arg1 : BitVec 32 := BitVec.ofNat 32 (i 1).val
  let v441 : Index := Scalar.indexCast arg1
  let arg0 : BitVec 32 := BitVec.ofNat 32 (i 0).val
  let v442 : Index := Scalar.indexCast arg0
  let c10 : Index := 10#32
  ![v441.toNat, v442.toNat, 10]
def k0_off12 (i : grid0.Coords) : Fin 3 → Nat :=
  let arg1 : BitVec 32 := BitVec.ofNat 32 (i 1).val
  let v444 : Index := Scalar.indexCast arg1
  let arg0 : BitVec 32 := BitVec.ofNat 32 (i 0).val
  let v445 : Index := Scalar.indexCast arg0
  let c11 : Index := 11#32
  ![v444.toNat, v445.toNat, 11]
def k0_off13 (i : grid0.Coords) : Fin 3 → Nat :=
  let c0_258 : Index := 0#32
  let arg0 : BitVec 32 := BitVec.ofNat 32 (i 0).val
  let v646 : Index := Scalar.indexCast arg0
  let c0_259 : Index := 0#32
  ![0, v646.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x768x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x768x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x768x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S10x2x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S10x2x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S10x2x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x768x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x768x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x768x10x256 : Shape := ⟨4, ![2, 768, 10, 256]⟩
abbrev S2x12x10 : Shape := ⟨3, ![2, 12, 10]⟩
abbrev S2x768x10x512 : Shape := ⟨4, ![2, 768, 10, 512]⟩
abbrev S2x768x10 : Shape := ⟨3, ![2, 768, 10]⟩
abbrev S2x12x64x10x256 : Shape := ⟨5, ![2, 12, 64, 10, 256]⟩
abbrev S2x12x64x10x512 : Shape := ⟨5, ![2, 12, 64, 10, 512]⟩
abbrev S2x12x64x10 : Shape := ⟨4, ![2, 12, 64, 10]⟩
abbrev S2x12x1x10x1 : Shape := ⟨5, ![2, 12, 1, 10, 1]⟩
abbrev S_ : Shape := ⟨0, ![]⟩
abbrev S2x12x1x10x256 : Shape := ⟨5, ![2, 12, 1, 10, 256]⟩
abbrev S2x12x10x256 : Shape := ⟨4, ![2, 12, 10, 256]⟩
abbrev S2x12x64x10x1 : Shape := ⟨5, ![2, 12, 64, 10, 1]⟩
abbrev S64x64 : Shape := ⟨2, ![64, 64]⟩
abbrev S2x12x10x64x64 : Shape := ⟨5, ![2, 12, 10, 64, 64]⟩
abbrev S2x12x10x64 : Shape := ⟨4, ![2, 12, 10, 64]⟩
abbrev S2x12x10x64x1 : Shape := ⟨5, ![2, 12, 10, 64, 1]⟩
abbrev S2x12x10x1x1 : Shape := ⟨5, ![2, 12, 10, 1, 1]⟩
abbrev S12x12 : Shape := ⟨2, ![12, 12]⟩
abbrev S1x12x12x1x1 : Shape := ⟨5, ![1, 12, 12, 1, 1]⟩
abbrev S2x1x12x10x256 : Shape := ⟨5, ![2, 1, 12, 10, 256]⟩
abbrev S2x12x12x10x256 : Shape := ⟨5, ![2, 12, 12, 10, 256]⟩
abbrev S2x12x10x256x512 : Shape := ⟨5, ![2, 12, 10, 256, 512]⟩
abbrev S2x10x256x512x12 : Shape := ⟨5, ![2, 10, 256, 512, 12]⟩
abbrev S2x12x10x256x64 : Shape := ⟨5, ![2, 12, 10, 256, 64]⟩
abbrev S2x12x10x512x64 : Shape := ⟨5, ![2, 12, 10, 512, 64]⟩
abbrev S2x11x10x256 : Shape := ⟨4, ![2, 11, 10, 256]⟩
abbrev S2x10x768x256 : Shape := ⟨4, ![2, 10, 768, 256]⟩
abbrev S2x10x768x512 : Shape := ⟨4, ![2, 10, 768, 512]⟩

abbrev nBuf : Space → Nat
  | .hbm => 182
  | .vmem => 8
  | .smem => 0
  | _ => 0

abbrev hbmTy0_0 (i : Nat) : BufTy := match i % 128 with
  | 0 => ⟨S2x768x10x256, .i8⟩
  | 1 => ⟨S2x768x10x256, .i8⟩
  | 2 => ⟨S2x12x10, .f32⟩
  | 3 => ⟨S2x12x10, .f32⟩
  | 4 => ⟨S2x768x10x512, .i8⟩
  | 5 => ⟨S2x12x10, .f32⟩
  | 6 => ⟨S2x768x10x512, .i8⟩
  | 7 => ⟨S2x768x10, .f32⟩
  | 8 => ⟨S2x768x10x256, .f32⟩
  | 9 => ⟨S2x768x10x256, .fp8e4m3⟩
  | 10 => ⟨S2x768x10x256, .fp8e4m3⟩
  | 11 => ⟨S2x768x10x512, .fp8e4m3⟩
  | 12 => ⟨S2x768x10x512, .fp8e5m2⟩
  | 13 => ⟨S2x768x10x256, .f32⟩
  | 14 => ⟨S2x768x10x256, .f32⟩
  | 15 => ⟨S2x768x10x512, .bf16⟩
  | 16 => ⟨S2x768x10x512, .bf16⟩
  | 17 => ⟨S2x12x64x10x256, .f32⟩
  | 18 => ⟨S2x12x64x10x256, .f32⟩
  | 19 => ⟨S2x12x64x10x512, .bf16⟩
  | 20 => ⟨S2x12x64x10x512, .bf16⟩
  | 21 => ⟨S2x12x64x10x256, .f32⟩
  | 22 => ⟨S2x12x64x10, .f32⟩
  | 23 => ⟨S2x12x1x10x1, .f32⟩
  | 24 => ⟨S2x12x64x10x256, .f32⟩
  | 25 => ⟨S2x12x64x10x256, .f32⟩
  | 26 => ⟨S2x12x1x10x1, .f32⟩
  | 27 => ⟨S2x12x64x10x256, .f32⟩
  | 28 => ⟨S2x12x64x10x256, .f32⟩
  | 29 => ⟨S_, .f32⟩
  | 30 => ⟨S_, .f32⟩
  | 31 => ⟨S2x12x64x10x256, .f32⟩
  | 32 => ⟨S2x12x1x10x256, .f32⟩
  | 33 => ⟨S2x12x10x256, .f32⟩
  | 34 => ⟨S2x12x64x10x256, .f32⟩
  | 35 => ⟨S2x12x64x10x256, .f32⟩
  | 36 => ⟨S2x12x64x10x256, .f32⟩
  | 37 => ⟨S2x12x1x10x256, .f32⟩
  | 38 => ⟨S2x12x64x10x256, .f32⟩
  | 39 => ⟨S2x12x64x10x256, .f32⟩
  | 40 => ⟨S2x12x64x10x256, .f32⟩
  | 41 => ⟨S_, .f32⟩
  | 42 => ⟨S2x12x64x10x256, .f32⟩
  | 43 => ⟨S2x12x64x10x256, .f32⟩
  | 44 => ⟨S2x12x64x10x256, .f32⟩
  | 45 => ⟨S2x12x64x10x256, .bf16⟩
  | 46 => ⟨S2x12x64x10x256, .f32⟩
  | 47 => ⟨S2x12x64x10x256, .bf16⟩
  | 48 => ⟨S2x12x64x10x256, .f32⟩
  | 49 => ⟨S2x12x64x10x256, .bf16⟩
  | 50 => ⟨S2x12x64x10, .bf16⟩
  | 51 => ⟨S2x12x64x10x1, .bf16⟩
  | 52 => ⟨S2x12x64x10x512, .bf16⟩
  | 53 => ⟨S2x12x64x10x512, .bf16⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S2x12x10x64x64, .f32⟩
  | 66 => ⟨S2x12x10x64, .f32⟩
  | 67 => ⟨S2x12x10x64x1, .f32⟩
  | 68 => ⟨S2x12x10x1x1, .f32⟩
  | 69 => ⟨S2x12x10x64x1, .f32⟩
  | 70 => ⟨S2x12x10x64x1, .f32⟩
  | 71 => ⟨S2x12x10x64x64, .f32⟩
  | 72 => ⟨S2x12x10x64x64, .f32⟩
  | 73 => ⟨S_, .f32⟩
  | 74 => ⟨S_, .f32⟩
  | 75 => ⟨S2x12x10x64x64, .i1⟩
  | 76 => ⟨S2x12x10x64x64, .f32⟩
  | 77 => ⟨S2x12x10x64x64, .f32⟩
  | 78 => ⟨S2x12x10x64x64, .bf16⟩
  | 79 => ⟨S2x12x10x64x64, .f32⟩
  | 80 => ⟨S_, .f32⟩
  | 81 => ⟨S_, .f32⟩
  | 82 => ⟨S2x12x10x64x64, .i1⟩
  | 83 => ⟨S2x12x10x64x64, .f32⟩
  | 84 => ⟨S2x12x10x64x64, .f32⟩
  | 85 => ⟨S2x12x10x64x64, .bf16⟩
  | 86 => ⟨S_, .f32⟩
  | 87 => ⟨S_, .f32⟩
  | 88 => ⟨S2x12x10x256, .f32⟩
  | 89 => ⟨S_, .i1⟩
  | 90 => ⟨S12x12, .i1⟩
  | 91 => ⟨S12x12, .i32⟩
  | 92 => ⟨S_, .i32⟩
  | 93 => ⟨S12x12, .i32⟩
  | 94 => ⟨S12x12, .i32⟩
  | 95 => ⟨S12x12, .i32⟩
  | 96 => ⟨S12x12, .i1⟩
  | 97 => ⟨S_, .i1⟩
  | 98 => ⟨S12x12, .i1⟩
  | 99 => ⟨S12x12, .i1⟩
  | 100 => ⟨S1x12x12x1x1, .i1⟩
  | 101 => ⟨S2x12x10x256, .f32⟩
  | 102 => ⟨S2x12x1x10x256, .f32⟩
  | 103 => ⟨S2x1x12x10x256, .f32⟩
  | 104 => ⟨S2x12x12x10x256, .f32⟩
  | 105 => ⟨S2x12x12x10x256, .f32⟩
  | 106 => ⟨S2x12x12x10x256, .f32⟩
  | 107 => ⟨S2x12x12x10x256, .f32⟩
  | 108 => ⟨S_, .f32⟩
  | 109 => ⟨S_, .f32⟩
  | 110 => ⟨S2x12x12x10x256, .i1⟩
  | 111 => ⟨S2x12x12x10x256, .f32⟩
  | 112 => ⟨S2x12x12x10x256, .f32⟩
  | 113 => ⟨S2x12x10x256x512, .f32⟩
  | 114 => ⟨S2x12x10x1x1, .f32⟩
  | 115 => ⟨S2x12x10x256x512, .f32⟩
  | 116 => ⟨S2x12x10x256x512, .f32⟩
  | 117 => ⟨S2x12x10x256x512, .f32⟩
  | 118 => ⟨S2x10x256x512x12, .f32⟩
  | 119 => ⟨S2x12x10x256x512, .f32⟩
  | 120 => ⟨S2x12x10x256x512, .bf16⟩
  | 121 => ⟨S2x10x256x512x12, .f32⟩
  | 122 => ⟨S2x12x10x256x512, .f32⟩
  | 123 => ⟨S2x12x10x256x512, .bf16⟩
  | 124 => ⟨S2x12x10x256x64, .f32⟩
  | 125 => ⟨S2x12x64x10x256, .f32⟩
  | 126 => ⟨S2x12x1x10x1, .f32⟩
  | 127 => ⟨S2x12x10x256x64, .f32⟩
  | _ => ⟨S2x768x10x256, .i8⟩

abbrev hbmTy0_1 (i : Nat) : BufTy := match i % 128 with
  | 0 => ⟨S2x12x64x10x256, .f32⟩
  | 1 => ⟨S2x12x64x10x256, .f32⟩
  | 2 => ⟨S2x12x64x10x256, .f32⟩
  | 3 => ⟨S2x12x10x512x64, .f32⟩
  | 4 => ⟨S2x12x64x10x512, .f32⟩
  | 5 => ⟨S_, .f32⟩
  | 6 => ⟨S2x12x64x10x256, .f32⟩
  | 7 => ⟨S2x12x64x10x256, .f32⟩
  | 8 => ⟨S2x12x64x10x1, .f32⟩
  | 9 => ⟨S2x12x64x10x256, .f32⟩
  | 10 => ⟨S2x12x64x10x256, .f32⟩
  | 11 => ⟨S2x12x10x256x64, .f32⟩
  | 12 => ⟨S2x12x64x10x256, .f32⟩
  | 13 => ⟨S2x12x64x10x256, .f32⟩
  | 14 => ⟨S2x12x64x10x256, .f32⟩
  | 15 => ⟨S2x12x64x10x256, .f32⟩
  | 16 => ⟨S2x12x10x256x64, .f32⟩
  | 17 => ⟨S2x12x64x10x256, .f32⟩
  | 18 => ⟨S2x12x64x10x256, .f32⟩
  | 19 => ⟨S2x12x64x10x256, .f32⟩
  | 20 => ⟨S2x12x10x512x64, .f32⟩
  | 21 => ⟨S2x12x64x10x512, .f32⟩
  | 22 => ⟨S2x12x64x10x512, .f32⟩
  | 23 => ⟨S2x12x64x10x256, .f32⟩
  | 24 => ⟨S2x12x64x10x256, .f32⟩
  | 25 => ⟨S2x12x64x10x256, .f32⟩
  | 26 => ⟨S_, .f32⟩
  | 27 => ⟨S_, .f32⟩
  | 28 => ⟨S2x12x64x10x256, .f32⟩
  | 29 => ⟨S2x12x1x10x256, .f32⟩
  | 30 => ⟨S2x12x10x256, .f32⟩
  | 31 => ⟨S2x11x10x256, .f32⟩
  | 32 => ⟨S_, .f32⟩
  | 33 => ⟨S_, .f32⟩
  | 34 => ⟨S2x11x10x256, .f32⟩
  | 35 => ⟨S_, .i32⟩
  | 36 => ⟨S_, .f32⟩
  | 37 => ⟨S2x12x10x256, .f32⟩
  | 38 => ⟨S2x768x10x256, .f32⟩
  | 39 => ⟨S2x12x1x10x256, .f32⟩
  | 40 => ⟨S2x12x64x10x256, .f32⟩
  | 41 => ⟨S2x12x64x10x256, .f32⟩
  | 42 => ⟨S2x768x10x256, .f32⟩
  | 43 => ⟨S2x12x64x10x256, .bf16⟩
  | 44 => ⟨S2x768x10x256, .bf16⟩
  | 45 => ⟨S2x12x64x10x256, .bf16⟩
  | 46 => ⟨S2x768x10x256, .bf16⟩
  | 47 => ⟨S2x12x64x10x512, .bf16⟩
  | 48 => ⟨S2x768x10x512, .bf16⟩
  | 49 => ⟨S2x10x768x256, .bf16⟩
  | 50 => ⟨S2x10x768x256, .bf16⟩
  | 51 => ⟨S2x10x768x512, .bf16⟩
  | 52 => ⟨S2x10x768x256, .f32⟩
  | 53 => ⟨S2x10x768x256, .f32⟩
  | _ => ⟨S2x768x10x256, .i8⟩

abbrev hbmTy (i : Nat) : BufTy := match i / 128 with
  | 0 => hbmTy0_0 i
  | 1 => hbmTy0_1 i
  | _ => ⟨S2x768x10x256, .i8⟩

abbrev bufTy : (tb : Table) → Fin (tcTables nBuf tb) → BufTy
  | .hbm, ⟨i, _⟩ => hbmTy i
  | .local _ .vmem, ⟨0, _⟩ => ⟨S2x768x10x256, .fp8e4m3⟩
  | .local _ .vmem, ⟨1, _⟩ => ⟨S2x768x10x256, .fp8e4m3⟩
  | .local _ .vmem, ⟨2, _⟩ => ⟨S2x768x10x512, .fp8e4m3⟩
  | .local _ .vmem, ⟨3, _⟩ => ⟨S2x768x10x512, .fp8e5m2⟩
  | .local _ .vmem, ⟨4, _⟩ => ⟨S2x768x10x256, .f32⟩
  | .local _ .vmem, ⟨5, _⟩ => ⟨S2x768x10x256, .f32⟩
  | .local _ .vmem, ⟨6, _⟩ => ⟨S2x768x10x512, .bf16⟩
  | .local _ .vmem, ⟨7, _⟩ => ⟨S2x768x10x512, .bf16⟩
  | _, _ => ⟨S2x768x10x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_0 : Ref sig .tc := ⟨.hbm, 62, rfl⟩
abbrev main_call1_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_0 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_1 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v52 : Ref sig .tc := ⟨.hbm, 84, rfl⟩
abbrev main_v53 : Ref sig .tc := ⟨.hbm, 85, rfl⟩
abbrev main_call4_cst : Ref sig .tc := ⟨.hbm, 86, rfl⟩
abbrev main_call4_v0 : Ref sig .tc := ⟨.hbm, 87, rfl⟩
abbrev main_v54 : Ref sig .tc := ⟨.hbm, 88, rfl⟩
abbrev main_c_2 : Ref sig .tc := ⟨.hbm, 89, rfl⟩
abbrev main_v55 : Ref sig .tc := ⟨.hbm, 90, rfl⟩
abbrev main_call5_v0 : Ref sig .tc := ⟨.hbm, 91, rfl⟩
abbrev main_call5_c : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_c_0 : Ref sig .tc := ⟨.hbm, 97, rfl⟩
abbrev main_call5_v5 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_3 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_4 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_call7_cst : Ref sig .tc := ⟨.hbm, 154, rfl⟩
abbrev main_call7_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_call8_cst : Ref sig .tc := ⟨.hbm, 160, rfl⟩
abbrev main_call8_v0 : Ref sig .tc := ⟨.hbm, 161, rfl⟩
abbrev main_v110 : Ref sig .tc := ⟨.hbm, 162, rfl⟩
abbrev main_c_5 : Ref sig .tc := ⟨.hbm, 163, rfl⟩
abbrev main_call9_v0 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x768x10x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x10x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x10x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x10x512 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x10x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768x10x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768x10x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RealVec.lean ====
/-
  Vectors of real numbers at the ideal values. `V2 φ f` is the rank-2 vector of format `φ` whose element at row `i` and
  column `j` is the real number `f i j`; `V4` and `V3` are the same with leading unit axes. Each operation of the kernel
  applied to such vectors is again such a vector, so a payload is evaluated by rewriting, and two vectors are compared
  by comparing real functions of natural numbers.
-/
module

public import proofs.«01_k».proof.Proof.Gen.KernelIdeal.Value
public import Idealize.ShloMosaic.Lib.ValueIdx
public import Idealize.ShloMosaic.Lib.IdealHost
public import Idealize.ShloMosaic.PureOps.Ideal.Laws

@[expose] public section

noncomputable section

namespace Cert.RV

open Idealize.ShloMosaic Idealize.ShloMosaic.ValueIdx Idealize.SL.Sem
open scoped BigOperators

/-- A rank-2 vector of reals. -/
def V2 {a b : ℕ} (φ : FTy) (f : ℕ → ℕ → ℝ) : FVec Ideal ⟨2, ![a, b]⟩ φ :=
  fun j => ((f (j 0).val (j 1).val : ℝ) : EReal)

/-- A rank-3 vector of reals with a leading unit axis. -/
def V3 {a b : ℕ} (φ : FTy) (f : ℕ → ℕ → ℝ) : FVec Ideal ⟨3, ![1, a, b]⟩ φ :=
  fun j => ((f (j 1).val (j 2).val : ℝ) : EReal)

/-- A rank-4 vector of reals with two leading unit axes. -/
def V4 {a b : ℕ} (φ : FTy) (f : ℕ → ℕ → ℝ) : FVec Ideal ⟨4, ![1, 1, a, b]⟩ φ :=
  fun j => ((f (j 2).val (j 3).val : ℝ) : EReal)

/-- One real number at a float format. -/
def R0 (φ : FTy) (x : ℝ) : Ideal φ := ((x : ℝ) : EReal)

/-- A rank-2 vector of words given by natural numbers. -/
def I2 {a b : ℕ} (f : ℕ → ℕ → ℕ) : IVec ⟨2, ![a, b]⟩ 32 := fun j => BitVec.ofNat 32 (f (j 0).val (j 1).val)

open Classical in
/-- A rank-2 mask given by a proposition. -/
def M2 {a b : ℕ} (p : ℕ → ℕ → Prop) : IVec ⟨2, ![a, b]⟩ 1 := fun j => if p (j 0).val (j 1).val then 1#1 else 0#1

open Classical in
/-- A choice between two real numbers. -/
def sel (p : Prop) (x y : ℝ) : ℝ := if p then x else y

/-- `sel` is the conditional, for any way of deciding its condition. -/
theorem sel_eq (p : Prop) [Decidable p] (x y : ℝ) : sel p x y = if p then x else y := by
  unfold sel
  split_ifs <;> rfl

/-- Two real vectors are equal when the functions agree inside the shape. -/
theorem V2_congr {a b : ℕ} {φ : FTy} {f g : ℕ → ℕ → ℝ} (h : ∀ i < a, ∀ j < b, f i j = g i j) :
    (V2 φ f : FVec Ideal ⟨2, ![a, b]⟩ φ) = V2 φ g :=
  funext fun j => congrArg _ (h _ (j 0).isLt _ (j 1).isLt)

/-- Two blocks of real numbers are equal when the functions agree inside the block. -/
theorem V4_congr {a b : ℕ} {φ : FTy} {f g : ℕ → ℕ → ℝ} (h : ∀ i < a, ∀ j < b, f i j = g i j) :
    (V4 φ f : FVec Ideal ⟨4, ![1, 1, a, b]⟩ φ) = V4 φ g :=
  funext fun j => congrArg _ (h _ (j 2).isLt _ (j 3).isLt)

section Ops
variable {a b : ℕ} {φ ψ : FTy} (f g : ℕ → ℕ → ℝ)

/-- A product of two blocks of real numbers is taken element by element. -/
theorem v_mulf : (mulf (V2 φ f) (V2 φ g) : FVec Ideal ⟨2, ![a, b]⟩ φ) = V2 φ fun i j => f i j * g i j :=
  funext fun _ => (EReal.coe_mul _ _).symm

/-- A sum of two blocks of real numbers is taken element by element. -/
theorem v_addf : (addf (V2 φ f) (V2 φ g) : FVec Ideal ⟨2, ![a, b]⟩ φ) = V2 φ fun i j => f i j + g i j :=
  funext fun _ => (EReal.coe_add _ _).symm

/-- A difference of two blocks of real numbers is taken element by element. -/
theorem v_subf : (subf (V2 φ f) (V2 φ g) : FVec Ideal ⟨2, ![a, b]⟩ φ) = V2 φ fun i j => f i j - g i j :=
  funext fun _ => (EReal.coe_sub _ _).symm

/-- Two to the power `x` is the exponential of `x · log 2`. -/
theorem v_exp2 : (exp2 (V2 φ f) : FVec Ideal ⟨2, ![a, b]⟩ φ) = V2 φ fun i j => Real.exp (f i j * Real.log 2) :=
  funext fun _ =>
    congrArg Real.toEReal ((Real.rpow_def_of_pos (two_pos : (0 : ℝ) < 2) (f _ _)).trans (congrArg Real.exp (mul_comm _ _)))

/-- Narrowing a block of real numbers leaves the numbers. -/
theorem v_truncf (h : ψ.bits < φ.bits) : (truncf ψ (V2 φ f) h : FVec Ideal ⟨2, ![a, b]⟩ ψ) = V2 ψ f := rfl

/-- Widening a block of real numbers leaves the numbers. -/
theorem v_extf (h : φ.bits < ψ.bits) : (extf ψ (V2 φ f) h : FVec Ideal ⟨2, ![a, b]⟩ ψ) = V2 ψ f := rfl

/-- The constant block of the zero pattern holds zeros. -/
theorem v_const : (constant ⟨2, ![a, b]⟩ .f32 0x00000000#32 : FVec Ideal ⟨2, ![a, b]⟩ .f32) = V2 .f32 fun _ _ => 0 :=
  funext fun _ => Ideal.ofBits_zero_f32.trans EReal.coe_zero.symm

/-- The zero pattern of float32 is the number zero. -/
theorem v_zero : (Scalar.ofBits .f32 0x00000000#32 : Ideal .f32) = R0 .f32 0 :=
  Ideal.ofBits_zero_f32.trans EReal.coe_zero.symm

/-- The zero pattern of bfloat16 is the number zero. -/
theorem v_zero_bf16 : (Scalar.ofBits .bf16 0x0000#16 : Ideal .bf16) = R0 .bf16 0 :=
  Ideal.ofBits_zero_bf16.trans EReal.coe_zero.symm

/-- The pattern of the scale is the number one sixteenth. -/
theorem v_sixteenth : (Scalar.ofBits .f32 0x3D800000#32 : Ideal .f32) = R0 .f32 (1 / 16) := by
  show Ideal.ofBits .f32 0x3D800000#32 = (((1 / 16 : ℝ)) : EReal)
  simp [Ideal.ofBits, Ideal.ieee, -EReal.coe_mul]
  norm_num

/-- A broadcast number fills the block. -/
theorem v_broadcast (x : ℝ) : (broadcast ⟨2, ![a, b]⟩ (R0 φ x) : FVec Ideal ⟨2, ![a, b]⟩ φ) = V2 φ fun _ _ => x := rfl

/-- A cast of a block to its own shape is the block. -/
theorem v_self (h : (⟨2, ![a, b]⟩ : Shape).ShapeCasts ⟨2, ![a, b]⟩) :
    (shapeCast ⟨2, ![a, b]⟩ (V2 φ f) h : FVec Ideal ⟨2, ![a, b]⟩ φ) = V2 φ f := shapeCast_self _ _

/-- A block read with two leading axes of length one, as a matrix. -/
theorem v_drop (h : (⟨4, ![1, 1, a, b]⟩ : Shape).ShapeCasts ⟨2, ![a, b]⟩) :
    (shapeCast ⟨2, ![a, b]⟩ (V4 φ f) h : FVec Ideal ⟨2, ![a, b]⟩ φ) = V2 φ f := by
  funext j
  refine (shapeCast_apply (V4 φ f) h j (ix4 (0 : Fin 1) (0 : Fin 1) (j 0) (j 1)) ?_).trans ?_
  · show (Shape.rowMajorPi ![1, 1, a, b] _).val = (Shape.rowMajorPi ![a, b] _).val
    rw [Shape.rowMajorPi_succ_val, Shape.rowMajorPi_succ_val]
    show 0 * _ + (0 * _ + (Shape.rowMajorPi ![a, b] _).val) = _
    simp only [zero_mul, zero_add]
    congr 2
    funext x
    fin_cases x <;> rfl
  · rfl

/-- A block read with one leading axis of length one, as a matrix. -/
theorem v_drop3 (h : (⟨3, ![1, a, b]⟩ : Shape).ShapeCasts ⟨2, ![a, b]⟩) :
    (shapeCast ⟨2, ![a, b]⟩ (V3 φ f) h : FVec Ideal ⟨2, ![a, b]⟩ φ) = V2 φ f := by
  funext j
  exact shapeCast_dropUnit_apply ![a, b] _ _ j

/-- A matrix given two leading axes of length one. -/
theorem v_lift (h : (⟨2, ![a, b]⟩ : Shape).ShapeCasts ⟨4, ![1, 1, a, b]⟩) :
    (shapeCast ⟨4, ![1, 1, a, b]⟩ (V2 φ f) h : FVec Ideal ⟨4, ![1, 1, a, b]⟩ φ) = V4 φ f := by
  funext j
  refine (shapeCast_apply (V2 φ f) h j (ix2 (j 2) (j 3)) ?_).trans ?_
  · show (Shape.rowMajorPi ![a, b] _).val = (Shape.rowMajorPi ![1, 1, a, b] j).val
    have h0 : (j 0).val = 0 := by have := (j 0).isLt; simp at this; omega
    have h1 : (j 1).val = 0 := by have := (j 1).isLt; simp at this; omega
    refine Eq.symm ?_
    rw [Shape.rowMajorPi_succ_val, Shape.rowMajorPi_succ_val]
    show (j 0).val * _ + ((j 1).val * _ + (Shape.rowMajorPi ![a, b] _).val) = _
    rw [h0, h1]
    simp only [zero_mul, zero_add]
    congr 2
    funext x
    fin_cases x <;> rfl
  · rfl

/-- A slice of a matrix reads it at shifted indices. -/
theorem v_slice {a' b' : ℕ} (r c : ℕ) (h : (⟨2, ![a, b]⟩ : Shape).Slices ![r, c] ⟨2, ![a', b']⟩) :
    (extractStridedSlice ⟨2, ![a', b']⟩ ![r, c] (V2 φ f) h : FVec Ideal ⟨2, ![a', b']⟩ φ)
      = V2 φ fun i j => f (r + i) (c + j) := rfl

/-- A row repeated over all rows. -/
theorem v_row (ha : a ≠ 1) (hb : b ≠ 1) (h : (⟨2, ![1, b]⟩ : Shape).Broadcasts ⟨2, ![a, b]⟩) :
    (broadcastTo ⟨2, ![a, b]⟩ (V2 φ f) h : FVec Ideal ⟨2, ![a, b]⟩ φ) = V2 φ fun _ j => f 0 j := by
  funext j
  refine (broadcastTo_apply (V2 φ f) h j (ix2 (0 : Fin 1) (j 1)) ?_).trans ?_
  · intro x
    fin_cases x
    · rfl
    · show (j 1).val = if b = 1 then 0 else (j 1).val
      rw [if_neg hb]
  · rfl

/-- Two matrices one above the other: a row below the first height reads the first, another the second. -/
theorem v_concat {a₁ a₂ : ℕ} (h : Shape.Concatenates [(⟨2, ![a₁, b]⟩ : Shape), ⟨2, ![a₂, b]⟩] ⟨2, ![a, b]⟩ 0) :
    (concatenate ⟨2, ![a, b]⟩ 0 [⟨⟨2, ![a₁, b]⟩, V2 φ f⟩, ⟨⟨2, ![a₂, b]⟩, V2 φ g⟩] h : FVec Ideal ⟨2, ![a, b]⟩ φ)
      = V2 φ fun i j => if i < a₁ then f i j else g (i - a₁) j := by
  funext j
  have hs : a₁ + a₂ = a := by
    have := h.2
    simpa using this
  by_cases hj : (j 0).val < a₁
  · rw [concatenate_pair_apply_left 0 (V2 φ f) (V2 φ g) h j rfl (ix2 (⟨(j 0).val, hj⟩ : Fin a₁) (j 1))
      (by intro x; fin_cases x <;> rfl)]
    show _ = (((if (j 0).val < a₁ then _ else _ : ℝ)) : EReal)
    rw [if_pos hj]; rfl
  · have hj2 : (j 0).val - a₁ < a₂ := by have := (j 0).isLt; simp at this; omega
    rw [concatenate_pair_apply_right 0 (V2 φ f) (V2 φ g) h j rfl rfl (ix2 (⟨(j 0).val - a₁, hj2⟩ : Fin a₂) (j 1))
      (by intro x hx; fin_cases x; · exact absurd rfl hx
          · rfl) (by show (j 0).val - a₁ + a₁ = _; omega)]
    show _ = (((if (j 0).val < a₁ then _ else _ : ℝ)) : EReal)
    rw [if_neg hj]; rfl

/-- The row numbers. -/
theorem v_iota0 (h : (⟨2, ![a, b]⟩ : Shape).Iotas .tc 32 [0]) : iota .tc ⟨2, ![a, b]⟩ 32 [0] h = I2 fun i _ => i :=
  funext fun _ => iota_single_apply _ _ _ _ _ _

/-- The column numbers. -/
theorem v_iota1 (h : (⟨2, ![a, b]⟩ : Shape).Iotas .tc 32 [1]) : iota .tc ⟨2, ![a, b]⟩ 32 [1] h = I2 fun _ j => j :=
  funext fun _ => iota_single_apply _ _ _ _ _ _

/-- A constant added to a matrix of small integers. -/
theorem v_addi (p : ℕ → ℕ → ℕ) (c : ℕ) :
    (addi (I2 p) (broadcast ⟨2, ![a, b]⟩ (BitVec.ofNat 32 c)) : IVec ⟨2, ![a, b]⟩ 32) = I2 fun i j => p i j + c :=
  funext fun _ => (BitVec.ofNat_add _ _).symm

/-- On small integers the signed comparison of the words is the comparison of the numbers. -/
theorem sle_ofNat {m n : ℕ} (hm : m < 4096) (hn : n < 4096) :
    (BitVec.ofNat 32 m).sle (BitVec.ofNat 32 n) = decide (m ≤ n) := by
  rw [BitVec.sle_eq_decide, BitVec.toInt_eq_toNat_of_lt, BitVec.toInt_eq_toNat_of_lt] <;>
    simp only [BitVec.toNat_ofNat] <;> rw [Nat.mod_eq_of_lt (by omega)]
  · rw [Nat.mod_eq_of_lt (by omega)]; simp
  · omega
  · omega

/-- The comparison "at least" of two matrices of small integers. -/
theorem v_sge (p q : ℕ → ℕ → ℕ) (hp : ∀ i < a, ∀ j < b, p i j < 4096) (hq : ∀ i < a, ∀ j < b, q i j < 4096) :
    (cmpi .sge (I2 p) (I2 q) : IVec ⟨2, ![a, b]⟩ 1) = M2 fun i j => q i j ≤ p i j := by
  funext j
  have := sle_ofNat (hq _ (j 0).isLt _ (j 1).isLt) (hp _ (j 0).isLt _ (j 1).isLt)
  show (BitVec.ofBool ((BitVec.ofNat 32 _).sle (BitVec.ofNat 32 _))) = _
  rw [this]
  unfold M2
  by_cases h : q (j 0).val (j 1).val ≤ p (j 0).val (j 1).val
  · simp [h]
  · simp [h]

/-- The comparison "at most" of two matrices of small integers. -/
theorem v_sle (p q : ℕ → ℕ → ℕ) (hp : ∀ i < a, ∀ j < b, p i j < 4096) (hq : ∀ i < a, ∀ j < b, q i j < 4096) :
    (cmpi .sle (I2 p) (I2 q) : IVec ⟨2, ![a, b]⟩ 1) = M2 fun i j => p i j ≤ q i j := by
  funext j
  have := sle_ofNat (hp _ (j 0).isLt _ (j 1).isLt) (hq _ (j 0).isLt _ (j 1).isLt)
  show (BitVec.ofBool ((BitVec.ofNat 32 _).sle (BitVec.ofNat 32 _))) = _
  rw [this]
  unfold M2
  by_cases h : p (j 0).val (j 1).val ≤ q (j 0).val (j 1).val
  · simp [h]
  · simp [h]

open Classical in
/-- A choice between two matrices by a mask. -/
theorem v_select (p : ℕ → ℕ → Prop) :
    (select (M2 p) (V2 φ f) (V2 φ g) : FVec Ideal ⟨2, ![a, b]⟩ φ) = V2 φ fun i j => sel (p i j) (f i j) (g i j) := by
  funext j
  show Scalar.select (if p (j 0).val (j 1).val then 1#1 else 0#1) _ _ = _
  unfold V2 sel
  by_cases h : p (j 0).val (j 1).val
  · simp only [if_pos h]; rfl
  · simp only [if_neg h]; rfl

open Classical in
/-- A mask as a float: one where it holds, zero elsewhere. -/
theorem v_mask (p : ℕ → ℕ → Prop) (h : 1 < 32) :
    (sitofp .f32 (extui 32 (M2 p) h) : FVec Ideal ⟨2, ![a, b]⟩ .f32) = V2 .f32 fun i j => sel (p i j) 1 0 := by
  funext j
  show ((((if p (j 0).val (j 1).val then 1#1 else 0#1 : BitVec 1).setWidth 32).toInt : ℝ) : EReal) = _
  unfold V2 sel
  by_cases h : p (j 0).val (j 1).val
  · simp [h]
  · simp [h]

/-- A finite sum of real numbers is the same sum among the extended reals. -/
theorem coe_sum {ι : Type*} (s : Finset ι) (u : ι → ℝ) : ((∑ k ∈ s, u k : ℝ) : EReal) = ∑ k ∈ s, (u k : EReal) := by
  classical
  induction s using Finset.induction_on with
  | empty => simp
  | insert x s hx ih => rw [Finset.sum_insert hx, Finset.sum_insert hx, EReal.coe_add, ih]

/-- A product of matrices. -/
theorem v_mm {m k n : ℕ} {φ₁ φ₂ : FTy} (d : DotDims ⟨2, ![m, k]⟩ ⟨2, ![k, n]⟩ ⟨2, ![m, n]⟩) (hd : d = DotDims.plain m k n) :
    (matmul d none (V2 φ₁ f) (V2 φ₂ g) (V2 .f32 fun _ _ => 0) : FVec Ideal ⟨2, ![m, n]⟩ .f32)
      = V2 .f32 fun i j => ∑ x ∈ Finset.range k, f i x * g x j := by
  subst hd
  funext j
  show FloatOps.matmul _ _ _ _ _ j = _
  rw [Ideal.matmul_apply]
  show ((0 : ℝ) : EReal) + _ = _
  rw [EReal.coe_zero, zero_add, ← Equiv.sum_comp (contrEquiv1 _ k rfl rfl).symm]
  show _ = ((∑ x ∈ Finset.range k, _ : ℝ) : EReal)
  rw [Finset.sum_range, coe_sum]
  rfl

/-- A product of a matrix with the transpose of another. -/
theorem v_mm_nt {m k n : ℕ} {φ₁ φ₂ : FTy} (d : DotDims ⟨2, ![m, k]⟩ ⟨2, ![n, k]⟩ ⟨2, ![m, n]⟩)
    (hd : d = DotDims.transposedRhs m k n) :
    (matmul d none (V2 φ₁ f) (V2 φ₂ g) (V2 .f32 fun _ _ => 0) : FVec Ideal ⟨2, ![m, n]⟩ .f32)
      = V2 .f32 fun i j => ∑ x ∈ Finset.range k, f i x * g j x := by
  subst hd
  funext j
  show FloatOps.matmul _ _ _ _ _ j = _
  rw [Ideal.matmul_apply]
  show ((0 : ℝ) : EReal) + _ = _
  rw [EReal.coe_zero, zero_add, ← Equiv.sum_comp (contrEquiv1 _ k rfl rfl).symm]
  show _ = ((∑ x ∈ Finset.range k, _ : ℝ) : EReal)
  rw [Finset.sum_range, coe_sum]
  rfl

/-- A product of the transpose of a matrix with another. -/
theorem v_mm_tn {m k n : ℕ} {φ₁ φ₂ : FTy} (d : DotDims ⟨2, ![k, m]⟩ ⟨2, ![k, n]⟩ ⟨2, ![m, n]⟩)
    (hr : d.contr.rank = 1) (hs : d.contr.size ⟨0, by omega⟩ = k)
    (hl : ∀ (j : (⟨2, ![m, n]⟩ : Shape).Idx) (x : Fin k),
      (d.lhsIdx j ((contrEquiv1 d k hr hs).symm x) 0).val = x.val ∧
      (d.lhsIdx j ((contrEquiv1 d k hr hs).symm x) 1).val = (j 0).val ∧
      (d.rhsIdx j ((contrEquiv1 d k hr hs).symm x) 0).val = x.val ∧
      (d.rhsIdx j ((contrEquiv1 d k hr hs).symm x) 1).val = (j 1).val) :
    (matmul d none (V2 φ₁ f) (V2 φ₂ g) (V2 .f32 fun _ _ => 0) : FVec Ideal ⟨2, ![m, n]⟩ .f32)
      = V2 .f32 fun i j => ∑ x ∈ Finset.range k, f x i * g x j := by
  funext j
  show FloatOps.matmul _ _ _ _ _ j = _
  rw [Ideal.matmul_apply]
  show ((0 : ℝ) : EReal) + _ = _
  rw [EReal.coe_zero, zero_add, ← Equiv.sum_comp (contrEquiv1 d k hr hs).symm]
  show _ = ((∑ x ∈ Finset.range k, _ : ℝ) : EReal)
  rw [Finset.sum_range, coe_sum]
  refine Finset.sum_congr rfl fun x _ => ?_
  obtain ⟨h0, h1, h2, h3⟩ := hl j x
  show ((f _ _ : ℝ) : EReal) * ((g _ _ : ℝ) : EReal) = _
  rw [h0, h1, h2, h3, EReal.coe_mul]

end Ops

end Cert.RV
-- ==== Proof.Reads.lean ====
/-
  The buffers and input blocks of one grid point of the kernel gathered in one structure, what it means that the blocks
  hold real numbers, and what each load of the kernel then reads.
-/
module

public import proofs.«01_k».proof.Proof.RealVec
public import Idealize.ShloMosaic.Lib.Pipeline.ReadBack
public import Idealize.ShloMosaic.Lib.WholeRead

@[expose] public section

noncomputable section

namespace Cert.RV

open Idealize.ShloMosaic Idealize.ShloMosaic.ValueIdx Idealize.SL.Sem
open Cert.KernelIdeal Cert.KernelIdeal.Gen
open scoped BigOperators

/-- The buffers one grid point of the kernel works with, and the contents of its nine input blocks. -/
structure Env where
  c : Dev nD
  i : grid0.Coords
  arg2 : Memref sig .tc .vmem S1x1x768x256 .fp8e4m3
  harg2 : arg2.IsWhole
  arg3 : Memref sig .tc .vmem S1x1x768x256 .fp8e4m3
  harg3 : arg3.IsWhole
  arg4 : Memref sig .tc .vmem S1x1x768x512 .fp8e4m3
  harg4 : arg4.IsWhole
  arg5 : Memref sig .tc .vmem S1x1x768x512 .fp8e5m2
  harg5 : arg5.IsWhole
  arg6 : Memref sig .tc .vmem S1x1x768x256 .f32
  harg6 : arg6.IsWhole
  arg7 : Memref sig .tc .smem S10x2x12 .f32
  harg7 : arg7.IsWhole
  arg8 : Memref sig .tc .smem S10x2x12 .f32
  harg8 : arg8.IsWhole
  arg9 : Memref sig .tc .smem S10x2x12 .f32
  harg9 : arg9.IsWhole
  arg10 : Memref sig .tc .vmem S1x2x768 .f32
  harg10 : arg10.IsWhole
  arg16 : Memref sig .tc .vmem S768x256 .bf16
  arg17 : Memref sig .tc .vmem S768x256 .bf16
  arg18 : Memref sig .tc .vmem S384x256 .bf16
  arg19 : Memref sig .tc .vmem S384x256 .bf16
  arg20 : Memref sig .tc .vmem S768x256 .bf16
  arg21 : Memref sig .tc .vmem S768x256 .bf16
  arg22 : Memref sig .tc .vmem S256x256 .bf16
  arg23 : Memref sig .tc .vmem S256x256 .bf16
  arg24 : Memref sig .tc .vmem S768x768 .bf16
  arg25 : Memref sig .tc .vmem S768x768 .bf16
  arg26 : Memref sig .tc .vmem S768x256 .f32
  arg27 : Memref sig .tc .vmem S768x256 .f32
  arg28 : Memref sig .tc .vmem S768x256 .f32
  arg29 : Memref sig .tc .vmem S768x256 .f32
  arg30 : Memref sig .tc .vmem S768x256 .f32
  arg31 : Memref sig .tc .vmem S768x256 .f32
  x0 : Vec Ideal S1x1x768x256 .fp8e4m3
  x1 : Vec Ideal S1x1x768x256 .fp8e4m3
  x2 : Vec Ideal S1x1x768x512 .fp8e4m3
  x3 : Vec Ideal S1x1x768x512 .fp8e5m2
  x4 : Vec Ideal S1x1x768x256 .f32
  x5 : Vec Ideal S10x2x12 .f32
  x6 : Vec Ideal S10x2x12 .f32
  x7 : Vec Ideal S10x2x12 .f32
  x8 : Vec Ideal S1x2x768 .f32

namespace Env
variable (E : Env)

/-- The stores into scratch buffer `qm`, last first. -/
abbrev HS0 : List (View.Piece (Elt Ideal) S768x256 .bf16) :=
  kernelRun0_A.sl.HS0_6 E.c E.i E.arg2 E.harg2 E.arg6 E.harg6 E.arg7 E.harg7 E.x0 E.x4 E.x5
/-- The stores into scratch buffer `km`, last first. -/
abbrev HS1 : List (View.Piece (Elt Ideal) S768x256 .bf16) :=
  kernelRun0_A.sl.HS1_6 E.c E.i E.arg3 E.harg3 E.arg6 E.harg6 E.arg8 E.harg8 E.x1 E.x4 E.x6
/-- The stores into scratch buffer `kx`, last first. -/
abbrev HS2 : List (View.Piece (Elt Ideal) S384x256 .bf16) :=
  kernelRun0_A.sl.HS2_3 E.c E.i E.arg3 E.harg3 E.arg6 E.harg6 E.arg8 E.harg8 E.arg29 E.x1 E.x4 E.x6
/-- The stores into scratch buffer `qx`, last first. -/
abbrev HS3 : List (View.Piece (Elt Ideal) S384x256 .bf16) :=
  kernelRun0_A.sl.HS3_3 E.c E.i E.arg2 E.harg2 E.arg6 E.harg6 E.arg7 E.harg7 E.arg28 E.x0 E.x4 E.x5
/-- The stores into scratch buffer `kd`, last first. -/
abbrev HS4 : List (View.Piece (Elt Ideal) S768x256 .bf16) :=
  kernelRun0_A.sl.HS4_4 E.c E.i E.arg3 E.harg3 E.arg6 E.harg6 E.arg8 E.harg8 E.arg29 E.x1 E.x4 E.x6
/-- The stores into scratch buffer `qd`, last first. -/
abbrev HS5 : List (View.Piece (Elt Ideal) S768x256 .bf16) :=
  kernelRun0_A.sl.HS5_4 E.c E.i E.arg2 E.harg2 E.arg6 E.harg6 E.arg7 E.harg7 E.arg28 E.x0 E.x4 E.x5
/-- The stores into scratch buffer `kd2`, last first. -/
abbrev HS6 : List (View.Piece (Elt Ideal) S256x256 .bf16) :=
  kernelRun0_A.sl.HS6_2 E.c E.i E.arg3 E.harg3 E.arg6 E.harg6 E.arg8 E.harg8 E.arg29 E.x1 E.x4 E.x6
/-- The stores into scratch buffer `qd2`, last first. -/
abbrev HS7 : List (View.Piece (Elt Ideal) S256x256 .bf16) :=
  kernelRun0_A.sl.HS7_2 E.c E.i E.arg2 E.harg2 E.arg6 E.harg6 E.arg7 E.harg7 E.arg28 E.x0 E.x4 E.x5
/-- The stores into scratch buffer `at`, last first. -/
abbrev HS8 : List (View.Piece (Elt Ideal) S768x768 .bf16) :=
  kernelRun0_A.sl.HS8_24 E.c E.i E.arg4 E.harg4 E.arg5 E.harg5 E.arg9 E.harg9 E.arg10 E.harg10 E.x2 E.x3 E.x7 E.x8
/-- The stores into scratch buffer `pt`, last first. -/
abbrev HS9 : List (View.Piece (Elt Ideal) S768x768 .bf16) :=
  kernelRun0_A.sl.HS9_15 E.c E.i E.arg2 E.harg2 E.arg3 E.harg3 E.arg6 E.harg6 E.arg7 E.harg7 E.arg8 E.harg8 E.arg10 E.harg10 E.arg16 E.arg17 E.arg18 E.arg20 E.arg21 E.arg22 E.arg28 E.arg29 E.x0 E.x1 E.x4 E.x5 E.x6 E.x8
/-- The stores into scratch buffer `eq`, last first. -/
abbrev HS10 : List (View.Piece (Elt Ideal) S768x256 .f32) :=
  kernelRun0_A.sl.HS10_6 E.c E.arg6 E.harg6 E.x4
/-- The stores into scratch buffer `ek`, last first. -/
abbrev HS11 : List (View.Piece (Elt Ideal) S768x256 .f32) :=
  kernelRun0_A.sl.HS11_6 E.c E.arg6 E.harg6 E.x4
/-- The stores into scratch buffer `qf`, last first. -/
abbrev HS12 : List (View.Piece (Elt Ideal) S768x256 .f32) :=
  kernelRun0_A.sl.HS12_6 E.c E.i E.arg2 E.harg2 E.arg6 E.harg6 E.arg7 E.harg7 E.x0 E.x4 E.x5
/-- The stores into scratch buffer `kf`, last first. -/
abbrev HS13 : List (View.Piece (Elt Ideal) S768x256 .f32) :=
  kernelRun0_A.sl.HS13_6 E.c E.i E.arg3 E.harg3 E.arg6 E.harg6 E.arg8 E.harg8 E.x1 E.x4 E.x6
/-- The stores into scratch buffer `aq`, last first. -/
abbrev HS14 : List (View.Piece (Elt Ideal) S768x256 .f32) :=
  kernelRun0_A.sl.HS14_6 E.c E.i E.arg3 E.harg3 E.arg4 E.harg4 E.arg5 E.harg5 E.arg6 E.harg6 E.arg8 E.harg8 E.arg9 E.harg9 E.arg10 E.harg10 E.arg17 E.arg18 E.arg20 E.arg22 E.arg24 E.arg29 E.x1 E.x2 E.x3 E.x4 E.x6 E.x7 E.x8
/-- The stores into scratch buffer `ak`, last first. -/
abbrev HS15 : List (View.Piece (Elt Ideal) S768x256 .f32) :=
  kernelRun0_A.sl.HS15_6 E.c E.i E.arg2 E.harg2 E.arg4 E.harg4 E.arg5 E.harg5 E.arg6 E.harg6 E.arg7 E.harg7 E.arg9 E.harg9 E.arg10 E.harg10 E.arg16 E.arg19 E.arg21 E.arg23 E.arg24 E.arg28 E.x0 E.x2 E.x3 E.x4 E.x5 E.x7 E.x8

end Env

/-- The real numbers in the input blocks: codes as decoded, the log-decay increments, and the scales. -/
structure Data where
  Qc : ℕ → ℕ → ℝ
  Kc : ℕ → ℕ → ℝ
  Vc : ℕ → ℕ → ℝ
  Do : ℕ → ℕ → ℝ
  G : ℕ → ℕ → ℝ
  qs : ℕ → ℝ
  ks : ℕ → ℝ
  vs : ℕ → ℝ
  ds : ℕ → ℝ

/-- The input blocks hold the real numbers `D`. -/
structure Env.Real (E : Env) (D : Data) : Prop where
  h0 : E.x0 = V4 .fp8e4m3 D.Qc
  h1 : E.x1 = V4 .fp8e4m3 D.Kc
  h2 : E.x2 = V4 .fp8e4m3 D.Vc
  h3 : E.x3 = V4 .fp8e5m2 D.Do
  h4 : E.x4 = V4 .f32 D.G
  h5 : ∀ n : Fin 12, E.x5 (ix3 (E.i 1) (E.i 0) n) = R0 .f32 (D.qs n.val)
  h6 : ∀ n : Fin 12, E.x6 (ix3 (E.i 1) (E.i 0) n) = R0 .f32 (D.ks n.val)
  h7 : ∀ n : Fin 12, E.x7 (ix3 (E.i 1) (E.i 0) n) = R0 .f32 (D.vs n.val)
  h8 : ∀ t : Fin 768, E.x8 (ix3 (0 : Fin 1) (E.i 0) t) = R0 .f32 (D.ds t.val)

/-! ## Loads of the input blocks -/

/-- A load of a rectangle of a real block. -/
theorem load4 {A B a b : ℕ} (φ : FTy) (f : ℕ → ℕ → ℝ) (r c : ℕ)
    (inb : ∀ x, (![0, 0, r, c] : Fin 4 → ℕ) x + (![1, 1, a, b] : Fin 4 → ℕ) x ≤ (![1, 1, A, B] : Fin 4 → ℕ) x) :
    (fun j => (V4 φ f : FVec Ideal ⟨4, ![1, 1, A, B]⟩ φ)
        ((Rect.unit (s := ⟨4, ![1, 1, A, B]⟩) ![0, 0, r, c] ![1, 1, a, b] inb).toLoadRect.idx j))
      = (V4 φ fun i j => f (r + i) (c + j) : FVec Ideal ⟨4, ![1, 1, a, b]⟩ φ) :=
  funext fun j => by
    show ((f (r + 1 * (j 2).val) (c + 1 * (j 3).val) : ℝ) : EReal) = _
    rw [one_mul, one_mul]
    rfl

section Loads
variable {sig' : RefSig} {κ' : Kind} {sp : Space} {A B a b : ℕ} (r c : ℕ)

/-- A load of a rectangle of a float32 input block reads its numbers at shifted indices. -/
theorem ld_f32 (m : Memref sig' κ' sp ⟨4, ![1, 1, A, B]⟩ .f32) (h : m.IsWhole) {X} {f : ℕ → ℕ → ℝ} (hX : X = V4 .f32 f) (inb) :
    View.readAt (Elt Ideal) m.view (Rect.unit ![0, 0, r, c] ![1, 1, a, b] inb).toLoadRect (h.unread X)
      = (V4 .f32 fun i j => f (r + i) (c + j) : FVec Ideal ⟨4, ![1, 1, a, b]⟩ .f32) := by
  subst hX
  exact funext fun x => Eq.trans (Memref.IsWhole.readAt_unread (Val := Elt Ideal) h (V4 .f32 f) _ x) (congrFun (load4 .f32 f r c inb) x)

/-- A load of a rectangle of an input block of four-exponent-bit codes reads its numbers at shifted indices. -/
theorem ld_e4 (m : Memref sig' κ' sp ⟨4, ![1, 1, A, B]⟩ .fp8e4m3) (h : m.IsWhole) {X} {f : ℕ → ℕ → ℝ} (hX : X = V4 .fp8e4m3 f) (inb) :
    View.readAt (Elt Ideal) m.view (Rect.unit ![0, 0, r, c] ![1, 1, a, b] inb).toLoadRect (h.unread X)
      = (V4 .fp8e4m3 fun i j => f (r + i) (c + j) : FVec Ideal ⟨4, ![1, 1, a, b]⟩ .fp8e4m3) := by
  subst hX
  exact funext fun x => Eq.trans (Memref.IsWhole.readAt_unread (Val := Elt Ideal) h (V4 .fp8e4m3 f) _ x) (congrFun (load4 .fp8e4m3 f r c inb) x)

/-- A load of a rectangle of an input block of five-exponent-bit codes reads its numbers at shifted indices. -/
theorem ld_e5 (m : Memref sig' κ' sp ⟨4, ![1, 1, A, B]⟩ .fp8e5m2) (h : m.IsWhole) {X} {f : ℕ → ℕ → ℝ} (hX : X = V4 .fp8e5m2 f) (inb) :
    View.readAt (Elt Ideal) m.view (Rect.unit ![0, 0, r, c] ![1, 1, a, b] inb).toLoadRect (h.unread X)
      = (V4 .fp8e5m2 fun i j => f (r + i) (c + j) : FVec Ideal ⟨4, ![1, 1, a, b]⟩ .fp8e5m2) := by
  subst hX
  exact funext fun x => Eq.trans (Memref.IsWhole.readAt_unread (Val := Elt Ideal) h (V4 .fp8e5m2 f) _ x) (congrFun (load4 .fp8e5m2 f r c inb) x)

end Loads

/-- A load of one scale. -/
theorem ld_scale {sig' : RefSig} {κ' : Kind} {sp : Space} (m : Memref sig' κ' sp S10x2x12 .f32) (h : m.IsWhole) (i : grid0.Coords)
    {X : Vec Ideal S10x2x12 .f32} {f : ℕ → ℝ} (hX : ∀ n : Fin 12, X (ix3 (i 1) (i 0) n) = R0 .f32 (f n.val))
    (n : ℕ) (hn : n < 12) (off : Fin 3 → ℕ) (ho : off = ![(i 1).val, (i 0).val, n]) (inb) (pos) :
    View.readAt (Elt Ideal) m.view (Rect.unit (s := S10x2x12) off S1x1x1.size inb).toLoadRect (h.unread X) (Shape.Idx.first pos)
      = R0 .f32 (f n) := by
  subst ho
  refine Eq.trans (Memref.IsWhole.readAt_unread (Val := Elt Ideal) h X _ _) (Eq.trans (congrArg X ?_) (hX ⟨n, hn⟩))
  funext x
  fin_cases x <;> rfl

/-! ## Stores and loads of scratch -/

section Scratch
variable {sig' : RefSig} {κ' : Kind} {sp : Space} {e : EltTy} {A B : ℕ}

/-- A value of the buffer read off a function of two natural numbers. -/
abbrev G2 (g : ℕ → ℕ → Elt Ideal e) : (⟨2, ![A, B]⟩ : Shape).Idx → Elt Ideal e := fun j => g (j 0).val (j 1).val

/-- One store agrees with the function. -/
theorem piece2 {a b : ℕ} (g h : ℕ → ℕ → Elt Ideal e) (r c : ℕ) (inb) (w : (⟨2, ![a, b]⟩ : Shape).Idx → Elt Ideal e)
    (hw : w = fun j => h (j 0).val (j 1).val) (hg : ∀ i < a, ∀ j < b, h i j = g (r + i) (c + j)) :
    ∀ x, w x = (G2 g : (⟨2, ![A, B]⟩ : Shape).Idx → Elt Ideal e) ((Rect.unit (s := ⟨2, ![A, B]⟩) ![r, c] ![a, b] inb).emb x) := by
  intro x
  subst hw
  refine (hg _ (x 0).isLt _ (x 1).isLt).trans ?_
  show g _ _ = g (r + 1 * (x 0).val) (c + 1 * (x 1).val)
  rw [one_mul, one_mul]

/-- A box lies in one of the stores, square by square. -/
def boxCov (L : List (View.Piece (Elt Ideal) ⟨2, ![A, B]⟩ e)) (g r c a b : ℕ) : Bool :=
  (List.range a).all fun I => (List.range b).all fun J => L.any fun p =>
    decide (p.1.stride (0 : Fin 2) = 1) && decide (p.1.stride (1 : Fin 2) = 1) &&
    decide (p.1.off (0 : Fin 2) ≤ r + g * I) && decide (r + g * I + g ≤ p.1.off (0 : Fin 2) + p.1.size (0 : Fin 2)) &&
    decide (p.1.off (1 : Fin 2) ≤ c + g * J) && decide (c + g * J + g ≤ p.1.off (1 : Fin 2) + p.1.size (1 : Fin 2))

/-- When the grid of small boxes inside a rectangle is covered by the stored pieces, so is every place of the rectangle. -/
theorem boxCov_mem {L : List (View.Piece (Elt Ideal) ⟨2, ![A, B]⟩ e)} {g r c a b : ℕ} (hg : 0 < g) (h : boxCov L g r c a b = true)
    (y : (⟨2, ![A, B]⟩ : Shape).Idx) (h0 : r ≤ (y 0).val) (h0' : (y 0).val < r + g * a) (h1 : c ≤ (y 1).val)
    (h1' : (y 1).val < c + g * b) : ∃ p ∈ L, y ∈ p.1.set := by
  have key : ∀ (u v n : ℕ), u ≤ v → v < u + g * n → (v - u) / g < n ∧ u + g * ((v - u) / g) ≤ v ∧ v < u + g * ((v - u) / g) + g := by
    intro u v n hu hv
    have e1 := Nat.div_add_mod (v - u) g
    have e2 := Nat.mod_lt (v - u) hg
    refine ⟨Nat.div_lt_of_lt_mul (by omega), by omega, by omega⟩
  obtain ⟨hI, hI1, hI2⟩ := key r (y 0).val a h0 h0'
  obtain ⟨hJ, hJ1, hJ2⟩ := key c (y 1).val b h1 h1'
  have h' := List.all_eq_true.mp (List.all_eq_true.mp h _ (List.mem_range.mpr hI)) _ (List.mem_range.mpr hJ)
  obtain ⟨p, hp, hpp⟩ := List.any_eq_true.mp h'
  simp only [Bool.and_eq_true, decide_eq_true_eq] at hpp
  obtain ⟨⟨⟨⟨⟨s0, s1⟩, a0⟩, a1⟩, b0⟩, b1⟩ := hpp
  refine ⟨p, hp, (LoadRect.mem_set _).mpr fun x => ?_⟩
  match x with
  | ⟨0, _⟩ =>
    refine ⟨(y 0).val - p.1.off (0 : Fin 2), ?_, ?_⟩
    · show _ < p.1.size (0 : Fin 2)
      omega
    · show (y 0).val = p.1.off (0 : Fin 2) + p.1.stride (0 : Fin 2) * _
      rw [s0]; omega
  | ⟨1, _⟩ =>
    refine ⟨(y 1).val - p.1.off (1 : Fin 2), ?_, ?_⟩
    · show _ < p.1.size (1 : Fin 2)
      omega
    · show (y 1).val = p.1.off (1 : Fin 2) + p.1.stride (1 : Fin 2) * _
      rw [s1]; omega

/-- A load of a box that the stores cover reads the function. -/
theorem read2 {a b : ℕ} (v : View sig' κ' sp ⟨2, ![A, B]⟩ e) (L : List (View.Piece (Elt Ideal) ⟨2, ![A, B]⟩ e)) (g : ℕ → ℕ → Elt Ideal e)
    (hL : View.PiecesOf (G2 g) L) (r c : ℕ) (inb) (k a' b' : ℕ) (hk : 0 < k) (ha : a = k * a') (hb : b = k * b')
    (hc : boxCov L k r c a' b' = true) :
    v.readCov L (Rect.unit (s := ⟨2, ![A, B]⟩) ![r, c] ![a, b] inb).toLoadRect = fun j => g (r + (j 0).val) (c + (j 1).val) := by
  rw [View.readCov_eq_canon']
  funext j
  have e0 : ((Rect.unit (s := ⟨2, ![A, B]⟩) ![r, c] ![a, b] inb).toLoadRect.idx j 0).val = r + (j 0).val := by
    show r + 1 * (j 0).val = _
    omega
  have e1 : ((Rect.unit (s := ⟨2, ![A, B]⟩) ![r, c] ![a, b] inb).toLoadRect.idx j 1).val = c + (j 1).val := by
    show c + 1 * (j 1).val = _
    omega
  have l0 : (j 0).val < a := (j 0).isLt
  have l1 : (j 1).val < b := (j 1).isLt
  obtain ⟨p, hp, hy⟩ := boxCov_mem hk hc _ (e0 ▸ Nat.le_add_right _ _) (by rw [e0]; omega) (e1 ▸ Nat.le_add_right _ _) (by rw [e1]; omega)
  refine (View.canon_apply_of_pieces (G2 g) L hL.mem _ ⟨p, hp, hy⟩).trans ?_
  show g _ _ = g _ _
  rw [e0, e1]

end Scratch

end Cert.RV
-- ==== Proof.Blocks.lean ====
/-
  The decays, the scaled queries and keys of one grid point as functions of the token and of the key dimension, and the
  kernel's payloads that compute them block by block: what the buffers `eq`, `ek`, `qf`, `kf`, `qm`, `km` hold.
-/
module

public import proofs.«01_k».proof.Proof.Reads

@[expose] public section

noncomputable section

namespace Cert.RV

open Idealize.ShloMosaic Idealize.ShloMosaic.ValueIdx Idealize.SL.Sem
open Cert.KernelIdeal Cert.KernelIdeal.Gen
open scoped BigOperators

namespace Data
variable (D : Data)

/-- The sum of the log-decay increments of the first `t` tokens. -/
def cs (t k : ℕ) : ℝ := ∑ s ∈ Finset.range t, D.G s k

/-- The queries with their scales. -/
def Q (t k : ℕ) : ℝ := D.Qc t k * D.qs (t / 64)

/-- The keys with their scales. -/
def K (t k : ℕ) : ℝ := D.Kc t k * D.ks (t / 64)

/-- The decay from the middle of the block of 128 tokens to the token, with the attention scale. -/
def EQ (t k : ℕ) : ℝ := Real.exp (D.cs (t + 1) k - D.cs (128 * (t / 128) + 64) k) * (1 / 16)

/-- The decay from the token to the middle of its block of 128 tokens. -/
def EK (t k : ℕ) : ℝ := Real.exp (D.cs (128 * (t / 128) + 64) k - D.cs (t + 1) k)

/-- The queries with the decay from the middle of the block. -/
def QF (t k : ℕ) : ℝ := D.Q t k * D.EQ t k

/-- The keys with the decay to the middle of the block. -/
def KF (t k : ℕ) : ℝ := D.K t k * D.EK t k

/-- A sum of consecutive log-decays is a difference of cumulative sums. -/
theorem cs_range (b i k : ℕ) : ∑ x ∈ Finset.range (i + 1), D.G (b + x) k = D.cs (b + i + 1) k - D.cs b k := by
  unfold cs
  rw [add_assoc, Finset.sum_range_add _ b (i + 1), add_sub_cancel_left]

end Data

/-- A sum cut off at `i` by a mask. -/
theorem sum_mask_le (n i : ℕ) (hi : i < n) (f : ℕ → ℝ) :
    ∑ x ∈ Finset.range n, sel (x ≤ i) 1 0 * f x = ∑ x ∈ Finset.range (i + 1), f x := by
  simp only [sel_eq, ite_mul, one_mul, zero_mul]
  rw [← Finset.sum_filter]
  refine Finset.sum_congr ?_ fun _ _ => rfl
  ext x
  simp only [Finset.mem_filter, Finset.mem_range]
  omega

/-- The reciprocal of the logarithm of two. -/
abbrev ℓ : ℝ := (Real.log 2)⁻¹

/-- A number divided by `log 2` and multiplied by it again. -/
theorem ell_mul (x : ℝ) : x * ℓ * Real.log 2 = x :=
  inv_mul_cancel_right₀ (Real.log_pos one_lt_two).ne' x

/-- The named constant is the reciprocal of `log 2`. -/
theorem log2e_eq : (Named.named κ "log2e" 0x3FB8AA3B#32 : Ideal .f32) = R0 .f32 ℓ := rfl

/-- The lower triangle of ones. -/
theorem pay2_V : (k0_pay2 (F := Ideal)) = V2 .bf16 fun i j => sel (j ≤ i) 1 0 := by
  unfold k0_pay2
  dsimp only
  rw [v_iota0, v_iota1, v_sge _ _ (fun i hi _ _ => by omega) (fun _ _ j hj => by omega), v_mask]
  rfl

/-- The upper triangle of ones. -/
theorem pay3_V : (k0_pay3 (F := Ideal)) = V2 .bf16 fun i j => sel (i ≤ j) 1 0 := by
  unfold k0_pay3
  dsimp only
  rw [v_iota0, v_iota1, v_sle _ _ (fun i hi _ _ => by omega) (fun _ _ j hj => by omega), v_mask]
  rfl

/-- This contraction is the plain product of two matrices. -/
theorem dotA : dot_S128x128_S128x256_S128x256_1_0_0_1_n_n = DotDims.plain 128 128 256 := rfl

section Payloads
variable (D : Data) (c : ℕ)

/-- The summed increments of a block, in the base two. -/
theorem pay4_V : k0_pay4 (F := Ideal) (V4 .f32 fun i j => D.G (128 * c + i) (0 + j))
    = V2 .f32 fun i j => (D.cs (128 * c + i + 1) j - D.cs (128 * c) j) * ℓ := by
  unfold k0_pay4
  dsimp only
  rw [v_drop, pay2_V, v_truncf, v_extf, v_subf, v_truncf, v_extf, v_subf, v_truncf, v_const, v_mm _ _ _ dotA,
    v_mm _ _ _ dotA, v_mm _ _ _ dotA, v_addf, v_addf, log2e_eq, v_broadcast, v_mulf]
  refine V2_congr fun i hi j hj => ?_
  rw [sum_mask_le 128 i hi]
  simp only [sub_self, mul_zero, Finset.sum_const_zero, add_zero, zero_add]
  rw [D.cs_range]

/-- The row of the midpoint of a block of 128 tokens: the log-decay summed over its first chunk, in units of `log 2`. -/
theorem pay5_V : k0_pay5 (F := Ideal) (V4 .f32 fun i j => D.G (128 * c + i) (0 + j))
    = V2 .f32 fun _ j => (D.cs (128 * c + 64) j - D.cs (128 * c) j) * ℓ := by
  unfold k0_pay5
  dsimp only
  rw [pay4_V, v_slice]
  refine V2_congr fun i hi j hj => ?_
  obtain rfl : i = 0 := by omega
  simp only [zero_add]

/-- The row of the end of a block of 128 tokens: the log-decay summed over the block, in units of `log 2`. -/
theorem pay6_V : k0_pay6 (F := Ideal) (V4 .f32 fun i j => D.G (128 * c + i) (0 + j))
    = V2 .f32 fun _ j => (D.cs (128 * c + 128) j - D.cs (128 * c) j) * ℓ := by
  unfold k0_pay6
  dsimp only
  rw [pay4_V, v_slice]
  refine V2_congr fun i hi j hj => ?_
  obtain rfl : i = 0 := by omega
  simp only [zero_add]

/-- The cumulative log-decays of a block measured from its midpoint, in units of `log 2`. -/
theorem pay7_V : k0_pay7 (F := Ideal) (V4 .f32 fun i j => D.G (128 * c + i) (0 + j))
    = V2 .f32 fun i j => (D.cs (128 * c + i + 1) j - D.cs (128 * c + 64) j) * ℓ := by
  unfold k0_pay7
  dsimp only
  rw [pay4_V, pay5_V, v_row _ (by decide) (by decide), v_subf]
  exact V2_congr fun i hi j hj => by ring

/-- The decays of the queries of a block, measured from its midpoint, with the scale. -/
theorem pay8_V : k0_pay8 (F := Ideal) (V4 .f32 fun i j => D.G (128 * c + i) (0 + j))
    = V2 .f32 fun i j => D.EQ (128 * c + i) j := by
  unfold k0_pay8
  dsimp only
  rw [pay7_V, v_exp2, v_sixteenth, v_broadcast, v_mulf]
  refine V2_congr fun i hi j hj => ?_
  rw [ell_mul, Data.EQ, show (128 * c + i) / 128 = c by omega]

/-- The inverse decays of the keys of a block, measured from its midpoint. -/
theorem pay9_V : k0_pay9 (F := Ideal) (V4 .f32 fun i j => D.G (128 * c + i) (0 + j))
    = V2 .f32 fun i j => D.EK (128 * c + i) j := by
  unfold k0_pay9
  dsimp only
  rw [pay7_V, v_zero, v_broadcast, v_subf, v_exp2]
  refine V2_congr fun i hi j hj => ?_
  rw [zero_sub, ← neg_mul, ell_mul, Data.EK, show (128 * c + i) / 128 = c by omega, neg_sub]

/-- The queries of a block, each half times its scale, times their decays. -/
theorem pay11_V : k0_pay11 (F := Ideal) (V2 .f32 fun i j => D.EQ (128 * c + i) j)
      (k0_pay10 (V4 .fp8e4m3 fun i j => D.Qc (128 * c + i) (0 + j))) (R0 .f32 (D.qs (2 * c))) (R0 .f32 (D.qs (2 * c + 1)))
    = V2 .f32 fun i j => D.QF (128 * c + i) j := by
  unfold k0_pay11 k0_pay10
  dsimp only
  rw [v_drop, v_extf, v_slice, v_slice, v_broadcast, v_broadcast, v_mulf, v_mulf, v_concat, v_mulf]
  refine V2_congr fun i hi j hj => ?_
  rw [Data.QF, Data.Q]
  split
  · rw [show (128 * c + i) / 64 = 2 * c by omega]; simp only [zero_add]
  · rw [show (128 * c + i) / 64 = 2 * c + 1 by omega, show 128 * c + (64 + (i - 64)) = 128 * c + i by omega]; simp only [zero_add]

/-- The keys of a block, each half times its scale, times their inverse decays. -/
theorem pay12_V : k0_pay12 (F := Ideal) (V2 .f32 fun i j => D.EK (128 * c + i) j)
      (V4 .fp8e4m3 fun i j => D.Kc (128 * c + i) (0 + j)) (R0 .f32 (D.ks (2 * c))) (R0 .f32 (D.ks (2 * c + 1)))
    = V2 .f32 fun i j => D.KF (128 * c + i) j := by
  unfold k0_pay12
  dsimp only
  rw [v_drop, v_extf, v_slice, v_slice, v_broadcast, v_broadcast, v_mulf, v_mulf, v_concat, v_mulf]
  refine V2_congr fun i hi j hj => ?_
  rw [Data.KF, Data.K]
  split
  · rw [show (128 * c + i) / 64 = 2 * c by omega]; simp only [zero_add]
  · rw [show (128 * c + i) / 64 = 2 * c + 1 by omega, show 128 * c + (64 + (i - 64)) = 128 * c + i by omega]; simp only [zero_add]

end Payloads

/-! ## The words of one block -/

section Words
variable (D : Data) (c : ℕ) {v : Vec Ideal S1x1x128x256 .f32} (hv : v = V4 .f32 fun i j => D.G (128 * c + i) (0 + j))
include hv

/-- What the body computes for the midpoint row of a block. -/
theorem wM : k0_pay5 v = V2 .f32 fun _ j => (D.cs (128 * c + 64) j - D.cs (128 * c) j) * ℓ := by rw [hv, pay5_V]

/-- What the body computes for the end row of a block. -/
theorem wE : k0_pay6 v = V2 .f32 fun _ j => (D.cs (128 * c + 128) j - D.cs (128 * c) j) * ℓ := by rw [hv, pay6_V]

/-- What the body stores as the decays of the queries. -/
theorem wEQ : k0_pay13 (k0_pay8 v) = V2 .f32 fun i j => D.EQ (128 * c + i) j := by
  rw [hv, pay8_V]; exact v_self _ _

/-- What the body stores as the inverse decays of the keys. -/
theorem wEK : k0_pay14 (k0_pay9 v) = V2 .f32 fun i j => D.EK (128 * c + i) j := by
  rw [hv, pay9_V]; exact v_self _ _

variable {q : Vec Ideal S1x1x128x256 .fp8e4m3} {s0 s1 : Ideal .f32}

/-- What the body stores as the decayed queries in float32. -/
theorem wQF (hq : q = V4 .fp8e4m3 fun i j => D.Qc (128 * c + i) (0 + j)) (h0 : s0 = R0 .f32 (D.qs (2 * c)))
    (h1 : s1 = R0 .f32 (D.qs (2 * c + 1))) :
    k0_pay15 (k0_pay8 v) (k0_pay10 q) s0 s1 = V2 .f32 fun i j => D.QF (128 * c + i) j := by
  unfold k0_pay15
  rw [hv, hq, h0, h1, pay8_V, pay11_V]; exact v_self _ _

/-- What the body stores as the decayed keys in float32. -/
theorem wKF (hq : q = V4 .fp8e4m3 fun i j => D.Kc (128 * c + i) (0 + j)) (h0 : s0 = R0 .f32 (D.ks (2 * c)))
    (h1 : s1 = R0 .f32 (D.ks (2 * c + 1))) :
    k0_pay16 (k0_pay9 v) q s0 s1 = V2 .f32 fun i j => D.KF (128 * c + i) j := by
  unfold k0_pay16
  rw [hv, hq, h0, h1, pay9_V, pay12_V]; exact v_self _ _

/-- What the body stores as the decayed queries in bfloat16. -/
theorem wQM (hq : q = V4 .fp8e4m3 fun i j => D.Qc (128 * c + i) (0 + j)) (h0 : s0 = R0 .f32 (D.qs (2 * c)))
    (h1 : s1 = R0 .f32 (D.qs (2 * c + 1))) :
    k0_pay18 (k0_pay17 (k0_pay8 v) (k0_pay10 q) s0 s1) = V2 .bf16 fun i j => D.QF (128 * c + i) j := by
  unfold k0_pay18 k0_pay17
  dsimp only
  rw [hv, hq, h0, h1, pay8_V, pay11_V, v_truncf, v_self]

/-- What the body stores as the decayed keys in bfloat16. -/
theorem wKM (hq : q = V4 .fp8e4m3 fun i j => D.Kc (128 * c + i) (0 + j)) (h0 : s0 = R0 .f32 (D.ks (2 * c)))
    (h1 : s1 = R0 .f32 (D.ks (2 * c + 1))) :
    k0_pay19 (k0_pay12 (k0_pay9 v) q s0 s1) = V2 .bf16 fun i j => D.KF (128 * c + i) j := by
  unfold k0_pay19
  dsimp only
  rw [hv, hq, h0, h1, pay9_V, pay12_V, v_truncf, v_self]

/-- The last block, whose keys are widened in a payload of their own. -/
theorem wKF' (hq : q = V4 .fp8e4m3 fun i j => D.Kc (128 * c + i) (0 + j)) (h0 : s0 = R0 .f32 (D.ks (2 * c)))
    (h1 : s1 = R0 .f32 (D.ks (2 * c + 1))) :
    k0_pay96 (k0_pay9 v) (k0_pay90 q) s0 s1 = V2 .f32 fun i j => D.KF (128 * c + i) j :=
  wKF D c hv hq h0 h1

/-- The same store of the decayed keys where its operations are grouped otherwise. -/
theorem wKM' (hq : q = V4 .fp8e4m3 fun i j => D.Kc (128 * c + i) (0 + j)) (h0 : s0 = R0 .f32 (D.ks (2 * c)))
    (h1 : s1 = R0 .f32 (D.ks (2 * c + 1))) :
    k0_pay99 (k0_pay92 (k0_pay9 v) (k0_pay90 q) s0 s1) = V2 .bf16 fun i j => D.KF (128 * c + i) j :=
  wKM D c hv hq h0 h1

end Words

/-! ## The six buffers -/

/-- The values a buffer of real numbers holds. -/
abbrev GR {e : EltTy} (ι : ℝ → Elt Ideal e) {A B : ℕ} (f : ℕ → ℕ → ℝ) : (⟨2, ![A, B]⟩ : Shape).Idx → Elt Ideal e :=
  G2 fun i j => ι (f i j)

/-- A real number as a float32 element. -/
abbrev ι32 : ℝ → Elt Ideal .f32 := fun x => (x : EReal)
/-- A real number as a bfloat16 element. -/
abbrev ι16 : ℝ → Elt Ideal .bf16 := fun x => (x : EReal)

/-- A float32 store of numbers that agree with `f` on its rectangle. -/
theorem piece32 {A B a b : ℕ} (f h : ℕ → ℕ → ℝ) (r c : ℕ) (inb) (w : FVec Ideal ⟨2, ![a, b]⟩ .f32) (hw : w = V2 .f32 h)
    (hg : ∀ i < a, ∀ j < b, h i j = f (r + i) (c + j)) :
    ∀ x, w x = (GR ι32 f : (⟨2, ![A, B]⟩ : Shape).Idx → Elt Ideal .f32) ((Rect.unit (s := ⟨2, ![A, B]⟩) ![r, c] ![a, b] inb).emb x) :=
  piece2 _ (fun i j => ι32 (h i j)) r c inb w hw fun i hi j hj => congrArg ι32 (hg i hi j hj)

/-- A bfloat16 store of numbers that agree with `f` on its rectangle. -/
theorem piece16 {A B a b : ℕ} (f h : ℕ → ℕ → ℝ) (r c : ℕ) (inb) (w : FVec Ideal ⟨2, ![a, b]⟩ .bf16) (hw : w = V2 .bf16 h)
    (hg : ∀ i < a, ∀ j < b, h i j = f (r + i) (c + j)) :
    ∀ x, w x = (GR ι16 f : (⟨2, ![A, B]⟩ : Shape).Idx → Elt Ideal .bf16) ((Rect.unit (s := ⟨2, ![A, B]⟩) ![r, c] ![a, b] inb).emb x) :=
  piece2 _ (fun i j => ι16 (h i j)) r c inb w hw fun i hi j hj => congrArg ι16 (hg i hi j hj)

/-- The offset of a scale in its table is the head, the batch and the chunk. -/
theorem off_val (i : grid0.Coords) (n : ℕ) :
    (![(BitVec.ofNat 32 (i 1).val).toNat, (BitVec.ofNat 32 (i 0).val).toNat, n] : Fin 3 → ℕ) = ![(i 1).val, (i 0).val, n] := by
  have h0 : (i 0).val < 2 := (i 0).isLt
  have h1 : (i 1).val < 10 := (i 1).isLt
  rw [BitVec.toNat_ofNat, BitVec.toNat_ofNat, Nat.mod_eq_of_lt (by omega), Nat.mod_eq_of_lt (by omega)]

namespace Env
variable {E : Env} {D : Data} (R : E.Real D)
include R

/-- The buffer `eq`: the decay from the middle of the block, scaled. -/
theorem hs10 : View.PiecesOf (GR ι32 D.EQ) E.HS10 := by
  exact ⟨piece32 D.EQ _ 640 0 inb_S768x256_S128x256_640_0 _ (wEQ D 5 (ld_f32 640 0 E.arg6 E.harg6 R.h4 _)) (fun i _ j _ => by simp only [Nat.reduceMul, zero_add]),
    piece32 D.EQ _ 512 0 inb_S768x256_S128x256_512_0 _ (wEQ D 4 (ld_f32 512 0 E.arg6 E.harg6 R.h4 _)) (fun i _ j _ => by simp only [Nat.reduceMul, zero_add]),
    piece32 D.EQ _ 384 0 inb_S768x256_S128x256_384_0 _ (wEQ D 3 (ld_f32 384 0 E.arg6 E.harg6 R.h4 _)) (fun i _ j _ => by simp only [Nat.reduceMul, zero_add]),
    piece32 D.EQ _ 256 0 inb_S768x256_S128x256_256_0 _ (wEQ D 2 (ld_f32 256 0 E.arg6 E.harg6 R.h4 _)) (fun i _ j _ => by simp only [Nat.reduceMul, zero_add]),
    piece32 D.EQ _ 128 0 inb_S768x256_S128x256_128_0 _ (wEQ D 1 (ld_f32 128 0 E.arg6 E.harg6 R.h4 _)) (fun i _ j _ => by simp only [Nat.reduceMul, zero_add]),
    piece32 D.EQ _ 0 0 inb_S768x256_S128x256_0_0 _ (wEQ D 0 (ld_f32 0 0 E.arg6 E.harg6 R.h4 _)) (fun i _ j _ => by simp only [Nat.reduceMul, zero_add]), trivial⟩

/-- The buffer `ek`: the decay to the middle of the block. -/
theorem hs11 : View.PiecesOf (GR ι32 D.EK) E.HS11 := by
  exact ⟨piece32 D.EK _ 640 0 inb_S768x256_S128x256_640_0 _ (wEK D 5 (ld_f32 640 0 E.arg6 E.harg6 R.h4 _)) (fun i _ j _ => by simp only [Nat.reduceMul, zero_add]),
    piece32 D.EK _ 512 0 inb_S768x256_S128x256_512_0 _ (wEK D 4 (ld_f32 512 0 E.arg6 E.harg6 R.h4 _)) (fun i _ j _ => by simp only [Nat.reduceMul, zero_add]),
    piece32 D.EK _ 384 0 inb_S768x256_S128x256_384_0 _ (wEK D 3 (ld_f32 384 0 E.arg6 E.harg6 R.h4 _)) (fun i _ j _ => by simp only [Nat.reduceMul, zero_add]),
    piece32 D.EK _ 256 0 inb_S768x256_S128x256_256_0 _ (wEK D 2 (ld_f32 256 0 E.arg6 E.harg6 R.h4 _)) (fun i _ j _ => by simp only [Nat.reduceMul, zero_add]),
    piece32 D.EK _ 128 0 inb_S768x256_S128x256_128_0 _ (wEK D 1 (ld_f32 128 0 E.arg6 E.harg6 R.h4 _)) (fun i _ j _ => by simp only [Nat.reduceMul, zero_add]),
    piece32 D.EK _ 0 0 inb_S768x256_S128x256_0_0 _ (wEK D 0 (ld_f32 0 0 E.arg6 E.harg6 R.h4 _)) (fun i _ j _ => by simp only [Nat.reduceMul, zero_add]), trivial⟩

/-- The buffer `qf`: the scaled queries with their decay. -/
theorem hs12 : View.PiecesOf (GR ι32 D.QF) E.HS12 := by
  exact ⟨piece32 D.QF _ 640 0 inb_S768x256_S128x256_640_0 _ (wQF D 5 (ld_f32 640 0 E.arg6 E.harg6 R.h4 _)
      (ld_e4 640 0 E.arg2 E.harg2 R.h0 _) (ld_scale E.arg7 E.harg7 E.i R.h5 10 (by decide) _ (off_val E.i 10) _ _) (ld_scale E.arg7 E.harg7 E.i R.h5 11 (by decide) _ (off_val E.i 11) _ _)) (fun i _ j _ => by simp only [Nat.reduceMul, zero_add]),
    piece32 D.QF _ 512 0 inb_S768x256_S128x256_512_0 _ (wQF D 4 (ld_f32 512 0 E.arg6 E.harg6 R.h4 _)
      (ld_e4 512 0 E.arg2 E.harg2 R.h0 _) (ld_scale E.arg7 E.harg7 E.i R.h5 8 (by decide) _ (off_val E.i 8) _ _) (ld_scale E.arg7 E.harg7 E.i R.h5 9 (by decide) _ (off_val E.i 9) _ _)) (fun i _ j _ => by simp only [Nat.reduceMul, zero_add]),
    piece32 D.QF _ 384 0 inb_S768x256_S128x256_384_0 _ (wQF D 3 (ld_f32 384 0 E.arg6 E.harg6 R.h4 _)
      (ld_e4 384 0 E.arg2 E.harg2 R.h0 _) (ld_scale E.arg7 E.harg7 E.i R.h5 6 (by decide) _ (off_val E.i 6) _ _) (ld_scale E.arg7 E.harg7 E.i R.h5 7 (by decide) _ (off_val E.i 7) _ _)) (fun i _ j _ => by simp only [Nat.reduceMul, zero_add]),
    piece32 D.QF _ 256 0 inb_S768x256_S128x256_256_0 _ (wQF D 2 (ld_f32 256 0 E.arg6 E.harg6 R.h4 _)
      (ld_e4 256 0 E.arg2 E.harg2 R.h0 _) (ld_scale E.arg7 E.harg7 E.i R.h5 4 (by decide) _ (off_val E.i 4) _ _) (ld_scale E.arg7 E.harg7 E.i R.h5 5 (by decide) _ (off_val E.i 5) _ _)) (fun i _ j _ => by simp only [Nat.reduceMul, zero_add]),
    piece32 D.QF _ 128 0 inb_S768x256_S128x256_128_0 _ (wQF D 1 (ld_f32 128 0 E.arg6 E.harg6 R.h4 _)
      (ld_e4 128 0 E.arg2 E.harg2 R.h0 _) (ld_scale E.arg7 E.harg7 E.i R.h5 2 (by decide) _ (off_val E.i 2) _ _) (ld_scale E.arg7 E.harg7 E.i R.h5 3 (by decide) _ (off_val E.i 3) _ _)) (fun i _ j _ => by simp only [Nat.reduceMul, zero_add]),
    piece32 D.QF _ 0 0 inb_S768x256_S128x256_0_0 _ (wQF D 0 (ld_f32 0 0 E.arg6 E.harg6 R.h4 _)
      (ld_e4 0 0 E.arg2 E.harg2 R.h0 _) (ld_scale E.arg7 E.harg7 E.i R.h5 0 (by decide) _ (off_val E.i 0) _ _) (ld_scale E.arg7 E.harg7 E.i R.h5 1 (by decide) _ (off_val E.i 1) _ _)) (fun i _ j _ => by simp only [Nat.reduceMul, zero_add]), trivial⟩

/-- The buffer `kf`: the scaled keys with their decay. -/
theorem hs13 : View.PiecesOf (GR ι32 D.KF) E.HS13 := by
  exact ⟨piece32 D.KF _ 640 0 inb_S768x256_S128x256_640_0 _ (wKF' D 5 (ld_f32 640 0 E.arg6 E.harg6 R.h4 _)
      (ld_e4 640 0 E.arg3 E.harg3 R.h1 _) (ld_scale E.arg8 E.harg8 E.i R.h6 10 (by decide) _ (off_val E.i 10) _ _) (ld_scale E.arg8 E.harg8 E.i R.h6 11 (by decide) _ (off_val E.i 11) _ _)) (fun i _ j _ => by simp only [Nat.reduceMul, zero_add]),
    piece32 D.KF _ 512 0 inb_S768x256_S128x256_512_0 _ (wKF D 4 (ld_f32 512 0 E.arg6 E.harg6 R.h4 _)
      (ld_e4 512 0 E.arg3 E.harg3 R.h1 _) (ld_scale E.arg8 E.harg8 E.i R.h6 8 (by decide) _ (off_val E.i 8) _ _) (ld_scale E.arg8 E.harg8 E.i R.h6 9 (by decide) _ (off_val E.i 9) _ _)) (fun i _ j _ => by simp only [Nat.reduceMul, zero_add]),
    piece32 D.KF _ 384 0 inb_S768x256_S128x256_384_0 _ (wKF D 3 (ld_f32 384 0 E.arg6 E.harg6 R.h4 _)
      (ld_e4 384 0 E.arg3 E.harg3 R.h1 _) (ld_scale E.arg8 E.harg8 E.i R.h6 6 (by decide) _ (off_val E.i 6) _ _) (ld_scale E.arg8 E.harg8 E.i R.h6 7 (by decide) _ (off_val E.i 7) _ _)) (fun i _ j _ => by simp only [Nat.reduceMul, zero_add]),
    piece32 D.KF _ 256 0 inb_S768x256_S128x256_256_0 _ (wKF D 2 (ld_f32 256 0 E.arg6 E.harg6 R.h4 _)
      (ld_e4 256 0 E.arg3 E.harg3 R.h1 _) (ld_scale E.arg8 E.harg8 E.i R.h6 4 (by decide) _ (off_val E.i 4) _ _) (ld_scale E.arg8 E.harg8 E.i R.h6 5 (by decide) _ (off_val E.i 5) _ _)) (fun i _ j _ => by simp only [Nat.reduceMul, zero_add]),
    piece32 D.KF _ 128 0 inb_S768x256_S128x256_128_0 _ (wKF D 1 (ld_f32 128 0 E.arg6 E.harg6 R.h4 _)
      (ld_e4 128 0 E.arg3 E.harg3 R.h1 _) (ld_scale E.arg8 E.harg8 E.i R.h6 2 (by decide) _ (off_val E.i 2) _ _) (ld_scale E.arg8 E.harg8 E.i R.h6 3 (by decide) _ (off_val E.i 3) _ _)) (fun i _ j _ => by simp only [Nat.reduceMul, zero_add]),
    piece32 D.KF _ 0 0 inb_S768x256_S128x256_0_0 _ (wKF D 0 (ld_f32 0 0 E.arg6 E.harg6 R.h4 _)
      (ld_e4 0 0 E.arg3 E.harg3 R.h1 _) (ld_scale E.arg8 E.harg8 E.i R.h6 0 (by decide) _ (off_val E.i 0) _ _) (ld_scale E.arg8 E.harg8 E.i R.h6 1 (by decide) _ (off_val E.i 1) _ _)) (fun i _ j _ => by simp only [Nat.reduceMul, zero_add]), trivial⟩

/-- The buffer `qm`: `qf` in the narrow format. -/
theorem hs0 : View.PiecesOf (GR ι16 D.QF) E.HS0 := by
  exact ⟨piece16 D.QF _ 640 0 inb_S768x256_S128x256_640_0 _ (wQM D 5 (ld_f32 640 0 E.arg6 E.harg6 R.h4 _)
      (ld_e4 640 0 E.arg2 E.harg2 R.h0 _) (ld_scale E.arg7 E.harg7 E.i R.h5 10 (by decide) _ (off_val E.i 10) _ _) (ld_scale E.arg7 E.harg7 E.i R.h5 11 (by decide) _ (off_val E.i 11) _ _)) (fun i _ j _ => by simp only [Nat.reduceMul, zero_add]),
    piece16 D.QF _ 512 0 inb_S768x256_S128x256_512_0 _ (wQM D 4 (ld_f32 512 0 E.arg6 E.harg6 R.h4 _)
      (ld_e4 512 0 E.arg2 E.harg2 R.h0 _) (ld_scale E.arg7 E.harg7 E.i R.h5 8 (by decide) _ (off_val E.i 8) _ _) (ld_scale E.arg7 E.harg7 E.i R.h5 9 (by decide) _ (off_val E.i 9) _ _)) (fun i _ j _ => by simp only [Nat.reduceMul, zero_add]),
    piece16 D.QF _ 384 0 inb_S768x256_S128x256_384_0 _ (wQM D 3 (ld_f32 384 0 E.arg6 E.harg6 R.h4 _)
      (ld_e4 384 0 E.arg2 E.harg2 R.h0 _) (ld_scale E.arg7 E.harg7 E.i R.h5 6 (by decide) _ (off_val E.i 6) _ _) (ld_scale E.arg7 E.harg7 E.i R.h5 7 (by decide) _ (off_val E.i 7) _ _)) (fun i _ j _ => by simp only [Nat.reduceMul, zero_add]),
    piece16 D.QF _ 256 0 inb_S768x256_S128x256_256_0 _ (wQM D 2 (ld_f32 256 0 E.arg6 E.harg6 R.h4 _)
      (ld_e4 256 0 E.arg2 E.harg2 R.h0 _) (ld_scale E.arg7 E.harg7 E.i R.h5 4 (by decide) _ (off_val E.i 4) _ _) (ld_scale E.arg7 E.harg7 E.i R.h5 5 (by decide) _ (off_val E.i 5) _ _)) (fun i _ j _ => by simp only [Nat.reduceMul, zero_add]),
    piece16 D.QF _ 128 0 inb_S768x256_S128x256_128_0 _ (wQM D 1 (ld_f32 128 0 E.arg6 E.harg6 R.h4 _)
      (ld_e4 128 0 E.arg2 E.harg2 R.h0 _) (ld_scale E.arg7 E.harg7 E.i R.h5 2 (by decide) _ (off_val E.i 2) _ _) (ld_scale E.arg7 E.harg7 E.i R.h5 3 (by decide) _ (off_val E.i 3) _ _)) (fun i _ j _ => by simp only [Nat.reduceMul, zero_add]),
    piece16 D.QF _ 0 0 inb_S768x256_S128x256_0_0 _ (wQM D 0 (ld_f32 0 0 E.arg6 E.harg6 R.h4 _)
      (ld_e4 0 0 E.arg2 E.harg2 R.h0 _) (ld_scale E.arg7 E.harg7 E.i R.h5 0 (by decide) _ (off_val E.i 0) _ _) (ld_scale E.arg7 E.harg7 E.i R.h5 1 (by decide) _ (off_val E.i 1) _ _)) (fun i _ j _ => by simp only [Nat.reduceMul, zero_add]), trivial⟩

/-- The buffer `km`: `kf` in the narrow format. -/
theorem hs1 : View.PiecesOf (GR ι16 D.KF) E.HS1 := by
  exact ⟨piece16 D.KF _ 640 0 inb_S768x256_S128x256_640_0 _ (wKM' D 5 (ld_f32 640 0 E.arg6 E.harg6 R.h4 _)
      (ld_e4 640 0 E.arg3 E.harg3 R.h1 _) (ld_scale E.arg8 E.harg8 E.i R.h6 10 (by decide) _ (off_val E.i 10) _ _) (ld_scale E.arg8 E.harg8 E.i R.h6 11 (by decide) _ (off_val E.i 11) _ _)) (fun i _ j _ => by simp only [Nat.reduceMul, zero_add]),
    piece16 D.KF _ 512 0 inb_S768x256_S128x256_512_0 _ (wKM D 4 (ld_f32 512 0 E.arg6 E.harg6 R.h4 _)
      (ld_e4 512 0 E.arg3 E.harg3 R.h1 _) (ld_scale E.arg8 E.harg8 E.i R.h6 8 (by decide) _ (off_val E.i 8) _ _) (ld_scale E.arg8 E.harg8 E.i R.h6 9 (by decide) _ (off_val E.i 9) _ _)) (fun i _ j _ => by simp only [Nat.reduceMul, zero_add]),
    piece16 D.KF _ 384 0 inb_S768x256_S128x256_384_0 _ (wKM D 3 (ld_f32 384 0 E.arg6 E.harg6 R.h4 _)
      (ld_e4 384 0 E.arg3 E.harg3 R.h1 _) (ld_scale E.arg8 E.harg8 E.i R.h6 6 (by decide) _ (off_val E.i 6) _ _) (ld_scale E.arg8 E.harg8 E.i R.h6 7 (by decide) _ (off_val E.i 7) _ _)) (fun i _ j _ => by simp only [Nat.reduceMul, zero_add]),
    piece16 D.KF _ 256 0 inb_S768x256_S128x256_256_0 _ (wKM D 2 (ld_f32 256 0 E.arg6 E.harg6 R.h4 _)
      (ld_e4 256 0 E.arg3 E.harg3 R.h1 _) (ld_scale E.arg8 E.harg8 E.i R.h6 4 (by decide) _ (off_val E.i 4) _ _) (ld_scale E.arg8 E.harg8 E.i R.h6 5 (by decide) _ (off_val E.i 5) _ _)) (fun i _ j _ => by simp only [Nat.reduceMul, zero_add]),
    piece16 D.KF _ 128 0 inb_S768x256_S128x256_128_0 _ (wKM D 1 (ld_f32 128 0 E.arg6 E.harg6 R.h4 _)
      (ld_e4 128 0 E.arg3 E.harg3 R.h1 _) (ld_scale E.arg8 E.harg8 E.i R.h6 2 (by decide) _ (off_val E.i 2) _ _) (ld_scale E.arg8 E.harg8 E.i R.h6 3 (by decide) _ (off_val E.i 3) _ _)) (fun i _ j _ => by simp only [Nat.reduceMul, zero_add]),
    piece16 D.KF _ 0 0 inb_S768x256_S128x256_0_0 _ (wKM D 0 (ld_f32 0 0 E.arg6 E.harg6 R.h4 _)
      (ld_e4 0 0 E.arg3 E.harg3 R.h1 _) (ld_scale E.arg8 E.harg8 E.i R.h6 0 (by decide) _ (off_val E.i 0) _ _) (ld_scale E.arg8 E.harg8 E.i R.h6 1 (by decide) _ (off_val E.i 1) _ _)) (fun i _ j _ => by simp only [Nat.reduceMul, zero_add]), trivial⟩

end Env

end Cert.RV
-- ==== Proof.Carry.lean ====
/-
  The scratch buffers that carry the decays across blocks: what `kx`, `qx`, `kd`, `qd`, `kd2`, `qd2` hold. Each is a scaled
  query or key times a row of decays between two block boundaries; the two exponentials combine into one.
-/
module

public import proofs.«01_k».proof.Proof.Blocks

@[expose] public section

noncomputable section

namespace Cert.RV

open Idealize.ShloMosaic Idealize.ShloMosaic.ValueIdx Idealize.SL.Sem
open Cert.KernelIdeal Cert.KernelIdeal.Gen
open scoped BigOperators

namespace Data
variable (D : Data)

/-- Keys of the first block of a segment, decayed to the middle of the segment's second block; row `128·s + i` is token
`256·s + i`. -/
def KX (r k : ℕ) : ℝ :=
  D.K (256 * (r / 128) + r % 128) k * Real.exp (D.cs (256 * (r / 128) + 192) k - D.cs (256 * (r / 128) + r % 128 + 1) k)

/-- Queries of the second block of a segment, decayed from the middle of the segment's first block; row `128·s + i` is token
`256·s + 128 + i`. -/
def QX (r k : ℕ) : ℝ :=
  D.Q (256 * (r / 128) + 128 + r % 128) k
    * (Real.exp (D.cs (256 * (r / 128) + 128 + r % 128 + 1) k - D.cs (256 * (r / 128) + 64) k) * (1 / 16))

/-- Keys decayed to the end of their segment of 256 tokens. -/
def KD (t k : ℕ) : ℝ := D.K t k * Real.exp (D.cs (256 * (t / 256) + 256) k - D.cs (t + 1) k)

/-- Queries decayed from the start of their segment of 256 tokens. -/
def QD (t k : ℕ) : ℝ := D.Q t k * (Real.exp (D.cs (t + 1) k - D.cs (256 * (t / 256)) k) * (1 / 16))

/-- Keys of the first segment decayed to the end of the second. -/
def KD2 (t k : ℕ) : ℝ := D.K t k * Real.exp (D.cs 512 k - D.cs (t + 1) k)

/-- Queries of the third segment (row `i` is token `512 + i`) decayed from the start of the second. -/
def QD2 (r k : ℕ) : ℝ := D.Q (512 + r) k * (Real.exp (D.cs (512 + r + 1) k - D.cs 256 k) * (1 / 16))

/-- Decaying a key further on. -/
theorem kf_mul (t c A k : ℕ) (h : t / 128 = c) :
    D.KF t k * Real.exp (D.cs A k - D.cs (128 * c + 64) k) = D.K t k * Real.exp (D.cs A k - D.cs (t + 1) k) := by
  rw [KF, EK, h, mul_assoc, ← Real.exp_add]
  congr 2
  ring

/-- Decaying a query from further back. -/
theorem qf_mul (t c B k : ℕ) (h : t / 128 = c) :
    D.QF t k * Real.exp (D.cs (128 * c + 64) k - D.cs B k) = D.Q t k * (Real.exp (D.cs (t + 1) k - D.cs B k) * (1 / 16)) := by
  have e : Real.exp (D.cs (t + 1) k - D.cs B k)
      = Real.exp (D.cs (t + 1) k - D.cs (128 * c + 64) k) * Real.exp (D.cs (128 * c + 64) k - D.cs B k) := by
    rw [← Real.exp_add]
    congr 1
    ring
  rw [QF, EQ, h, e]
  ring

end Data

/-! ## Rows of decays -/

section Rows
variable (D : Data) (c : ℕ) {m e m' e' : FVec Ideal S1x256 .f32}

/-- The decay of a row, from the boundary `a` to the boundary `b`. -/
abbrev Row (a b : ℕ) : FVec Ideal S1x256 .f32 := V2 .f32 fun _ j => Real.exp (D.cs b j - D.cs a j)

/-- From the middle of a segment's first block to the end of the segment. -/
theorem rowRKA (hm : m = V2 .f32 fun _ j => (D.cs (128 * c + 64) j - D.cs (128 * c) j) * ℓ)
    (he : e = V2 .f32 fun _ j => (D.cs (128 * c + 128) j - D.cs (128 * c) j) * ℓ)
    (he' : e' = V2 .f32 fun _ j => (D.cs (128 * (c + 1) + 128) j - D.cs (128 * (c + 1)) j) * ℓ) :
    k0_pay100 m e e' = Row D (128 * c + 64) (128 * c + 256) := by
  unfold k0_pay100
  dsimp only
  rw [hm, he, he', v_subf, v_addf, v_exp2]
  refine V2_congr fun i _ j _ => ?_
  rw [← sub_mul, ← add_mul, ell_mul, show 128 * (c + 1) + 128 = 128 * c + 256 by ring, show 128 * (c + 1) = 128 * c + 128 by ring]
  congr 1
  ring

/-- From the middle of a segment's first block to the middle of its second. -/
theorem rowX (hm : m = V2 .f32 fun _ j => (D.cs (128 * c + 64) j - D.cs (128 * c) j) * ℓ)
    (he : e = V2 .f32 fun _ j => (D.cs (128 * c + 128) j - D.cs (128 * c) j) * ℓ)
    (hm' : m' = V2 .f32 fun _ j => (D.cs (128 * (c + 1) + 64) j - D.cs (128 * (c + 1)) j) * ℓ) :
    k0_pay102 m e m' = Row D (128 * c + 64) (128 * c + 192) := by
  unfold k0_pay102
  dsimp only
  rw [hm, he, hm', v_subf, v_addf, v_exp2]
  refine V2_congr fun i _ j _ => ?_
  rw [← sub_mul, ← add_mul, ell_mul, show 128 * (c + 1) + 64 = 128 * c + 192 by ring, show 128 * (c + 1) = 128 * c + 128 by ring]
  congr 1
  ring

/-- From the middle of a segment's second block to the end of the segment. -/
theorem rowRKZ (hm : m = V2 .f32 fun _ j => (D.cs (128 * c + 64) j - D.cs (128 * c) j) * ℓ)
    (he : e = V2 .f32 fun _ j => (D.cs (128 * c + 128) j - D.cs (128 * c) j) * ℓ) :
    k0_pay101 m e = Row D (128 * c + 64) (128 * c + 128) := by
  unfold k0_pay101
  dsimp only
  rw [hm, he, v_subf, v_exp2]
  refine V2_congr fun i _ j _ => ?_
  rw [← sub_mul, ell_mul]
  congr 1
  ring

/-- From the start of a segment to the middle of its first block. -/
theorem rowRQA (hm : m = V2 .f32 fun _ j => (D.cs (128 * c + 64) j - D.cs (128 * c) j) * ℓ) :
    k0_pay108 m = Row D (128 * c) (128 * c + 64) := by
  unfold k0_pay108
  dsimp only
  rw [hm, v_exp2]
  exact V2_congr fun i _ j _ => by rw [ell_mul]

/-- From the start of a segment to the middle of its second block. -/
theorem rowRQZ (he : e = V2 .f32 fun _ j => (D.cs (128 * c + 128) j - D.cs (128 * c) j) * ℓ)
    (hm' : m' = V2 .f32 fun _ j => (D.cs (128 * (c + 1) + 64) j - D.cs (128 * (c + 1)) j) * ℓ) :
    k0_pay109 e m' = Row D (128 * c) (128 * c + 192) := by
  unfold k0_pay109
  dsimp only
  rw [hm', he, v_addf, v_exp2]
  refine V2_congr fun i _ j _ => ?_
  rw [← add_mul, ell_mul, show 128 * (c + 1) + 64 = 128 * c + 192 by ring, show 128 * (c + 1) = 128 * c + 128 by ring]
  congr 1
  ring

/-- Over a whole segment. -/
theorem rowGap (he : e = V2 .f32 fun _ j => (D.cs (128 * c + 128) j - D.cs (128 * c) j) * ℓ)
    (he' : e' = V2 .f32 fun _ j => (D.cs (128 * (c + 1) + 128) j - D.cs (128 * (c + 1)) j) * ℓ) :
    k0_pay127 e e' = Row D (128 * c) (128 * c + 256) := by
  unfold k0_pay127
  dsimp only
  rw [he', he, v_addf, v_exp2]
  refine V2_congr fun i _ j _ => ?_
  rw [← add_mul, ell_mul, show 128 * (c + 1) + 128 = 128 * c + 256 by ring, show 128 * (c + 1) = 128 * c + 128 by ring]
  congr 1
  ring

/-- Two consecutive decays. -/
theorem rowMul (a b b' : ℕ) {r s : FVec Ideal S1x256 .f32} (hr : r = Row D a b) (hs : s = Row D b b') :
    mulf r s = Row D a b' := by
  rw [hr, hs, v_mulf]
  refine V2_congr fun i _ j _ => ?_
  rw [← Real.exp_add]
  congr 1
  ring

/-- Two rows of decays over adjoining stretches, multiplied in the other order, are the row over both. -/
theorem rowMul' (a b b' : ℕ) {r s : FVec Ideal S1x256 .f32} (hr : r = Row D b b') (hs : s = Row D a b) :
    mulf r s = Row D a b' := by
  rw [hr, hs, v_mulf]
  refine V2_congr fun i _ j _ => ?_
  rw [← Real.exp_add]
  congr 1
  ring

end Rows

/-- A buffer's block times a row. -/
theorem wS {r : FVec Ideal S1x256 .f32} {x : FVec Ideal S128x256 .f32} {f g : ℕ → ℕ → ℝ} (hr : r = V2 .f32 g) (hx : x = V2 .f32 f) :
    k0_pay118 r x = V2 .bf16 fun i j => f i j * g 0 j := by
  unfold k0_pay118
  dsimp only
  rw [hr, hx, v_row _ (by decide) (by decide), v_mulf, v_truncf, v_self]

/-- A load of covered scratch, in the wide format. -/
theorem rd32 {sig' : RefSig} {κ' : Kind} {sp : Space} {A B a b : ℕ} (v : View sig' κ' sp ⟨2, ![A, B]⟩ .f32)
    (L : List (View.Piece (Elt Ideal) ⟨2, ![A, B]⟩ .f32)) (f : ℕ → ℕ → ℝ) (hL : View.PiecesOf (GR ι32 f) L) (r c : ℕ) (inb)
    (k a' b' : ℕ) (hk : 0 < k) (ha : a = k * a') (hb : b = k * b') (hc : boxCov L k r c a' b' = true) :
    v.readCov L (Rect.unit (s := ⟨2, ![A, B]⟩) ![r, c] ![a, b] inb).toLoadRect
      = (V2 .f32 fun i j => f (r + i) (c + j) : FVec Ideal ⟨2, ![a, b]⟩ .f32) :=
  read2 v L _ hL r c inb k a' b' hk ha hb hc

/-- A load of covered scratch, in the narrow format. -/
theorem rd16 {sig' : RefSig} {κ' : Kind} {sp : Space} {A B a b : ℕ} (v : View sig' κ' sp ⟨2, ![A, B]⟩ .bf16)
    (L : List (View.Piece (Elt Ideal) ⟨2, ![A, B]⟩ .bf16)) (f : ℕ → ℕ → ℝ) (hL : View.PiecesOf (GR ι16 f) L) (r c : ℕ) (inb)
    (k a' b' : ℕ) (hk : 0 < k) (ha : a = k * a') (hb : b = k * b') (hc : boxCov L k r c a' b' = true) :
    v.readCov L (Rect.unit (s := ⟨2, ![A, B]⟩) ![r, c] ![a, b] inb).toLoadRect
      = (V2 .bf16 fun i j => f (r + i) (c + j) : FVec Ideal ⟨2, ![a, b]⟩ .bf16) :=
  read2 v L _ hL r c inb k a' b' hk ha hb hc

namespace Env
variable {E : Env} {D : Data} (R : E.Real D)
include R

/-- A load of the increments. -/
theorem ldG (b : ℕ) (inb) : View.readAt (Elt Ideal) E.arg6.view (Rect.unit (s := S1x1x768x256) ![0, 0, b, 0] S1x1x128x256.size inb).toLoadRect
    (E.harg6.unread E.x4) = (V4 .f32 fun i j => D.G (b + i) (0 + j) : FVec Ideal S1x1x128x256 .f32) :=
  ld_f32 b 0 E.arg6 E.harg6 R.h4 inb

/-- A load of the decayed queries. -/
theorem rd12 (r : ℕ) (inb) (hc : boxCov E.HS12 128 r 0 1 2 = true) :
    E.arg28.view.readCov E.HS12 (Rect.unit (s := S768x256) ![r, 0] S128x256.size inb).toLoadRect = V2 .f32 fun i j => D.QF (r + i) (0 + j) :=
  rd32 _ _ _ (hs12 R) r 0 inb 128 1 2 (by decide) rfl rfl hc

/-- A load of the decayed keys. -/
theorem rd13 (r : ℕ) (inb) (hc : boxCov E.HS13 128 r 0 1 2 = true) :
    E.arg29.view.readCov E.HS13 (Rect.unit (s := S768x256) ![r, 0] S128x256.size inb).toLoadRect = V2 .f32 fun i j => D.KF (r + i) (0 + j) :=
  rd32 _ _ _ (hs13 R) r 0 inb 128 1 2 (by decide) rfl rfl hc

/-- The buffer `kx`. -/
theorem hs2 : View.PiecesOf (GR ι16 D.KX) E.HS2 := by
  exact ⟨piece16 D.KX _ 256 0 inb_S384x256_S128x256_256_0 _ (wS (rowX D 4 (wM D 4 (ldG R 512 _)) (wE D 4 (ldG R 512 _)) (wM D 5 (ldG R 640 _)))
      (rd13 R 512 inb_S768x256_S128x256_512_0 rfl)) (fun i hi j _ => by
        simp only [Data.KX, zero_add, show (256 + i) / 128 = 2 by omega, show (256 + i) % 128 = i by omega, Nat.reduceMul, Nat.reduceAdd]
        exact D.kf_mul (512 + i) 4 704 j (by omega)),
    piece16 D.KX _ 128 0 inb_S384x256_S128x256_128_0 _ (wS (rowX D 2 (wM D 2 (ldG R 256 _)) (wE D 2 (ldG R 256 _)) (wM D 3 (ldG R 384 _)))
      (rd13 R 256 inb_S768x256_S128x256_256_0 rfl)) (fun i hi j _ => by
        simp only [Data.KX, zero_add, show (128 + i) / 128 = 1 by omega, show (128 + i) % 128 = i by omega, Nat.reduceMul, Nat.reduceAdd]
        exact D.kf_mul (256 + i) 2 448 j (by omega)),
    piece16 D.KX _ 0 0 inb_S384x256_S128x256_0_0 _ (wS (rowX D 0 (wM D 0 (ldG R 0 _)) (wE D 0 (ldG R 0 _)) (wM D 1 (ldG R 128 _)))
      (rd13 R 0 inb_S768x256_S128x256_0_0 rfl)) (fun i hi j _ => by
        simp only [Data.KX, zero_add, show (i) / 128 = 0 by omega, show (i) % 128 = i by omega, Nat.reduceMul, Nat.reduceAdd]
        exact D.kf_mul (i) 0 192 j (by omega)), trivial⟩

/-- The buffer `qx`. -/
theorem hs3 : View.PiecesOf (GR ι16 D.QX) E.HS3 := by
  exact ⟨piece16 D.QX _ 256 0 inb_S384x256_S128x256_256_0 _ (wS (rowX D 4 (wM D 4 (ldG R 512 _)) (wE D 4 (ldG R 512 _)) (wM D 5 (ldG R 640 _)))
      (rd12 R 640 inb_S768x256_S128x256_640_0 rfl)) (fun i hi j _ => by
        simp only [Data.QX, zero_add, show (256 + i) / 128 = 2 by omega, show (256 + i) % 128 = i by omega, Nat.reduceMul, Nat.reduceAdd]
        exact D.qf_mul (640 + i) 5 576 j (by omega)),
    piece16 D.QX _ 128 0 inb_S384x256_S128x256_128_0 _ (wS (rowX D 2 (wM D 2 (ldG R 256 _)) (wE D 2 (ldG R 256 _)) (wM D 3 (ldG R 384 _)))
      (rd12 R 384 inb_S768x256_S128x256_384_0 rfl)) (fun i hi j _ => by
        simp only [Data.QX, zero_add, show (128 + i) / 128 = 1 by omega, show (128 + i) % 128 = i by omega, Nat.reduceMul, Nat.reduceAdd]
        exact D.qf_mul (384 + i) 3 320 j (by omega)),
    piece16 D.QX _ 0 0 inb_S384x256_S128x256_0_0 _ (wS (rowX D 0 (wM D 0 (ldG R 0 _)) (wE D 0 (ldG R 0 _)) (wM D 1 (ldG R 128 _)))
      (rd12 R 128 inb_S768x256_S128x256_128_0 rfl)) (fun i hi j _ => by
        simp only [Data.QX, zero_add, show (i) / 128 = 0 by omega, show (i) % 128 = i by omega, Nat.reduceMul, Nat.reduceAdd]
        exact D.qf_mul (128 + i) 1 64 j (by omega)), trivial⟩

/-- The buffer `kd`. -/
theorem hs4 : View.PiecesOf (GR ι16 D.KD) E.HS4 := by
  exact ⟨piece16 D.KD _ 384 0 inb_S768x256_S128x256_384_0 _ (wS (rowRKZ D 3 (wM D 3 (ldG R 384 _)) (wE D 3 (ldG R 384 _)))
      (rd13 R 384 inb_S768x256_S128x256_384_0 rfl)) (fun i hi j _ => by
        simp only [Data.KD, zero_add, show (384 + i) / 256 = 1 by omega, Nat.reduceMul, Nat.reduceAdd]
        exact D.kf_mul (384 + i) 3 512 j (by omega)),
    piece16 D.KD _ 256 0 inb_S768x256_S128x256_256_0 _ (wS (rowRKA D 2 (wM D 2 (ldG R 256 _)) (wE D 2 (ldG R 256 _)) (wE D 3 (ldG R 384 _)))
      (rd13 R 256 inb_S768x256_S128x256_256_0 rfl)) (fun i hi j _ => by
        simp only [Data.KD, zero_add, show (256 + i) / 256 = 1 by omega, Nat.reduceMul, Nat.reduceAdd]
        exact D.kf_mul (256 + i) 2 512 j (by omega)),
    piece16 D.KD _ 128 0 inb_S768x256_S128x256_128_0 _ (wS (rowRKZ D 1 (wM D 1 (ldG R 128 _)) (wE D 1 (ldG R 128 _)))
      (rd13 R 128 inb_S768x256_S128x256_128_0 rfl)) (fun i hi j _ => by
        simp only [Data.KD, zero_add, show (128 + i) / 256 = 0 by omega, Nat.reduceMul, Nat.reduceAdd]
        exact D.kf_mul (128 + i) 1 256 j (by omega)),
    piece16 D.KD _ 0 0 inb_S768x256_S128x256_0_0 _ (wS (rowRKA D 0 (wM D 0 (ldG R 0 _)) (wE D 0 (ldG R 0 _)) (wE D 1 (ldG R 128 _)))
      (rd13 R 0 inb_S768x256_S128x256_0_0 rfl)) (fun i hi j _ => by
        simp only [Data.KD, zero_add, show (i) / 256 = 0 by omega, Nat.reduceMul, Nat.reduceAdd]
        exact D.kf_mul (i) 0 256 j (by omega)), trivial⟩

/-- The buffer `qd`. -/
theorem hs5 : View.PiecesOf (GR ι16 D.QD) E.HS5 := by
  exact ⟨piece16 D.QD _ 640 0 inb_S768x256_S128x256_640_0 _ (wS (rowRQZ D 4 (wE D 4 (ldG R 512 _)) (wM D 5 (ldG R 640 _)))
      (rd12 R 640 inb_S768x256_S128x256_640_0 rfl)) (fun i hi j _ => by
        simp only [Data.QD, zero_add, show (640 + i) / 256 = 2 by omega, Nat.reduceMul, Nat.reduceAdd]
        exact D.qf_mul (640 + i) 5 512 j (by omega)),
    piece16 D.QD _ 512 0 inb_S768x256_S128x256_512_0 _ (wS (rowRQA D 4 (wM D 4 (ldG R 512 _)))
      (rd12 R 512 inb_S768x256_S128x256_512_0 rfl)) (fun i hi j _ => by
        simp only [Data.QD, zero_add, show (512 + i) / 256 = 2 by omega, Nat.reduceMul, Nat.reduceAdd]
        exact D.qf_mul (512 + i) 4 512 j (by omega)),
    piece16 D.QD _ 384 0 inb_S768x256_S128x256_384_0 _ (wS (rowRQZ D 2 (wE D 2 (ldG R 256 _)) (wM D 3 (ldG R 384 _)))
      (rd12 R 384 inb_S768x256_S128x256_384_0 rfl)) (fun i hi j _ => by
        simp only [Data.QD, zero_add, show (384 + i) / 256 = 1 by omega, Nat.reduceMul, Nat.reduceAdd]
        exact D.qf_mul (384 + i) 3 256 j (by omega)),
    piece16 D.QD _ 256 0 inb_S768x256_S128x256_256_0 _ (wS (rowRQA D 2 (wM D 2 (ldG R 256 _)))
      (rd12 R 256 inb_S768x256_S128x256_256_0 rfl)) (fun i hi j _ => by
        simp only [Data.QD, zero_add, show (256 + i) / 256 = 1 by omega, Nat.reduceMul, Nat.reduceAdd]
        exact D.qf_mul (256 + i) 2 256 j (by omega)), trivial⟩

/-- The buffer `kd2`. -/
theorem hs6 : View.PiecesOf (GR ι16 D.KD2) E.HS6 := by
  exact ⟨piece16 D.KD2 _ 128 0 inb_S256x256_S128x256_128_0 _ (wS (rowMul D 192 256 512 (rowRKZ D 1 (wM D 1 (ldG R 128 _)) (wE D 1 (ldG R 128 _))) (rowGap D 2 (wE D 2 (ldG R 256 _)) (wE D 3 (ldG R 384 _))))
      (rd13 R 128 inb_S768x256_S128x256_128_0 rfl)) (fun i hi j _ => by
        simp only [Data.KD2, zero_add, Nat.reduceMul]
        exact D.kf_mul (128 + i) 1 512 j (by omega)),
    piece16 D.KD2 _ 0 0 inb_S256x256_S128x256_0_0 _ (wS (rowMul D 64 256 512 (rowRKA D 0 (wM D 0 (ldG R 0 _)) (wE D 0 (ldG R 0 _)) (wE D 1 (ldG R 128 _))) (rowGap D 2 (wE D 2 (ldG R 256 _)) (wE D 3 (ldG R 384 _))))
      (rd13 R 0 inb_S768x256_S128x256_0_0 rfl)) (fun i hi j _ => by
        simp only [Data.KD2, zero_add, Nat.reduceMul]
        exact D.kf_mul (i) 0 512 j (by omega)), trivial⟩

/-- The buffer `qd2`. -/
theorem hs7 : View.PiecesOf (GR ι16 D.QD2) E.HS7 := by
  exact ⟨piece16 D.QD2 _ 128 0 inb_S256x256_S128x256_128_0 _ (wS (rowMul' D 256 512 704 (rowRQZ D 4 (wE D 4 (ldG R 512 _)) (wM D 5 (ldG R 640 _))) (rowGap D 2 (wE D 2 (ldG R 256 _)) (wE D 3 (ldG R 384 _))))
      (rd12 R 640 inb_S768x256_S128x256_640_0 rfl)) (fun i hi j _ => by
        simp only [Data.QD2, zero_add, Nat.reduceMul]
        exact (D.qf_mul (640 + i) 5 256 j (by omega)).trans (by rw [show 640 + i = 512 + (128 + i) by omega])),
    piece16 D.QD2 _ 0 0 inb_S256x256_S128x256_0_0 _ (wS (rowMul' D 256 512 576 (rowRQA D 4 (wM D 4 (ldG R 512 _))) (rowGap D 2 (wE D 2 (ldG R 256 _)) (wE D 3 (ldG R 384 _))))
      (rd12 R 512 inb_S768x256_S128x256_512_0 rfl)) (fun i hi j _ => by
        simp only [Data.QD2, zero_add, Nat.reduceMul]
        exact (D.qf_mul (512 + i) 4 256 j (by omega)).trans (by rw [show 512 + i = 512 + (i) by omega])), trivial⟩

end Env

end Cert.RV
-- ==== Proof.Attn.lean ====
/-
  The two attention matrices of one grid point, kept transposed: what the buffers `at` (values against output gradients) and
  `pt` (keys against queries) hold.
-/
module

public import proofs.«01_k».proof.Proof.Carry

@[expose] public section

noncomputable section

namespace Cert.RV

open Idealize.ShloMosaic Idealize.ShloMosaic.ValueIdx Idealize.SL.Sem
open Cert.KernelIdeal Cert.KernelIdeal.Gen
open scoped BigOperators

namespace Data
variable (D : Data)

/-- The value of token `j` against the output gradient of token `i`, with both scales, for `j ≤ i`. -/
def AT (j i : ℕ) : ℝ :=
  sel (j ≤ i) ((∑ x ∈ Finset.range 512, D.Vc j x * D.Do i x) * (D.ds i * D.vs (j / 64))) 0

/-- The decayed key of token `j` against the query of token `i`. -/
def S (j i : ℕ) : ℝ :=
  ∑ k ∈ Finset.range 256, D.K j k * (D.Q i k * (Real.exp (D.cs (i + 1) k - D.cs (j + 1) k) * (1 / 16)))

/-- The attention of token `i` to token `j`, with the scale of the output gradient, for `j ≤ i`. -/
def PT (j i : ℕ) : ℝ := sel (j ≤ i) (D.S j i * D.ds i) 0

/-- A masked product of a diagonal block is the entry of the weights of the gradient. -/
theorem AT_diag {jb o r n i j : ℕ} (hr : r = jb + o) (hn : (r + i) / 64 = n) :
    sel (o + i ≤ j) ((∑ x ∈ Finset.range 512, D.Vc (jb + (o + i)) (0 + x) * D.Do (jb + j) (0 + x)) * (D.ds (jb + j) * D.vs n)) 0
      = D.AT (r + i) (jb + j) := by
  subst hr
  have hn' : (jb + (o + i)) / 64 = n := by omega
  simp only [AT, hn', zero_add, sel_eq, add_assoc, add_le_add_iff_left]

/-- A product of a block above the diagonal is the entry of the weights of the gradient. -/
theorem AT_off {jb o r n i ib j : ℕ} (hr : r = jb + o) (hn : (r + i) / 64 = n) (hl : r + i ≤ ib) :
    (∑ x ∈ Finset.range 512, D.Vc (jb + (o + i)) (0 + x) * D.Do (ib + j) (0 + x)) * (D.ds (ib + j) * D.vs n)
      = D.AT (r + i) (ib + j) := by
  subst hr
  rw [AT, hn, sel_eq, if_pos (by omega)]
  simp only [zero_add, add_assoc]

/-- The decays from the key to a boundary and from the boundary to the query combine. -/
theorem S_sum {j i : ℕ} {f g : ℕ → ℝ} (U : ℕ → ℝ) (hf : ∀ k < 256, f k = D.K j k * Real.exp (U k - D.cs (j + 1) k))
    (hg : ∀ k < 256, g k = D.Q i k * (Real.exp (D.cs (i + 1) k - U k) * (1 / 16))) :
    ∑ k ∈ Finset.range 256, f k * g k = D.S j i := by
  refine Finset.sum_congr rfl fun k hk => ?_
  rw [hf k (Finset.mem_range.mp hk), hg k (Finset.mem_range.mp hk), show D.cs (i + 1) k - D.cs (j + 1) k
    = (U k - D.cs (j + 1) k) + (D.cs (i + 1) k - U k) by ring, Real.exp_add]
  ring

/-- A masked product of decayed keys and queries of a diagonal block is the entry of the attention weights. -/
theorem PT_diag {b i j : ℕ} {f g : ℕ → ℝ} (U : ℕ → ℝ) (hf : ∀ k < 256, f k = D.K (b + i) k * Real.exp (U k - D.cs (b + i + 1) k))
    (hg : ∀ k < 256, g k = D.Q (b + j) k * (Real.exp (D.cs (b + j + 1) k - U k) * (1 / 16))) :
    sel (i ≤ j) (∑ k ∈ Finset.range 256, f k * g k) 0 * D.ds (b + j) = D.PT (b + i) (b + j) := by
  rw [D.S_sum U hf hg, PT, sel_eq, sel_eq, ite_mul, zero_mul]
  simp only [add_le_add_iff_left]

/-- A product of decayed keys and queries of a block above the diagonal is the entry of the attention weights. -/
theorem PT_off {r i c j : ℕ} {f g : ℕ → ℝ} (U : ℕ → ℝ) (hf : ∀ k < 256, f k = D.K (r + i) k * Real.exp (U k - D.cs (r + i + 1) k))
    (hg : ∀ k < 256, g k = D.Q (c + j) k * (Real.exp (D.cs (c + j + 1) k - U k) * (1 / 16))) (hl : r + i ≤ c) :
    (∑ k ∈ Finset.range 256, f k * g k) * D.ds (c + j) = D.PT (r + i) (c + j) := by
  rw [D.S_sum U hf hg, PT, sel_eq, if_pos (by omega)]

/-- Below the diagonal the attention weights are zero. -/
theorem PT_zero {r i c j : ℕ} (hl : c + j < r + i) : (0 : ℝ) = D.PT (r + i) (c + j) := by
  rw [PT, sel_eq, if_neg (by omega)]

/-- The decayed key of a token, by the number of its block. -/
theorem KF_at {t c : ℕ} (h : t / 128 = c) (k : ℕ) : D.KF t k = D.K t k * Real.exp (D.cs (128 * c + 64) k - D.cs (t + 1) k) := by
  rw [KF, EK, h]

/-- The decayed query of a token, by the number of its block. -/
theorem QF_at {t c : ℕ} (h : t / 128 = c) (k : ℕ) :
    D.QF t k = D.Q t k * (Real.exp (D.cs (t + 1) k - D.cs (128 * c + 64) k) * (1 / 16)) := by
  rw [QF, EQ, h]

end Data

/-! ## The payloads -/

/-- This contraction is the product with the second matrix transposed. -/
theorem dotV : dot_S256x512_S256x512_S256x256_1_1_0_0_n_n = DotDims.transposedRhs 256 512 256 := rfl
/-- This contraction is the product with the second matrix transposed. -/
theorem dotP : dot_S128x256_S128x256_S128x128_1_1_0_0_n_n = DotDims.transposedRhs 128 256 128 := rfl
/-- This contraction is the product with the second matrix transposed. -/
theorem dotP' : dot_S256x256_S256x256_S256x256_1_1_0_0_n_n = DotDims.transposedRhs 256 256 256 := rfl

/-- The codes of a segment's values against those of a segment's output gradients. -/
theorem wV {v : Vec Ideal S1x1x256x512 .fp8e4m3} {w : Vec Ideal S1x1x256x512 .fp8e5m2} {f g : ℕ → ℕ → ℝ}
    (hv : v = V4 .fp8e4m3 f) (hw : w = V4 .fp8e5m2 g) :
    k0_pay135 v w = V2 .f32 fun i j => ∑ x ∈ Finset.range 512, f i x * g j x := by
  unfold k0_pay135
  dsimp only
  rw [hv, hw, v_drop, v_drop, v_const, v_mm_nt _ _ _ dotV]

/-- The same where the values are read in a payload of their own. -/
theorem wV' {v : Vec Ideal S1x1x256x512 .fp8e4m3} {w : Vec Ideal S1x1x256x512 .fp8e5m2} {f g : ℕ → ℕ → ℝ}
    (hv : v = V4 .fp8e4m3 f) (hw : w = V4 .fp8e5m2 g) :
    k0_pay167 (k0_pay166 v) w = V2 .f32 fun i j => ∑ x ∈ Finset.range 512, f i x * g j x :=
  wV hv hw

section At
variable {p : FVec Ideal S256x256 .f32} {d : FVec Ideal S1x256 .f32} {s : Ideal .f32} {f g : ℕ → ℕ → ℝ} {x : ℝ} (o : ℕ) (h)

/-- A quarter of a block of `at` on the diagonal, with its scales and the mask. -/
theorem wATd (ho : o ≤ 192) (hp : p = V2 .f32 f) (hd : d = V2 .f32 g) (hs : s = R0 .f32 x) :
    shapeCast S64x256 (truncf .bf16 (select (cmpi .sge (iota .tc S64x256 32 [1] iota_S64x256_d1_w32)
        (addi (iota .tc S64x256 32 [0] iota_S64x256_d0_w32) (broadcast S64x256 (BitVec.ofNat 32 o))))
      (mulf (extractStridedSlice S64x256 ![o, 0] p h) (broadcastTo S64x256 (mulf d (broadcast S1x256 s)) broadcasts_S1x256_S64x256))
      (broadcast S64x256 (Scalar.ofBits .f32 0x00000000#32))) bitsLt_bf16_f32) shapeCasts_S64x256_S64x256
      = V2 .bf16 fun i j => sel (o + i ≤ j) (f (o + i) j * (g 0 j * x)) 0 := by
  rw [hp, hd, hs, v_zero, v_broadcast, v_broadcast, v_mulf, v_row _ (by decide) (by decide), v_slice, v_mulf, v_iota0, v_iota1,
    v_addi, v_sge _ _ (fun i hi _ _ => by omega) (fun _ _ j hj => by omega), v_select, v_truncf, v_self]
  simp only [zero_add, add_zero, add_comm]

/-- A quarter of a block of `at` above the diagonal, with its scales. -/
theorem wAT (hp : p = V2 .f32 f) (hd : d = V2 .f32 g) (hs : s = R0 .f32 x) :
    shapeCast S64x256 (truncf .bf16
      (mulf (extractStridedSlice S64x256 ![o, 0] p h) (broadcastTo S64x256 (mulf d (broadcast S1x256 s)) broadcasts_S1x256_S64x256))
      bitsLt_bf16_f32) shapeCasts_S64x256_S64x256
      = V2 .bf16 fun i j => f (o + i) j * (g 0 j * x) := by
  rw [hp, hd, hs, v_broadcast, v_mulf, v_row _ (by decide) (by decide), v_slice, v_mulf, v_truncf, v_self]
  simp only [zero_add]

end At

section Pt
variable {f g : ℕ → ℕ → ℝ} {u : ℕ → ℝ} {d : FVec Ideal S1x768 .f32} (c : ℕ) (h)

/-- A block of `pt` on the diagonal. -/
theorem wPTd {a b : FVec Ideal S128x256 .bf16} (hd : d = V2 .f32 fun _ j => u j) (ha : a = V2 .bf16 f) (hb : b = V2 .bf16 g) :
    shapeCast S128x128 (mulf (truncf .bf16 (select (cmpi .sge (iota .tc S128x128 32 [1] iota_S128x128_d1_w32)
        (iota .tc S128x128 32 [0] iota_S128x128_d0_w32))
      (matmul dot_S128x256_S128x256_S128x128_1_1_0_0_n_n none a b (constant S128x128 .f32 0x00000000#32))
      (broadcast S128x128 (Scalar.ofBits .f32 0x00000000#32))) bitsLt_bf16_f32)
      (broadcastTo S128x128 (truncf .bf16 (extractStridedSlice S1x128 ![0, c] d h) bitsLt_bf16_f32) broadcasts_S1x128_S128x128))
      shapeCasts_S128x128_S128x128
      = V2 .bf16 fun i j => sel (i ≤ j) (∑ x ∈ Finset.range 256, f i x * g j x) 0 * u (c + j) := by
  rw [hd, ha, hb, v_const, v_mm_nt _ _ _ dotP, v_zero, v_broadcast, v_iota0, v_iota1,
    v_sge _ _ (fun i hi _ _ => by omega) (fun _ _ j hj => by omega), v_select, v_truncf, v_slice, v_truncf,
    v_row _ (by decide) (by decide), v_mulf, v_self]

/-- A block of `pt` above the diagonal within a segment. -/
theorem wPT {a b : FVec Ideal S128x256 .bf16} (hd : d = V2 .f32 fun _ j => u j) (ha : a = V2 .bf16 f) (hb : b = V2 .bf16 g) :
    shapeCast S128x128 (mulf (truncf .bf16
      (matmul dot_S128x256_S128x256_S128x128_1_1_0_0_n_n none a b (constant S128x128 .f32 0x00000000#32)) bitsLt_bf16_f32)
      (broadcastTo S128x128 (truncf .bf16 (extractStridedSlice S1x128 ![0, c] d h) bitsLt_bf16_f32) broadcasts_S1x128_S128x128))
      shapeCasts_S128x128_S128x128
      = V2 .bf16 fun i j => (∑ x ∈ Finset.range 256, f i x * g j x) * u (c + j) := by
  rw [hd, ha, hb, v_const, v_mm_nt _ _ _ dotP, v_truncf, v_slice, v_truncf, v_row _ (by decide) (by decide), v_mulf, v_self]

/-- A block of `pt` between two segments. -/
theorem wPT' {a b : FVec Ideal S256x256 .bf16} (hd : d = V2 .f32 fun _ j => u j) (ha : a = V2 .bf16 f) (hb : b = V2 .bf16 g) :
    shapeCast S256x256 (mulf (truncf .bf16
      (matmul dot_S256x256_S256x256_S256x256_1_1_0_0_n_n none a b (constant S256x256 .f32 0x00000000#32)) bitsLt_bf16_f32)
      (broadcastTo S256x256 (truncf .bf16 (extractStridedSlice S1x256 ![0, c] d h) bitsLt_bf16_f32) broadcasts_S1x256_S256x256))
      shapeCasts_S256x256_S256x256
      = V2 .bf16 fun i j => (∑ x ∈ Finset.range 256, f i x * g j x) * u (c + j) := by
  rw [hd, ha, hb, v_const, v_mm_nt _ _ _ dotP', v_truncf, v_slice, v_truncf, v_row _ (by decide) (by decide), v_mulf, v_self]

end Pt

/-- The block of zeros that the body stores below the diagonal. -/
theorem wZ : k0_pay187 (F := Ideal) = V2 .bf16 fun _ _ => 0 := by
  unfold k0_pay187
  dsimp only
  rw [v_zero_bf16, v_broadcast, v_self]

/-- The offset of the row of scales of the output's gradient is the batch. -/
theorem off13_val (i : grid0.Coords) : k0_off13 i = ![0, (i 0).val, 0] := by
  have h0 : (i 0).val < 2 := (i 0).isLt
  show (![0, (BitVec.ofNat 32 (i 0).val).toNat, 0] : Fin 3 → ℕ) = _
  rw [BitVec.toNat_ofNat, Nat.mod_eq_of_lt (by omega)]

/-- A load of the row of scales of the output gradient. -/
theorem ld_row {sig' : RefSig} {κ' : Kind} {sp : Space} (m : Memref sig' κ' sp S1x2x768 .f32) (h : m.IsWhole) (i : grid0.Coords)
    {X : Vec Ideal S1x2x768 .f32} {f : ℕ → ℝ} (hX : ∀ t : Fin 768, X (ix3 (0 : Fin 1) (i 0) t) = R0 .f32 (f t.val))
    (off : Fin 3 → ℕ) (ho : off = ![0, (i 0).val, 0]) (inb) :
    View.readAt (Elt Ideal) m.view (Rect.unit (s := S1x2x768) off S1x1x768.size inb).toLoadRect (h.unread X)
      = (V3 .f32 fun _ j => f j : FVec Ideal S1x1x768 .f32) := by
  subst ho
  refine funext fun x => Eq.trans (Memref.IsWhole.readAt_unread (Val := Elt Ideal) h X _ x) (Eq.trans (congrArg X ?_) (hX (x 2)))
  have h0 : (x 0).val < 1 := (x 0).isLt
  have h1 : (x 1).val < 1 := (x 1).isLt
  funext y
  refine Fin.ext ?_
  match y with
  | ⟨0, _⟩ => show 0 + 1 * (x 0).val = 0; omega
  | ⟨1, _⟩ => show (i 0).val + 1 * (x 1).val = (i 0).val; omega
  | ⟨2, _⟩ => show 0 + 1 * (x 2).val = (x 2).val; omega

namespace Env
variable {E : Env} {D : Data} (R : E.Real D)
include R

/-- The row of scales of the output gradient. -/
theorem row8 (inb) : k0_pay133 (View.readAt (Elt Ideal) E.arg10.view
    (Rect.unit (s := S1x2x768) (k0_off13 E.i) S1x1x768.size inb).toLoadRect (E.harg10.unread E.x8)) = V2 .f32 fun _ j => D.ds j := by
  rw [ld_row E.arg10 E.harg10 E.i R.h8 _ (off13_val E.i) inb]
  unfold k0_pay133
  exact v_drop3 (a := 1) (b := 768) (φ := .f32) (f := fun _ j => D.ds j) shapeCasts_S1x1x768_S1x768

/-- A slice of the row of scales. -/
theorem row8s (c : ℕ) (h) (inb) : extractStridedSlice S1x256 ![0, c] (k0_pay133 (View.readAt (Elt Ideal) E.arg10.view
    (Rect.unit (s := S1x2x768) (k0_off13 E.i) S1x1x768.size inb).toLoadRect (E.harg10.unread E.x8))) h = V2 .f32 fun _ j => D.ds (c + j) := by
  rw [row8 R, v_slice]

set_option maxHeartbeats 2000000 in
/-- The buffer `at`. -/
theorem hs8 : View.PiecesOf (GR ι16 D.AT) E.HS8 := by
  exact ⟨piece16 D.AT _ 704 512 inb_S768x768_S64x256_704_512 _ (wATd 192 slices_S256x256_o192_0_S64x256 (by decide) (wV (ld_e4 512 0 E.arg4 E.harg4 R.h2 _) (ld_e5 512 0 E.arg5 E.harg5 R.h3 _))
      (row8s R 512 slices_S1x768_o0_512_S1x256 _) (ld_scale E.arg9 E.harg9 E.i R.h7 11 (by decide) _ (off_val E.i 11) _ _)) (fun i hi j _ => D.AT_diag (by decide) (by omega)),
    piece16 D.AT _ 640 512 inb_S768x768_S64x256_640_512 _ (wATd 128 slices_S256x256_o128_0_S64x256 (by decide) (wV (ld_e4 512 0 E.arg4 E.harg4 R.h2 _) (ld_e5 512 0 E.arg5 E.harg5 R.h3 _))
      (row8s R 512 slices_S1x768_o0_512_S1x256 _) (ld_scale E.arg9 E.harg9 E.i R.h7 10 (by decide) _ (off_val E.i 10) _ _)) (fun i hi j _ => D.AT_diag (by decide) (by omega)),
    piece16 D.AT _ 576 512 inb_S768x768_S64x256_576_512 _ (wATd 64 slices_S256x256_o64_0_S64x256 (by decide) (wV (ld_e4 512 0 E.arg4 E.harg4 R.h2 _) (ld_e5 512 0 E.arg5 E.harg5 R.h3 _))
      (row8s R 512 slices_S1x768_o0_512_S1x256 _) (ld_scale E.arg9 E.harg9 E.i R.h7 9 (by decide) _ (off_val E.i 9) _ _)) (fun i hi j _ => D.AT_diag (by decide) (by omega)),
    piece16 D.AT _ 512 512 inb_S768x768_S64x256_512_512 _ (wATd 0 slices_S256x256_o0_0_S64x256 (by decide) (wV (ld_e4 512 0 E.arg4 E.harg4 R.h2 _) (ld_e5 512 0 E.arg5 E.harg5 R.h3 _))
      (row8s R 512 slices_S1x768_o0_512_S1x256 _) (ld_scale E.arg9 E.harg9 E.i R.h7 8 (by decide) _ (off_val E.i 8) _ _)) (fun i hi j _ => D.AT_diag (by decide) (by omega)),
    piece16 D.AT _ 448 512 inb_S768x768_S64x256_448_512 _ (wAT 192 slices_S256x256_o192_0_S64x256 (wV' (ld_e4 256 0 E.arg4 E.harg4 R.h2 _) (ld_e5 512 0 E.arg5 E.harg5 R.h3 _))
      (row8s R 512 slices_S1x768_o0_512_S1x256 _) (ld_scale E.arg9 E.harg9 E.i R.h7 7 (by decide) _ (off_val E.i 7) _ _)) (fun i hi j _ => D.AT_off (by decide) (by omega) (by omega)),
    piece16 D.AT _ 384 512 inb_S768x768_S64x256_384_512 _ (wAT 128 slices_S256x256_o128_0_S64x256 (wV' (ld_e4 256 0 E.arg4 E.harg4 R.h2 _) (ld_e5 512 0 E.arg5 E.harg5 R.h3 _))
      (row8s R 512 slices_S1x768_o0_512_S1x256 _) (ld_scale E.arg9 E.harg9 E.i R.h7 6 (by decide) _ (off_val E.i 6) _ _)) (fun i hi j _ => D.AT_off (by decide) (by omega) (by omega)),
    piece16 D.AT _ 320 512 inb_S768x768_S64x256_320_512 _ (wAT 64 slices_S256x256_o64_0_S64x256 (wV' (ld_e4 256 0 E.arg4 E.harg4 R.h2 _) (ld_e5 512 0 E.arg5 E.harg5 R.h3 _))
      (row8s R 512 slices_S1x768_o0_512_S1x256 _) (ld_scale E.arg9 E.harg9 E.i R.h7 5 (by decide) _ (off_val E.i 5) _ _)) (fun i hi j _ => D.AT_off (by decide) (by omega) (by omega)),
    piece16 D.AT _ 256 512 inb_S768x768_S64x256_256_512 _ (wAT 0 slices_S256x256_o0_0_S64x256 (wV' (ld_e4 256 0 E.arg4 E.harg4 R.h2 _) (ld_e5 512 0 E.arg5 E.harg5 R.h3 _))
      (row8s R 512 slices_S1x768_o0_512_S1x256 _) (ld_scale E.arg9 E.harg9 E.i R.h7 4 (by decide) _ (off_val E.i 4) _ _)) (fun i hi j _ => D.AT_off (by decide) (by omega) (by omega)),
    piece16 D.AT _ 448 256 inb_S768x768_S64x256_448_256 _ (wATd 192 slices_S256x256_o192_0_S64x256 (by decide) (wV (ld_e4 256 0 E.arg4 E.harg4 R.h2 _) (ld_e5 256 0 E.arg5 E.harg5 R.h3 _))
      (row8s R 256 slices_S1x768_o0_256_S1x256 _) (ld_scale E.arg9 E.harg9 E.i R.h7 7 (by decide) _ (off_val E.i 7) _ _)) (fun i hi j _ => D.AT_diag (by decide) (by omega)),
    piece16 D.AT _ 384 256 inb_S768x768_S64x256_384_256 _ (wATd 128 slices_S256x256_o128_0_S64x256 (by decide) (wV (ld_e4 256 0 E.arg4 E.harg4 R.h2 _) (ld_e5 256 0 E.arg5 E.harg5 R.h3 _))
      (row8s R 256 slices_S1x768_o0_256_S1x256 _) (ld_scale E.arg9 E.harg9 E.i R.h7 6 (by decide) _ (off_val E.i 6) _ _)) (fun i hi j _ => D.AT_diag (by decide) (by omega)),
    piece16 D.AT _ 320 256 inb_S768x768_S64x256_320_256 _ (wATd 64 slices_S256x256_o64_0_S64x256 (by decide) (wV (ld_e4 256 0 E.arg4 E.harg4 R.h2 _) (ld_e5 256 0 E.arg5 E.harg5 R.h3 _))
      (row8s R 256 slices_S1x768_o0_256_S1x256 _) (ld_scale E.arg9 E.harg9 E.i R.h7 5 (by decide) _ (off_val E.i 5) _ _)) (fun i hi j _ => D.AT_diag (by decide) (by omega)),
    piece16 D.AT _ 256 256 inb_S768x768_S64x256_256_256 _ (wATd 0 slices_S256x256_o0_0_S64x256 (by decide) (wV (ld_e4 256 0 E.arg4 E.harg4 R.h2 _) (ld_e5 256 0 E.arg5 E.harg5 R.h3 _))
      (row8s R 256 slices_S1x768_o0_256_S1x256 _) (ld_scale E.arg9 E.harg9 E.i R.h7 4 (by decide) _ (off_val E.i 4) _ _)) (fun i hi j _ => D.AT_diag (by decide) (by omega)),
    piece16 D.AT _ 192 512 inb_S768x768_S64x256_192_512 _ (wAT 192 slices_S256x256_o192_0_S64x256 (wV (ld_e4 0 0 E.arg4 E.harg4 R.h2 _) (ld_e5 512 0 E.arg5 E.harg5 R.h3 _))
      (row8s R 512 slices_S1x768_o0_512_S1x256 _) (ld_scale E.arg9 E.harg9 E.i R.h7 3 (by decide) _ (off_val E.i 3) _ _)) (fun i hi j _ => D.AT_off (by decide) (by omega) (by omega)),
    piece16 D.AT _ 128 512 inb_S768x768_S64x256_128_512 _ (wAT 128 slices_S256x256_o128_0_S64x256 (wV (ld_e4 0 0 E.arg4 E.harg4 R.h2 _) (ld_e5 512 0 E.arg5 E.harg5 R.h3 _))
      (row8s R 512 slices_S1x768_o0_512_S1x256 _) (ld_scale E.arg9 E.harg9 E.i R.h7 2 (by decide) _ (off_val E.i 2) _ _)) (fun i hi j _ => D.AT_off (by decide) (by omega) (by omega)),
    piece16 D.AT _ 64 512 inb_S768x768_S64x256_64_512 _ (wAT 64 slices_S256x256_o64_0_S64x256 (wV (ld_e4 0 0 E.arg4 E.harg4 R.h2 _) (ld_e5 512 0 E.arg5 E.harg5 R.h3 _))
      (row8s R 512 slices_S1x768_o0_512_S1x256 _) (ld_scale E.arg9 E.harg9 E.i R.h7 1 (by decide) _ (off_val E.i 1) _ _)) (fun i hi j _ => D.AT_off (by decide) (by omega) (by omega)),
    piece16 D.AT _ 0 512 inb_S768x768_S64x256_0_512 _ (wAT 0 slices_S256x256_o0_0_S64x256 (wV (ld_e4 0 0 E.arg4 E.harg4 R.h2 _) (ld_e5 512 0 E.arg5 E.harg5 R.h3 _))
      (row8s R 512 slices_S1x768_o0_512_S1x256 _) (ld_scale E.arg9 E.harg9 E.i R.h7 0 (by decide) _ (off_val E.i 0) _ _)) (fun i hi j _ => D.AT_off (by decide) (by omega) (by omega)),
    piece16 D.AT _ 192 256 inb_S768x768_S64x256_192_256 _ (wAT 192 slices_S256x256_o192_0_S64x256 (wV (ld_e4 0 0 E.arg4 E.harg4 R.h2 _) (ld_e5 256 0 E.arg5 E.harg5 R.h3 _))
      (row8s R 256 slices_S1x768_o0_256_S1x256 _) (ld_scale E.arg9 E.harg9 E.i R.h7 3 (by decide) _ (off_val E.i 3) _ _)) (fun i hi j _ => D.AT_off (by decide) (by omega) (by omega)),
    piece16 D.AT _ 128 256 inb_S768x768_S64x256_128_256 _ (wAT 128 slices_S256x256_o128_0_S64x256 (wV (ld_e4 0 0 E.arg4 E.harg4 R.h2 _) (ld_e5 256 0 E.arg5 E.harg5 R.h3 _))
      (row8s R 256 slices_S1x768_o0_256_S1x256 _) (ld_scale E.arg9 E.harg9 E.i R.h7 2 (by decide) _ (off_val E.i 2) _ _)) (fun i hi j _ => D.AT_off (by decide) (by omega) (by omega)),
    piece16 D.AT _ 64 256 inb_S768x768_S64x256_64_256 _ (wAT 64 slices_S256x256_o64_0_S64x256 (wV (ld_e4 0 0 E.arg4 E.harg4 R.h2 _) (ld_e5 256 0 E.arg5 E.harg5 R.h3 _))
      (row8s R 256 slices_S1x768_o0_256_S1x256 _) (ld_scale E.arg9 E.harg9 E.i R.h7 1 (by decide) _ (off_val E.i 1) _ _)) (fun i hi j _ => D.AT_off (by decide) (by omega) (by omega)),
    piece16 D.AT _ 0 256 inb_S768x768_S64x256_0_256 _ (wAT 0 slices_S256x256_o0_0_S64x256 (wV (ld_e4 0 0 E.arg4 E.harg4 R.h2 _) (ld_e5 256 0 E.arg5 E.harg5 R.h3 _))
      (row8s R 256 slices_S1x768_o0_256_S1x256 _) (ld_scale E.arg9 E.harg9 E.i R.h7 0 (by decide) _ (off_val E.i 0) _ _)) (fun i hi j _ => D.AT_off (by decide) (by omega) (by omega)),
    piece16 D.AT _ 192 0 inb_S768x768_S64x256_192_0 _ (wATd 192 slices_S256x256_o192_0_S64x256 (by decide) (wV (ld_e4 0 0 E.arg4 E.harg4 R.h2 _) (ld_e5 0 0 E.arg5 E.harg5 R.h3 _))
      (row8s R 0 slices_S1x768_o0_0_S1x256 _) (ld_scale E.arg9 E.harg9 E.i R.h7 3 (by decide) _ (off_val E.i 3) _ _)) (fun i hi j _ => D.AT_diag (by decide) (by omega)),
    piece16 D.AT _ 128 0 inb_S768x768_S64x256_128_0 _ (wATd 128 slices_S256x256_o128_0_S64x256 (by decide) (wV (ld_e4 0 0 E.arg4 E.harg4 R.h2 _) (ld_e5 0 0 E.arg5 E.harg5 R.h3 _))
      (row8s R 0 slices_S1x768_o0_0_S1x256 _) (ld_scale E.arg9 E.harg9 E.i R.h7 2 (by decide) _ (off_val E.i 2) _ _)) (fun i hi j _ => D.AT_diag (by decide) (by omega)),
    piece16 D.AT _ 64 0 inb_S768x768_S64x256_64_0 _ (wATd 64 slices_S256x256_o64_0_S64x256 (by decide) (wV (ld_e4 0 0 E.arg4 E.harg4 R.h2 _) (ld_e5 0 0 E.arg5 E.harg5 R.h3 _))
      (row8s R 0 slices_S1x768_o0_0_S1x256 _) (ld_scale E.arg9 E.harg9 E.i R.h7 1 (by decide) _ (off_val E.i 1) _ _)) (fun i hi j _ => D.AT_diag (by decide) (by omega)),
    piece16 D.AT _ 0 0 inb_S768x768_S64x256_0_0 _ (wATd 0 slices_S256x256_o0_0_S64x256 (by decide) (wV (ld_e4 0 0 E.arg4 E.harg4 R.h2 _) (ld_e5 0 0 E.arg5 E.harg5 R.h3 _))
      (row8s R 0 slices_S1x768_o0_0_S1x256 _) (ld_scale E.arg9 E.harg9 E.i R.h7 0 (by decide) _ (off_val E.i 0) _ _)) (fun i hi j _ => D.AT_diag (by decide) (by omega)), trivial⟩

/-- The buffer `pt`. -/
theorem hs9 : View.PiecesOf (GR ι16 D.PT) E.HS9 := by
  exact ⟨piece16 D.PT _ 256 512 inb_S768x768_S256x256_256_512 _ (wPT' 512 slices_S1x768_o0_512_S1x256 (row8 R _)
      (rd16 E.arg20.view _ _ (hs4 R) 256 0 inb_S768x256_S256x256_256_0 128 2 2 (by decide) rfl rfl rfl)
      (rd16 E.arg21.view _ _ (hs5 R) 512 0 inb_S768x256_S256x256_512_0 128 2 2 (by decide) rfl rfl rfl))
      (fun i hi j hj => D.PT_off (fun k => D.cs 512 k) (fun k _ => by simp only [Data.KD, zero_add, show (256 + i) / 256 = 1 by omega, Nat.reduceMul, Nat.reduceAdd]) (fun k _ => by simp only [Data.QD, zero_add, show (512 + j) / 256 = 2 by omega, Nat.reduceMul, Nat.reduceAdd]) (by omega)),
    piece16 D.PT _ 0 512 inb_S768x768_S256x256_0_512 _ (wPT' 512 slices_S1x768_o0_512_S1x256 (row8 R _)
      (rd16 E.arg22.view _ _ (hs6 R) 0 0 inb_S256x256_S256x256_0_0 128 2 2 (by decide) rfl rfl rfl)
      (rd16 E.arg21.view _ _ (hs5 R) 512 0 inb_S768x256_S256x256_512_0 128 2 2 (by decide) rfl rfl rfl))
      (fun i hi j hj => D.PT_off (fun k => D.cs 512 k) (fun k _ => by simp only [Data.KD2, zero_add]) (fun k _ => by simp only [Data.QD, zero_add, show (512 + j) / 256 = 2 by omega, Nat.reduceMul, Nat.reduceAdd]) (by omega)),
    piece16 D.PT _ 0 256 inb_S768x768_S256x256_0_256 _ (wPT' 256 slices_S1x768_o0_256_S1x256 (row8 R _)
      (rd16 E.arg20.view _ _ (hs4 R) 0 0 inb_S768x256_S256x256_0_0 128 2 2 (by decide) rfl rfl rfl)
      (rd16 E.arg21.view _ _ (hs5 R) 256 0 inb_S768x256_S256x256_256_0 128 2 2 (by decide) rfl rfl rfl))
      (fun i hi j hj => D.PT_off (fun k => D.cs 256 k) (fun k _ => by simp only [Data.KD, zero_add, show (i) / 256 = 0 by omega, Nat.reduceMul, Nat.reduceAdd]) (fun k _ => by simp only [Data.QD, zero_add, show (256 + j) / 256 = 1 by omega, Nat.reduceMul, Nat.reduceAdd]) (by omega)),
    piece16 D.PT _ 640 512 inb_S768x768_S128x128_640_512 _ wZ (fun i hi j hj => D.PT_zero (by omega)),
    piece16 D.PT _ 640 640 inb_S768x768_S128x128_640_640 _ (wPTd 640 slices_S1x768_o0_640_S1x128 (row8 R _)
      (rd16 E.arg17.view _ _ (hs1 R) 640 0 inb_S768x256_S128x256_640_0 128 1 2 (by decide) rfl rfl rfl)
      (rd16 E.arg16.view _ _ (hs0 R) 640 0 inb_S768x256_S128x256_640_0 128 1 2 (by decide) rfl rfl rfl))
      (fun i hi j hj => D.PT_diag (fun k => D.cs 704 k) (fun k _ => (D.KF_at (c := 5) (by omega) _).trans (by simp only [zero_add, Nat.reduceMul, Nat.reduceAdd])) (fun k _ => (D.QF_at (c := 5) (by omega) _).trans (by simp only [zero_add, Nat.reduceMul, Nat.reduceAdd]))),
    piece16 D.PT _ 512 640 inb_S768x768_S128x128_512_640 _ (wPT 640 slices_S1x768_o0_640_S1x128 (row8 R _)
      (rd16 E.arg18.view _ _ (hs2 R) 256 0 inb_S384x256_S128x256_256_0 128 1 2 (by decide) rfl rfl rfl)
      (rd16 E.arg16.view _ _ (hs0 R) 640 0 inb_S768x256_S128x256_640_0 128 1 2 (by decide) rfl rfl rfl))
      (fun i hi j hj => D.PT_off (fun k => D.cs 704 k) (fun k _ => by simp only [Data.KX, zero_add, show (256 + i) / 128 = 2 by omega, show (256 + i) % 128 = i by omega, Nat.reduceMul, Nat.reduceAdd]) (fun k _ => (D.QF_at (c := 5) (by omega) _).trans (by simp only [zero_add, Nat.reduceMul, Nat.reduceAdd])) (by omega)),
    piece16 D.PT _ 512 512 inb_S768x768_S128x128_512_512 _ (wPTd 512 slices_S1x768_o0_512_S1x128 (row8 R _)
      (rd16 E.arg17.view _ _ (hs1 R) 512 0 inb_S768x256_S128x256_512_0 128 1 2 (by decide) rfl rfl rfl)
      (rd16 E.arg16.view _ _ (hs0 R) 512 0 inb_S768x256_S128x256_512_0 128 1 2 (by decide) rfl rfl rfl))
      (fun i hi j hj => D.PT_diag (fun k => D.cs 576 k) (fun k _ => (D.KF_at (c := 4) (by omega) _).trans (by simp only [zero_add, Nat.reduceMul, Nat.reduceAdd])) (fun k _ => (D.QF_at (c := 4) (by omega) _).trans (by simp only [zero_add, Nat.reduceMul, Nat.reduceAdd]))),
    piece16 D.PT _ 384 256 inb_S768x768_S128x128_384_256 _ wZ (fun i hi j hj => D.PT_zero (by omega)),
    piece16 D.PT _ 384 384 inb_S768x768_S128x128_384_384 _ (wPTd 384 slices_S1x768_o0_384_S1x128 (row8 R _)
      (rd16 E.arg17.view _ _ (hs1 R) 384 0 inb_S768x256_S128x256_384_0 128 1 2 (by decide) rfl rfl rfl)
      (rd16 E.arg16.view _ _ (hs0 R) 384 0 inb_S768x256_S128x256_384_0 128 1 2 (by decide) rfl rfl rfl))
      (fun i hi j hj => D.PT_diag (fun k => D.cs 448 k) (fun k _ => (D.KF_at (c := 3) (by omega) _).trans (by simp only [zero_add, Nat.reduceMul, Nat.reduceAdd])) (fun k _ => (D.QF_at (c := 3) (by omega) _).trans (by simp only [zero_add, Nat.reduceMul, Nat.reduceAdd]))),
    piece16 D.PT _ 256 384 inb_S768x768_S128x128_256_384 _ (wPT 384 slices_S1x768_o0_384_S1x128 (row8 R _)
      (rd16 E.arg18.view _ _ (hs2 R) 128 0 inb_S384x256_S128x256_128_0 128 1 2 (by decide) rfl rfl rfl)
      (rd16 E.arg16.view _ _ (hs0 R) 384 0 inb_S768x256_S128x256_384_0 128 1 2 (by decide) rfl rfl rfl))
      (fun i hi j hj => D.PT_off (fun k => D.cs 448 k) (fun k _ => by simp only [Data.KX, zero_add, show (128 + i) / 128 = 1 by omega, show (128 + i) % 128 = i by omega, Nat.reduceMul, Nat.reduceAdd]) (fun k _ => (D.QF_at (c := 3) (by omega) _).trans (by simp only [zero_add, Nat.reduceMul, Nat.reduceAdd])) (by omega)),
    piece16 D.PT _ 256 256 inb_S768x768_S128x128_256_256 _ (wPTd 256 slices_S1x768_o0_256_S1x128 (row8 R _)
      (rd16 E.arg17.view _ _ (hs1 R) 256 0 inb_S768x256_S128x256_256_0 128 1 2 (by decide) rfl rfl rfl)
      (rd16 E.arg16.view _ _ (hs0 R) 256 0 inb_S768x256_S128x256_256_0 128 1 2 (by decide) rfl rfl rfl))
      (fun i hi j hj => D.PT_diag (fun k => D.cs 320 k) (fun k _ => (D.KF_at (c := 2) (by omega) _).trans (by simp only [zero_add, Nat.reduceMul, Nat.reduceAdd])) (fun k _ => (D.QF_at (c := 2) (by omega) _).trans (by simp only [zero_add, Nat.reduceMul, Nat.reduceAdd]))),
    piece16 D.PT _ 128 0 inb_S768x768_S128x128_128_0 _ wZ (fun i hi j hj => D.PT_zero (by omega)),
    piece16 D.PT _ 128 128 inb_S768x768_S128x128_128_128 _ (wPTd 128 slices_S1x768_o0_128_S1x128 (row8 R _)
      (rd16 E.arg17.view _ _ (hs1 R) 128 0 inb_S768x256_S128x256_128_0 128 1 2 (by decide) rfl rfl rfl)
      (rd16 E.arg16.view _ _ (hs0 R) 128 0 inb_S768x256_S128x256_128_0 128 1 2 (by decide) rfl rfl rfl))
      (fun i hi j hj => D.PT_diag (fun k => D.cs 192 k) (fun k _ => (D.KF_at (c := 1) (by omega) _).trans (by simp only [zero_add, Nat.reduceMul, Nat.reduceAdd])) (fun k _ => (D.QF_at (c := 1) (by omega) _).trans (by simp only [zero_add, Nat.reduceMul, Nat.reduceAdd]))),
    piece16 D.PT _ 0 128 inb_S768x768_S128x128_0_128 _ (wPT 128 slices_S1x768_o0_128_S1x128 (row8 R _)
      (rd16 E.arg18.view _ _ (hs2 R) 0 0 inb_S384x256_S128x256_0_0 128 1 2 (by decide) rfl rfl rfl)
      (rd16 E.arg16.view _ _ (hs0 R) 128 0 inb_S768x256_S128x256_128_0 128 1 2 (by decide) rfl rfl rfl))
      (fun i hi j hj => D.PT_off (fun k => D.cs 192 k) (fun k _ => by simp only [Data.KX, zero_add, show (i) / 128 = 0 by omega, show (i) % 128 = i by omega, Nat.reduceMul, Nat.reduceAdd]) (fun k _ => (D.QF_at (c := 1) (by omega) _).trans (by simp only [zero_add, Nat.reduceMul, Nat.reduceAdd])) (by omega)),
    piece16 D.PT _ 0 0 inb_S768x768_S128x128_0_0 _ (wPTd 0 slices_S1x768_o0_0_S1x128 (row8 R _)
      (rd16 E.arg17.view _ _ (hs1 R) 0 0 inb_S768x256_S128x256_0_0 128 1 2 (by decide) rfl rfl rfl)
      (rd16 E.arg16.view _ _ (hs0 R) 0 0 inb_S768x256_S128x256_0_0 128 1 2 (by decide) rfl rfl rfl))
      (fun i hi j hj => D.PT_diag (fun k => D.cs 64 k) (fun k _ => (D.KF_at (c := 0) (by omega) _).trans (by simp only [zero_add, Nat.reduceMul, Nat.reduceAdd])) (fun k _ => (D.QF_at (c := 0) (by omega) _).trans (by simp only [zero_add, Nat.reduceMul, Nat.reduceAdd]))), trivial⟩

end Env

end Cert.RV
-- ==== Proof.Grads.lean ====
/-
  The sums of the attention matrix of the values against the decayed queries and against the decayed keys: what the buffers
  `ak` and `aq` hold. The kernel adds the blocks that are not masked; the others are zero.
-/
module

public import proofs.«01_k».proof.Proof.Attn

@[expose] public section

noncomputable section

namespace Cert.RV

open Idealize.ShloMosaic Idealize.ShloMosaic.ValueIdx Idealize.SL.Sem
open Cert.KernelIdeal Cert.KernelIdeal.Gen
open scoped BigOperators

namespace Data
variable (D : Data)

/-- The query of token `x` with its decay from the middle of the block of token `t`. -/
def AF (t x k : ℕ) : ℝ := D.Q x k * (Real.exp (D.cs (x + 1) k - D.cs (128 * (t / 128) + 64) k) * (1 / 16))

/-- The key of token `x` with its decay to the middle of the block of token `t`. -/
def BF (t x k : ℕ) : ℝ := D.K x k * Real.exp (D.cs (128 * (t / 128) + 64) k - D.cs (x + 1) k)

/-- The part of `AK` that comes from the `n` tokens from `b` on. -/
def akS (t k b n : ℕ) : ℝ := ∑ x ∈ Finset.range n, D.AT t (b + x) * D.AF t (b + x) k

/-- The part of `AQ` that comes from the `n` tokens from `b` on. -/
def aqS (t k b n : ℕ) : ℝ := ∑ x ∈ Finset.range n, D.AT (b + x) t * D.BF t (b + x) k

/-- The values' attention summed against the decayed queries. -/
def AK (t k : ℕ) : ℝ := ∑ x ∈ Finset.range 768, D.AT t x * D.AF t x k

/-- The values' attention summed against the decayed keys. -/
def AQ (t k : ℕ) : ℝ := ∑ x ∈ Finset.range 768, D.AT x t * D.BF t x k

variable {D} {t k : ℕ}

/-- Below the diagonal the weights of the gradient are zero. -/
theorem AT_zero {j i : ℕ} (h : i < j) : D.AT j i = 0 := by rw [AT, sel_eq, if_neg (by omega)]

/-- A partial sum for the gradient of a key, whose decays the body multiplies afterwards. -/
theorem akb (b n : ℕ) (f : ℕ → ℝ) (c : ℝ) (h : ∀ x < n, f x * c = D.AF t (b + x) k) :
    (∑ x ∈ Finset.range n, D.AT t (b + x) * f x) * c = D.akS t k b n := by
  rw [Finset.sum_mul]
  exact Finset.sum_congr rfl fun x hx => by rw [mul_assoc, h x (Finset.mem_range.mp hx)]

/-- A partial sum for the gradient of a key, whose decays are already in the summands. -/
theorem akb1 (b n : ℕ) (f : ℕ → ℝ) (h : ∀ x < n, f x = D.AF t (b + x) k) :
    ∑ x ∈ Finset.range n, D.AT t (b + x) * f x = D.akS t k b n :=
  Finset.sum_congr rfl fun x hx => by rw [h x (Finset.mem_range.mp hx)]

/-- A partial sum for the gradient of a query, whose decays the body multiplies afterwards. -/
theorem aqb (b n : ℕ) (f : ℕ → ℝ) (c : ℝ) (h : ∀ x < n, f x * c = D.BF t (b + x) k) :
    (∑ x ∈ Finset.range n, D.AT (b + x) t * f x) * c = D.aqS t k b n := by
  rw [Finset.sum_mul]
  exact Finset.sum_congr rfl fun x hx => by rw [mul_assoc, h x (Finset.mem_range.mp hx)]

/-- A partial sum for the gradient of a query, whose decays are already in the summands. -/
theorem aqb1 (b n : ℕ) (f : ℕ → ℝ) (h : ∀ x < n, f x = D.BF t (b + x) k) :
    ∑ x ∈ Finset.range n, D.AT (b + x) t * f x = D.aqS t k b n :=
  Finset.sum_congr rfl fun x hx => by rw [h x (Finset.mem_range.mp hx)]

/-- Partial sums for a key over adjoining ranges of tokens add up. -/
theorem akS_cat (b n b' m s : ℕ) (h : b' = b + n) (h' : s = n + m) : D.akS t k b n + D.akS t k b' m = D.akS t k b s := by
  subst h h'
  unfold akS
  rw [Finset.sum_range_add]
  simp only [add_assoc]

/-- Partial sums for a query over adjoining ranges of tokens add up. -/
theorem aqS_cat (b n b' m s : ℕ) (h : b' = b + n) (h' : s = n + m) : D.aqS t k b n + D.aqS t k b' m = D.aqS t k b s := by
  subst h h'
  unfold aqS
  rw [Finset.sum_range_add]
  simp only [add_assoc]

/-- The tokens before `t` do not count. -/
theorem akS_AK (b s : ℕ) (hs : b + s = 768) (hb : b ≤ t) : D.akS t k b s = D.AK t k := by
  have e : D.akS t k 0 b + D.akS t k (0 + b) s = D.akS t k 0 (b + s) := akS_cat 0 b _ s _ rfl rfl
  have z : D.akS t k 0 b = 0 := Finset.sum_eq_zero fun x hx => by
    rw [AT_zero (by have := Finset.mem_range.mp hx; omega), zero_mul]
  rw [z, zero_add, zero_add, hs] at e
  rw [e]
  unfold akS AK
  simp only [zero_add]

/-- The tokens after `t` do not count. -/
theorem aqS_AQ (s : ℕ) (hs : s ≤ 768) (hb : t < s) : D.aqS t k 0 s = D.AQ t k := by
  have e : D.aqS t k 0 s + D.aqS t k s (768 - s) = D.aqS t k 0 768 := aqS_cat 0 s _ _ _ (zero_add _).symm (by omega)
  have z : D.aqS t k s (768 - s) = 0 := Finset.sum_eq_zero fun x hx => by
    rw [AT_zero (by omega), zero_mul]
  rw [z, add_zero] at e
  rw [e]
  unfold aqS AQ
  simp only [zero_add]

/-- A decayed query, decayed further. -/
theorem AF_of {x c : ℕ} (B M : ℕ) (hM : M = 128 * c + 64) (h : t / 128 = c) {v : ℝ}
    (hv : v = D.Q x k * (Real.exp (D.cs (x + 1) k - D.cs B k) * (1 / 16))) :
    v * Real.exp (D.cs B k - D.cs M k) = D.AF t x k := by
  subst hM
  rw [AF, h, hv, show D.cs (x + 1) k - D.cs (128 * c + 64) k
    = (D.cs (x + 1) k - D.cs B k) + (D.cs B k - D.cs (128 * c + 64) k) by ring, Real.exp_add]
  ring

/-- A decayed query of the same block is the factor of the gradient of the key. -/
theorem AF_at {x c : ℕ} (h : t / 128 = c) {v : ℝ}
    (hv : v = D.Q x k * (Real.exp (D.cs (x + 1) k - D.cs (128 * c + 64) k) * (1 / 16))) : v = D.AF t x k := by
  rw [AF, h, hv]

/-- A decayed key moved to the middle of the block is the factor of the gradient of the query. -/
theorem BF_of {x c : ℕ} (B M : ℕ) (hM : M = 128 * c + 64) (h : t / 128 = c) {v : ℝ}
    (hv : v = D.K x k * Real.exp (D.cs B k - D.cs (x + 1) k)) :
    v * Real.exp (D.cs M k - D.cs B k) = D.BF t x k := by
  subst hM
  rw [BF, h, hv, show D.cs (128 * c + 64) k - D.cs (x + 1) k
    = (D.cs B k - D.cs (x + 1) k) + (D.cs (128 * c + 64) k - D.cs B k) by ring, Real.exp_add]
  ring

/-- A decayed key of the same block is the factor of the gradient of the query. -/
theorem BF_at {x c : ℕ} (h : t / 128 = c) {v : ℝ}
    (hv : v = D.K x k * Real.exp (D.cs (128 * c + 64) k - D.cs (x + 1) k)) : v = D.BF t x k := by
  rw [BF, h, hv]

end Data

/-! ## The payloads -/

/-- This contraction is the plain product of two matrices. -/
theorem dotB : dot_S256x256_S256x256_S256x256_1_0_0_1_n_n = DotDims.plain 256 256 256 := rfl

section Dots
variable {f g : ℕ → ℕ → ℝ}

/-- The product with the first matrix transposed, for blocks of 128. -/
theorem mmT : (matmul dot_S128x128_S128x256_S128x256_0_0_1_1_n_n none (V2 .bf16 f) (V2 .bf16 g) (V2 .f32 fun _ _ => 0) : FVec Ideal S128x256 .f32)
    = V2 .f32 fun i j => ∑ x ∈ Finset.range 128, f x i * g x j :=
  v_mm_tn f g (k := 128) dot_S128x128_S128x256_S128x256_0_0_1_1_n_n rfl rfl fun _ _ => ⟨rfl, rfl, rfl, rfl⟩

/-- The product with the first matrix transposed, for segments of 256. -/
theorem mmT' : (matmul dot_S256x256_S256x256_S256x256_0_0_1_1_n_n none (V2 .bf16 f) (V2 .bf16 g) (V2 .f32 fun _ _ => 0) : FVec Ideal S256x256 .f32)
    = V2 .f32 fun i j => ∑ x ∈ Finset.range 256, f x i * g x j :=
  v_mm_tn f g (k := 256) dot_S256x256_S256x256_S256x256_0_0_1_1_n_n rfl rfl fun _ _ => ⟨rfl, rfl, rfl, rfl⟩

end Dots

section Payloads
variable {a a' : FVec Ideal S128x128 .bf16} {b b' : FVec Ideal S128x256 .bf16} {A A' B B' : FVec Ideal S256x256 .bf16}
  {r : FVec Ideal S1x256 .f32} {f f' g g' F F' G G' u : ℕ → ℕ → ℝ}

/-- The gradient of the keys of the first block of the first segment: its own segment, then the two later segments. -/
theorem wK0 (hr : r = V2 .f32 u) (ha : a = V2 .bf16 f) (hb : b = V2 .bf16 g) (ha' : a' = V2 .bf16 f') (hb' : b' = V2 .bf16 g')
    (hA : A = V2 .bf16 F) (hB : B = V2 .bf16 G) (hA' : A' = V2 .bf16 F') (hB' : B' = V2 .bf16 G') :
    k0_pay203 r (k0_pay201 a b a' b') A B A' B' = V2 .f32 fun i j =>
      ((∑ x ∈ Finset.range 128, f i x * g x j) + ∑ x ∈ Finset.range 128, f' i x * g' x j)
        + ((∑ x ∈ Finset.range 256, F i x * G x j) + ∑ x ∈ Finset.range 256, F' i x * G' x j) * u 0 j := by
  unfold k0_pay203 k0_pay202 k0_pay201
  dsimp only
  rw [hr, ha, hb, ha', hb', hA, hB, hA', hB', v_const, v_const, v_mm _ _ _ dotA, v_mm _ _ _ dotA, v_mm _ _ _ dotB, v_mm _ _ _ dotB,
    v_addf, v_addf, v_slice, v_row _ (by decide) (by decide), v_mulf, v_addf, v_self]
  simp only [zero_add]

/-- The gradient of the keys of the second block of the first segment. -/
theorem wK1 (hr : r = V2 .f32 u) (ha : a = V2 .bf16 f) (hb : b = V2 .bf16 g)
    (hA : A = V2 .bf16 F) (hB : B = V2 .bf16 G) (hA' : A' = V2 .bf16 F') (hB' : B' = V2 .bf16 G') :
    k0_pay204 r a b (constant S128x256 .f32 0x00000000#32) A B A' B' = V2 .f32 fun i j => (∑ x ∈ Finset.range 128, f i x * g x j)
        + ((∑ x ∈ Finset.range 256, F (128 + i) x * G x j) + ∑ x ∈ Finset.range 256, F' (128 + i) x * G' x j) * u 0 j := by
  unfold k0_pay204 k0_pay202
  dsimp only
  rw [hr, ha, hb, hA, hB, hA', hB', v_const, v_const, v_mm _ _ _ dotA, v_mm _ _ _ dotB, v_mm _ _ _ dotB,
    v_addf, v_slice, v_row _ (by decide) (by decide), v_mulf, v_addf, v_self]
  simp only [zero_add]

/-- The gradient of the keys of the first block of the second segment. -/
theorem wK2 (hr : r = V2 .f32 u) (ha : a = V2 .bf16 f) (hb : b = V2 .bf16 g) (ha' : a' = V2 .bf16 f') (hb' : b' = V2 .bf16 g')
    (hA : A = V2 .bf16 F) (hB : B = V2 .bf16 G) :
    k0_pay207 r (k0_pay205 a b a' b') A B = V2 .f32 fun i j =>
      ((∑ x ∈ Finset.range 128, f i x * g x j) + ∑ x ∈ Finset.range 128, f' i x * g' x j)
        + (∑ x ∈ Finset.range 256, F i x * G x j) * u 0 j := by
  unfold k0_pay207 k0_pay206 k0_pay205
  dsimp only
  rw [hr, ha, hb, ha', hb', hA, hB, v_const, v_const, v_mm _ _ _ dotA, v_mm _ _ _ dotA, v_mm _ _ _ dotB,
    v_addf, v_slice, v_row _ (by decide) (by decide), v_mulf, v_addf, v_self]
  simp only [zero_add]

/-- The gradient of the keys of the second block of the second segment. -/
theorem wK3 (hr : r = V2 .f32 u) (ha : a = V2 .bf16 f) (hb : b = V2 .bf16 g) (hA : A = V2 .bf16 F) (hB : B = V2 .bf16 G) :
    k0_pay208 r a b A B = V2 .f32 fun i j => (∑ x ∈ Finset.range 128, f i x * g x j)
        + (∑ x ∈ Finset.range 256, F (128 + i) x * G x j) * u 0 j := by
  unfold k0_pay208 k0_pay206
  dsimp only
  rw [hr, ha, hb, hA, hB, v_const, v_const, v_mm _ _ _ dotA, v_mm _ _ _ dotB,
    v_slice, v_row _ (by decide) (by decide), v_mulf, v_addf, v_self]
  simp only [zero_add]

/-- The gradient of the keys of the first block of the last segment. -/
theorem wK4 (ha : a = V2 .bf16 f) (hb : b = V2 .bf16 g) (ha' : a' = V2 .bf16 f') (hb' : b' = V2 .bf16 g') :
    k0_pay211 (k0_pay209 a b a' b') = V2 .f32 fun i j =>
      (∑ x ∈ Finset.range 128, f i x * g x j) + ∑ x ∈ Finset.range 128, f' i x * g' x j := by
  unfold k0_pay211 k0_pay209
  dsimp only
  rw [ha, hb, ha', hb', v_const, v_mm _ _ _ dotA, v_mm _ _ _ dotA, v_addf, v_self]

/-- The gradient of the keys of the second block of the last segment. -/
theorem wK5 (ha : a = V2 .bf16 f) (hb : b = V2 .bf16 g) :
    k0_pay212 (k0_pay210 a b) = V2 .f32 fun i j => ∑ x ∈ Finset.range 128, f i x * g x j := by
  unfold k0_pay212 k0_pay210
  dsimp only
  rw [ha, hb, v_const, v_mm _ _ _ dotA, v_self]

/-- The gradient of the queries of the first block of the first segment. -/
theorem wQ0 (ha : a = V2 .bf16 f) (hb : b = V2 .bf16 g) :
    k0_pay213 a b = V2 .f32 fun i j => ∑ x ∈ Finset.range 128, f x i * g x j := by
  unfold k0_pay213
  dsimp only
  rw [ha, hb, v_const, mmT, v_self]

/-- The gradient of the queries of the second block of the first segment. -/
theorem wQ1 (ha : a = V2 .bf16 f) (hb : b = V2 .bf16 g) (ha' : a' = V2 .bf16 f') (hb' : b' = V2 .bf16 g') :
    k0_pay214 a b a' b' = V2 .f32 fun i j => (∑ x ∈ Finset.range 128, f x i * g x j) + ∑ x ∈ Finset.range 128, f' x i * g' x j := by
  unfold k0_pay214
  dsimp only
  rw [ha, hb, ha', hb', v_const, mmT, mmT, v_addf, v_self]

/-- The gradient of the queries of the first block of the second segment. -/
theorem wQ2 (hr : r = V2 .f32 u) (ha : a = V2 .bf16 f) (hb : b = V2 .bf16 g) (hA : A = V2 .bf16 F) (hB : B = V2 .bf16 G) :
    k0_pay217 r (k0_pay215 a b) A B = V2 .f32 fun i j => (∑ x ∈ Finset.range 128, f x i * g x j)
        + (∑ x ∈ Finset.range 256, F x i * G x j) * u 0 j := by
  unfold k0_pay217 k0_pay216 k0_pay215
  dsimp only
  rw [hr, ha, hb, hA, hB, v_const, v_const, mmT, mmT',
    v_slice, v_row _ (by decide) (by decide), v_mulf, v_addf, v_self]
  simp only [zero_add]

/-- The gradient of the queries of the second block of the second segment. -/
theorem wQ3 (hr : r = V2 .f32 u) (ha : a = V2 .bf16 f) (hb : b = V2 .bf16 g) (ha' : a' = V2 .bf16 f') (hb' : b' = V2 .bf16 g')
    (hA : A = V2 .bf16 F) (hB : B = V2 .bf16 G) :
    k0_pay218 r a b (constant S128x256 .f32 0x00000000#32) a' b' A B = V2 .f32 fun i j =>
      ((∑ x ∈ Finset.range 128, f x i * g x j) + ∑ x ∈ Finset.range 128, f' x i * g' x j)
        + (∑ x ∈ Finset.range 256, F x (128 + i) * G x j) * u 0 j := by
  unfold k0_pay218 k0_pay216
  dsimp only
  rw [hr, ha, hb, ha', hb', hA, hB, v_const, v_const, mmT, mmT, mmT',
    v_addf, v_slice, v_row _ (by decide) (by decide), v_mulf, v_addf, v_self]
  simp only [zero_add]

/-- The gradient of the queries of the first block of the last segment: the two earlier segments, then its own. -/
theorem wQ4 (hr : r = V2 .f32 u) (ha : a = V2 .bf16 f) (hb : b = V2 .bf16 g)
    (hA : A = V2 .bf16 F) (hB : B = V2 .bf16 G) (hA' : A' = V2 .bf16 F') (hB' : B' = V2 .bf16 G') :
    k0_pay222 r (k0_pay219 a b) A B A' B' = V2 .f32 fun i j => (∑ x ∈ Finset.range 128, f x i * g x j)
        + ((∑ x ∈ Finset.range 256, F x i * G x j) + ∑ x ∈ Finset.range 256, F' x i * G' x j) * u 0 j := by
  unfold k0_pay222 k0_pay221 k0_pay219
  dsimp only
  rw [hr, ha, hb, hA, hB, hA', hB', v_const, v_const, mmT, mmT', mmT', v_addf,
    v_slice, v_row _ (by decide) (by decide), v_mulf, v_addf, v_self]
  simp only [zero_add]

/-- The gradient of the queries of the second block of the last segment. -/
theorem wQ5 (hr : r = V2 .f32 u) (ha : a = V2 .bf16 f) (hb : b = V2 .bf16 g) (ha' : a' = V2 .bf16 f') (hb' : b' = V2 .bf16 g')
    (hA : A = V2 .bf16 F) (hB : B = V2 .bf16 G) (hA' : A' = V2 .bf16 F') (hB' : B' = V2 .bf16 G') :
    k0_pay223 r (k0_pay220 a b) a' b' A B A' B' = V2 .f32 fun i j =>
      ((∑ x ∈ Finset.range 128, f x i * g x j) + ∑ x ∈ Finset.range 128, f' x i * g' x j)
        + ((∑ x ∈ Finset.range 256, F x (128 + i) * G x j) + ∑ x ∈ Finset.range 256, F' x (128 + i) * G' x j) * u 0 j := by
  unfold k0_pay223 k0_pay221 k0_pay220
  dsimp only
  rw [hr, ha, hb, ha', hb', hA, hB, hA', hB', v_const, v_const, mmT, mmT, mmT', mmT', v_addf, v_addf,
    v_slice, v_row _ (by decide) (by decide), v_mulf, v_addf, v_self]
  simp only [zero_add]

end Payloads

namespace Env
variable {E : Env} {D : Data} (R : E.Real D)
include R

/-- A load of a block of `at`. -/
theorem rd8a (r c : ℕ) (inb) (hc : boxCov E.HS8 64 r c 2 2 = true) :
    E.arg24.view.readCov E.HS8 (Rect.unit (s := S768x768) ![r, c] S128x128.size inb).toLoadRect = V2 .bf16 fun i j => D.AT (r + i) (c + j) :=
  rd16 _ _ _ (hs8 R) r c inb 64 2 2 (by decide) rfl rfl hc

/-- A read of a segment of the stored weights of the gradient. -/
theorem rd8b (r c : ℕ) (inb) (hc : boxCov E.HS8 64 r c 4 4 = true) :
    E.arg24.view.readCov E.HS8 (Rect.unit (s := S768x768) ![r, c] S256x256.size inb).toLoadRect = V2 .bf16 fun i j => D.AT (r + i) (c + j) :=
  rd16 _ _ _ (hs8 R) r c inb 64 4 4 (by decide) rfl rfl hc

/-- The buffer `ak`. -/
theorem hs15 : View.PiecesOf (GR ι32 D.AK) E.HS15 := by
  exact ⟨piece32 D.AK _ 640 0 inb_S768x256_S128x256_640_0 _ (wK5 (rd8a R 640 640 inb_S768x768_S128x128_640_640 rfl) (rd16 E.arg16.view _ _ (hs0 R) 640 0 inb_S768x256_S128x256_640_0 128 1 2 (by decide) rfl rfl rfl)) (fun i hi j hj => by
        rw [Data.akb1 (t := 640 + i) (k := j) 640 128 (fun x => D.QF (640 + x) (0 + j)) (fun x hx => Data.AF_at (c := 5) (by omega) ((D.QF_at (c := 5) (by omega) _).trans (by simp only [zero_add, Nat.reduceMul, Nat.reduceAdd]))),
          Data.akS_AK 640 128 rfl (by omega), zero_add j]),
    piece32 D.AK _ 512 0 inb_S768x256_S128x256_512_0 _ (wK4 (rd8a R 512 512 inb_S768x768_S128x128_512_512 rfl) (rd16 E.arg16.view _ _ (hs0 R) 512 0 inb_S768x256_S128x256_512_0 128 1 2 (by decide) rfl rfl rfl) (rd8a R 512 640 inb_S768x768_S128x128_512_640 rfl) (rd16 E.arg19.view _ _ (hs3 R) 256 0 inb_S384x256_S128x256_256_0 128 1 2 (by decide) rfl rfl rfl)) (fun i hi j hj => by
        rw [Data.akb1 (t := 512 + i) (k := j) 512 128 (fun x => D.QF (512 + x) (0 + j)) (fun x hx => Data.AF_at (c := 4) (by omega) ((D.QF_at (c := 4) (by omega) _).trans (by simp only [zero_add, Nat.reduceMul, Nat.reduceAdd]))),
          Data.akb1 (t := 512 + i) (k := j) 640 128 (fun x => D.QX (256 + x) (0 + j)) (fun x hx => Data.AF_at (c := 4) (by omega) (by simp only [Data.QX, zero_add, show (256 + x) / 128 = 2 by omega, show (256 + x) % 128 = x by omega, Nat.reduceMul, Nat.reduceAdd])),
          Data.akS_cat 512 128 640 128 256 rfl rfl,
          Data.akS_AK 512 256 rfl (by omega), zero_add j]),
    piece32 D.AK _ 384 0 inb_S768x256_S128x256_384_0 _ (wK3 (rowRKZ D 3 (wM D 3 (ldG R 384 _)) (wE D 3 (ldG R 384 _))) (rd8a R 384 384 inb_S768x768_S128x128_384_384 rfl) (rd16 E.arg16.view _ _ (hs0 R) 384 0 inb_S768x256_S128x256_384_0 128 1 2 (by decide) rfl rfl rfl) (rd8b R 256 512 inb_S768x768_S256x256_256_512 rfl) (rd16 E.arg21.view _ _ (hs5 R) 512 0 inb_S768x256_S256x256_512_0 128 2 2 (by decide) rfl rfl rfl)) (fun i hi j hj => by
        rw [show 256 + (128 + i) = 384 + i by omega,
          Data.akb1 (t := 384 + i) (k := j) 384 128 (fun x => D.QF (384 + x) (0 + j)) (fun x hx => Data.AF_at (c := 3) (by omega) ((D.QF_at (c := 3) (by omega) _).trans (by simp only [zero_add, Nat.reduceMul, Nat.reduceAdd]))),
          Data.akb (t := 384 + i) (k := j) 512 256 (fun x => D.QD (512 + x) (0 + j)) _ (fun x hx => Data.AF_of (c := 3) 512 _ (by rfl) (by omega) (by simp only [Data.QD, zero_add, show (512 + x) / 256 = 2 by omega, Nat.reduceMul])),
          Data.akS_cat 384 128 512 256 384 rfl rfl,
          Data.akS_AK 384 384 rfl (by omega), zero_add j]),
    piece32 D.AK _ 256 0 inb_S768x256_S128x256_256_0 _ (wK2 (rowRKA D 2 (wM D 2 (ldG R 256 _)) (wE D 2 (ldG R 256 _)) (wE D 3 (ldG R 384 _))) (rd8a R 256 256 inb_S768x768_S128x128_256_256 rfl) (rd16 E.arg16.view _ _ (hs0 R) 256 0 inb_S768x256_S128x256_256_0 128 1 2 (by decide) rfl rfl rfl) (rd8a R 256 384 inb_S768x768_S128x128_256_384 rfl) (rd16 E.arg19.view _ _ (hs3 R) 128 0 inb_S384x256_S128x256_128_0 128 1 2 (by decide) rfl rfl rfl) (rd8b R 256 512 inb_S768x768_S256x256_256_512 rfl) (rd16 E.arg21.view _ _ (hs5 R) 512 0 inb_S768x256_S256x256_512_0 128 2 2 (by decide) rfl rfl rfl)) (fun i hi j hj => by
        rw [Data.akb1 (t := 256 + i) (k := j) 256 128 (fun x => D.QF (256 + x) (0 + j)) (fun x hx => Data.AF_at (c := 2) (by omega) ((D.QF_at (c := 2) (by omega) _).trans (by simp only [zero_add, Nat.reduceMul, Nat.reduceAdd]))),
          Data.akb1 (t := 256 + i) (k := j) 384 128 (fun x => D.QX (128 + x) (0 + j)) (fun x hx => Data.AF_at (c := 2) (by omega) (by simp only [Data.QX, zero_add, show (128 + x) / 128 = 1 by omega, show (128 + x) % 128 = x by omega, Nat.reduceMul, Nat.reduceAdd])),
          Data.akb (t := 256 + i) (k := j) 512 256 (fun x => D.QD (512 + x) (0 + j)) _ (fun x hx => Data.AF_of (c := 2) 512 _ (by rfl) (by omega) (by simp only [Data.QD, zero_add, show (512 + x) / 256 = 2 by omega, Nat.reduceMul])),
          Data.akS_cat 256 128 384 128 256 rfl rfl,
          Data.akS_cat 256 256 512 256 512 rfl rfl,
          Data.akS_AK 256 512 rfl (by omega), zero_add j]),
    piece32 D.AK _ 128 0 inb_S768x256_S128x256_128_0 _ (wK1 (rowRKZ D 1 (wM D 1 (ldG R 128 _)) (wE D 1 (ldG R 128 _))) (rd8a R 128 128 inb_S768x768_S128x128_128_128 rfl) (rd16 E.arg16.view _ _ (hs0 R) 128 0 inb_S768x256_S128x256_128_0 128 1 2 (by decide) rfl rfl rfl) (rd8b R 0 256 inb_S768x768_S256x256_0_256 rfl) (rd16 E.arg21.view _ _ (hs5 R) 256 0 inb_S768x256_S256x256_256_0 128 2 2 (by decide) rfl rfl rfl) (rd8b R 0 512 inb_S768x768_S256x256_0_512 rfl) (rd16 E.arg23.view _ _ (hs7 R) 0 0 inb_S256x256_S256x256_0_0 128 2 2 (by decide) rfl rfl rfl)) (fun i hi j hj => by
        rw [show 0 + (128 + i) = 128 + i by omega,
          add_mul,
          Data.akb1 (t := 128 + i) (k := j) 128 128 (fun x => D.QF (128 + x) (0 + j)) (fun x hx => Data.AF_at (c := 1) (by omega) ((D.QF_at (c := 1) (by omega) _).trans (by simp only [zero_add, Nat.reduceMul, Nat.reduceAdd]))),
          Data.akb (t := 128 + i) (k := j) 256 256 (fun x => D.QD (256 + x) (0 + j)) _ (fun x hx => Data.AF_of (c := 1) 256 _ (by rfl) (by omega) (by simp only [Data.QD, zero_add, show (256 + x) / 256 = 1 by omega, Nat.reduceMul])),
          Data.akb (t := 128 + i) (k := j) 512 256 (fun x => D.QD2 (0 + x) (0 + j)) _ (fun x hx => Data.AF_of (c := 1) 256 _ (by rfl) (by omega) (by simp only [Data.QD2, zero_add])),
          Data.akS_cat 256 256 512 256 512 rfl rfl,
          Data.akS_cat 128 128 256 512 640 rfl rfl,
          Data.akS_AK 128 640 rfl (by omega), zero_add j]),
    piece32 D.AK _ 0 0 inb_S768x256_S128x256_0_0 _ (wK0 (rowRKA D 0 (wM D 0 (ldG R 0 _)) (wE D 0 (ldG R 0 _)) (wE D 1 (ldG R 128 _))) (rd8a R 0 0 inb_S768x768_S128x128_0_0 rfl) (rd16 E.arg16.view _ _ (hs0 R) 0 0 inb_S768x256_S128x256_0_0 128 1 2 (by decide) rfl rfl rfl) (rd8a R 0 128 inb_S768x768_S128x128_0_128 rfl) (rd16 E.arg19.view _ _ (hs3 R) 0 0 inb_S384x256_S128x256_0_0 128 1 2 (by decide) rfl rfl rfl) (rd8b R 0 256 inb_S768x768_S256x256_0_256 rfl) (rd16 E.arg21.view _ _ (hs5 R) 256 0 inb_S768x256_S256x256_256_0 128 2 2 (by decide) rfl rfl rfl) (rd8b R 0 512 inb_S768x768_S256x256_0_512 rfl) (rd16 E.arg23.view _ _ (hs7 R) 0 0 inb_S256x256_S256x256_0_0 128 2 2 (by decide) rfl rfl rfl)) (fun i hi j hj => by
        rw [add_mul,
          Data.akb1 (t := 0 + i) (k := j) 0 128 (fun x => D.QF (0 + x) (0 + j)) (fun x hx => Data.AF_at (c := 0) (by omega) ((D.QF_at (c := 0) (by omega) _).trans (by simp only [zero_add, Nat.reduceMul, Nat.reduceAdd]))),
          Data.akb1 (t := 0 + i) (k := j) 128 128 (fun x => D.QX (0 + x) (0 + j)) (fun x hx => Data.AF_at (c := 0) (by omega) (by simp only [Data.QX, zero_add, show (x) / 128 = 0 by omega, show (x) % 128 = x by omega, Nat.reduceMul, Nat.reduceAdd])),
          Data.akb (t := 0 + i) (k := j) 256 256 (fun x => D.QD (256 + x) (0 + j)) _ (fun x hx => Data.AF_of (c := 0) 256 _ (by rfl) (by omega) (by simp only [Data.QD, zero_add, show (256 + x) / 256 = 1 by omega, Nat.reduceMul])),
          Data.akb (t := 0 + i) (k := j) 512 256 (fun x => D.QD2 (0 + x) (0 + j)) _ (fun x hx => Data.AF_of (c := 0) 256 _ (by rfl) (by omega) (by simp only [Data.QD2, zero_add])),
          Data.akS_cat 0 128 128 128 256 rfl rfl,
          Data.akS_cat 256 256 512 256 512 rfl rfl,
          Data.akS_cat 0 256 256 512 768 rfl rfl,
          Data.akS_AK 0 768 rfl (by omega), zero_add j]), trivial⟩

/-- The buffer `aq`. -/
theorem hs14 : View.PiecesOf (GR ι32 D.AQ) E.HS14 := by
  exact ⟨piece32 D.AQ _ 640 0 inb_S768x256_S128x256_640_0 _ (wQ5 (rowRQZ D 4 (wE D 4 (ldG R 512 _)) (wM D 5 (ldG R 640 _))) (rd8a R 512 640 inb_S768x768_S128x128_512_640 rfl) (rd16 E.arg18.view _ _ (hs2 R) 256 0 inb_S384x256_S128x256_256_0 128 1 2 (by decide) rfl rfl rfl) (rd8a R 640 640 inb_S768x768_S128x128_640_640 rfl) (rd16 E.arg17.view _ _ (hs1 R) 640 0 inb_S768x256_S128x256_640_0 128 1 2 (by decide) rfl rfl rfl) (rd8b R 0 512 inb_S768x768_S256x256_0_512 rfl) (rd16 E.arg22.view _ _ (hs6 R) 0 0 inb_S256x256_S256x256_0_0 128 2 2 (by decide) rfl rfl rfl) (rd8b R 256 512 inb_S768x768_S256x256_256_512 rfl) (rd16 E.arg20.view _ _ (hs4 R) 256 0 inb_S768x256_S256x256_256_0 128 2 2 (by decide) rfl rfl rfl)) (fun i hi j hj => by
        simp only [show 512 + (128 + i) = 640 + i by omega]
        rw [add_mul,
          Data.aqb1 (t := 640 + i) (k := j) 512 128 (fun x => D.KX (256 + x) (0 + j)) (fun x hx => Data.BF_at (c := 5) (by omega) (by simp only [Data.KX, zero_add, show (256 + x) / 128 = 2 by omega, show (256 + x) % 128 = x by omega, Nat.reduceMul, Nat.reduceAdd])),
          Data.aqb1 (t := 640 + i) (k := j) 640 128 (fun x => D.KF (640 + x) (0 + j)) (fun x hx => Data.BF_at (c := 5) (by omega) ((D.KF_at (c := 5) (by omega) _).trans (by simp only [zero_add, Nat.reduceMul, Nat.reduceAdd]))),
          Data.aqb (t := 640 + i) (k := j) 0 256 (fun x => D.KD2 (0 + x) (0 + j)) _ (fun x hx => Data.BF_of (c := 5) 512 _ (by rfl) (by omega) (by simp only [Data.KD2, zero_add])),
          Data.aqb (t := 640 + i) (k := j) 256 256 (fun x => D.KD (256 + x) (0 + j)) _ (fun x hx => Data.BF_of (c := 5) 512 _ (by rfl) (by omega) (by simp only [Data.KD, zero_add, show (256 + x) / 256 = 1 by omega, Nat.reduceMul, Nat.reduceAdd])),
          Data.aqS_cat 512 128 640 128 256 rfl rfl,
          Data.aqS_cat 0 256 256 256 512 rfl rfl,
          add_comm,
          Data.aqS_cat 0 512 512 256 768 rfl rfl,
          Data.aqS_AQ 768 (by decide) (by omega), zero_add j]),
    piece32 D.AQ _ 512 0 inb_S768x256_S128x256_512_0 _ (wQ4 (rowRQA D 4 (wM D 4 (ldG R 512 _))) (rd8a R 512 512 inb_S768x768_S128x128_512_512 rfl) (rd16 E.arg17.view _ _ (hs1 R) 512 0 inb_S768x256_S128x256_512_0 128 1 2 (by decide) rfl rfl rfl) (rd8b R 0 512 inb_S768x768_S256x256_0_512 rfl) (rd16 E.arg22.view _ _ (hs6 R) 0 0 inb_S256x256_S256x256_0_0 128 2 2 (by decide) rfl rfl rfl) (rd8b R 256 512 inb_S768x768_S256x256_256_512 rfl) (rd16 E.arg20.view _ _ (hs4 R) 256 0 inb_S768x256_S256x256_256_0 128 2 2 (by decide) rfl rfl rfl)) (fun i hi j hj => by
        rw [add_mul,
          Data.aqb1 (t := 512 + i) (k := j) 512 128 (fun x => D.KF (512 + x) (0 + j)) (fun x hx => Data.BF_at (c := 4) (by omega) ((D.KF_at (c := 4) (by omega) _).trans (by simp only [zero_add, Nat.reduceMul, Nat.reduceAdd]))),
          Data.aqb (t := 512 + i) (k := j) 0 256 (fun x => D.KD2 (0 + x) (0 + j)) _ (fun x hx => Data.BF_of (c := 4) 512 _ (by rfl) (by omega) (by simp only [Data.KD2, zero_add])),
          Data.aqb (t := 512 + i) (k := j) 256 256 (fun x => D.KD (256 + x) (0 + j)) _ (fun x hx => Data.BF_of (c := 4) 512 _ (by rfl) (by omega) (by simp only [Data.KD, zero_add, show (256 + x) / 256 = 1 by omega, Nat.reduceMul, Nat.reduceAdd])),
          Data.aqS_cat 0 256 256 256 512 rfl rfl,
          add_comm,
          Data.aqS_cat 0 512 512 128 640 rfl rfl,
          Data.aqS_AQ 640 (by decide) (by omega), zero_add j]),
    piece32 D.AQ _ 384 0 inb_S768x256_S128x256_384_0 _ (wQ3 (rowRQZ D 2 (wE D 2 (ldG R 256 _)) (wM D 3 (ldG R 384 _))) (rd8a R 256 384 inb_S768x768_S128x128_256_384 rfl) (rd16 E.arg18.view _ _ (hs2 R) 128 0 inb_S384x256_S128x256_128_0 128 1 2 (by decide) rfl rfl rfl) (rd8a R 384 384 inb_S768x768_S128x128_384_384 rfl) (rd16 E.arg17.view _ _ (hs1 R) 384 0 inb_S768x256_S128x256_384_0 128 1 2 (by decide) rfl rfl rfl) (rd8b R 0 256 inb_S768x768_S256x256_0_256 rfl) (rd16 E.arg20.view _ _ (hs4 R) 0 0 inb_S768x256_S256x256_0_0 128 2 2 (by decide) rfl rfl rfl)) (fun i hi j hj => by
        simp only [show 256 + (128 + i) = 384 + i by omega]
        rw [Data.aqb1 (t := 384 + i) (k := j) 256 128 (fun x => D.KX (128 + x) (0 + j)) (fun x hx => Data.BF_at (c := 3) (by omega) (by simp only [Data.KX, zero_add, show (128 + x) / 128 = 1 by omega, show (128 + x) % 128 = x by omega, Nat.reduceMul, Nat.reduceAdd])),
          Data.aqb1 (t := 384 + i) (k := j) 384 128 (fun x => D.KF (384 + x) (0 + j)) (fun x hx => Data.BF_at (c := 3) (by omega) ((D.KF_at (c := 3) (by omega) _).trans (by simp only [zero_add, Nat.reduceMul, Nat.reduceAdd]))),
          Data.aqb (t := 384 + i) (k := j) 0 256 (fun x => D.KD (0 + x) (0 + j)) _ (fun x hx => Data.BF_of (c := 3) 256 _ (by rfl) (by omega) (by simp only [Data.KD, zero_add, show (x) / 256 = 0 by omega, Nat.reduceMul, Nat.reduceAdd])),
          Data.aqS_cat 256 128 384 128 256 rfl rfl,
          add_comm,
          Data.aqS_cat 0 256 256 256 512 rfl rfl,
          Data.aqS_AQ 512 (by decide) (by omega), zero_add j]),
    piece32 D.AQ _ 256 0 inb_S768x256_S128x256_256_0 _ (wQ2 (rowRQA D 2 (wM D 2 (ldG R 256 _))) (rd8a R 256 256 inb_S768x768_S128x128_256_256 rfl) (rd16 E.arg17.view _ _ (hs1 R) 256 0 inb_S768x256_S128x256_256_0 128 1 2 (by decide) rfl rfl rfl) (rd8b R 0 256 inb_S768x768_S256x256_0_256 rfl) (rd16 E.arg20.view _ _ (hs4 R) 0 0 inb_S768x256_S256x256_0_0 128 2 2 (by decide) rfl rfl rfl)) (fun i hi j hj => by
        rw [Data.aqb1 (t := 256 + i) (k := j) 256 128 (fun x => D.KF (256 + x) (0 + j)) (fun x hx => Data.BF_at (c := 2) (by omega) ((D.KF_at (c := 2) (by omega) _).trans (by simp only [zero_add, Nat.reduceMul, Nat.reduceAdd]))),
          Data.aqb (t := 256 + i) (k := j) 0 256 (fun x => D.KD (0 + x) (0 + j)) _ (fun x hx => Data.BF_of (c := 2) 256 _ (by rfl) (by omega) (by simp only [Data.KD, zero_add, show (x) / 256 = 0 by omega, Nat.reduceMul, Nat.reduceAdd])),
          add_comm,
          Data.aqS_cat 0 256 256 128 384 rfl rfl,
          Data.aqS_AQ 384 (by decide) (by omega), zero_add j]),
    piece32 D.AQ _ 128 0 inb_S768x256_S128x256_128_0 _ (wQ1 (rd8a R 0 128 inb_S768x768_S128x128_0_128 rfl) (rd16 E.arg18.view _ _ (hs2 R) 0 0 inb_S384x256_S128x256_0_0 128 1 2 (by decide) rfl rfl rfl) (rd8a R 128 128 inb_S768x768_S128x128_128_128 rfl) (rd16 E.arg17.view _ _ (hs1 R) 128 0 inb_S768x256_S128x256_128_0 128 1 2 (by decide) rfl rfl rfl)) (fun i hi j hj => by
        rw [Data.aqb1 (t := 128 + i) (k := j) 0 128 (fun x => D.KX (0 + x) (0 + j)) (fun x hx => Data.BF_at (c := 1) (by omega) (by simp only [Data.KX, zero_add, show (x) / 128 = 0 by omega, show (x) % 128 = x by omega, Nat.reduceMul, Nat.reduceAdd])),
          Data.aqb1 (t := 128 + i) (k := j) 128 128 (fun x => D.KF (128 + x) (0 + j)) (fun x hx => Data.BF_at (c := 1) (by omega) ((D.KF_at (c := 1) (by omega) _).trans (by simp only [zero_add, Nat.reduceMul, Nat.reduceAdd]))),
          Data.aqS_cat 0 128 128 128 256 rfl rfl,
          Data.aqS_AQ 256 (by decide) (by omega), zero_add j]),
    piece32 D.AQ _ 0 0 inb_S768x256_S128x256_0_0 _ (wQ0 (rd8a R 0 0 inb_S768x768_S128x128_0_0 rfl) (rd16 E.arg17.view _ _ (hs1 R) 0 0 inb_S768x256_S128x256_0_0 128 1 2 (by decide) rfl rfl rfl)) (fun i hi j hj => by
        rw [Data.aqb1 (t := 0 + i) (k := j) 0 128 (fun x => D.KF (0 + x) (0 + j)) (fun x hx => Data.BF_at (c := 0) (by omega) ((D.KF_at (c := 0) (by omega) _).trans (by simp only [zero_add, Nat.reduceMul, Nat.reduceAdd]))),
          Data.aqS_AQ 128 (by decide) (by omega), zero_add j]), trivial⟩

end Env

end Cert.RV
-- ==== Proof.Outs.lean ====
/-
  What one grid point of the kernel writes into its five result blocks, as functions of the token and of the dimension.
-/
module

public import proofs.«01_k».proof.Proof.Grads

@[expose] public section

noncomputable section

namespace Cert.RV

open Idealize.ShloMosaic Idealize.ShloMosaic.ValueIdx Idealize.SL.Sem
open Cert.KernelIdeal Cert.KernelIdeal.Gen
open scoped BigOperators

namespace Data
variable (D : Data)

/-- The gradient of the queries. -/
def dq (t k : ℕ) : ℝ := D.AQ t k * D.EQ t k

/-- The gradient of the keys. -/
def dk (t k : ℕ) : ℝ := D.AK t k * D.EK t k

/-- The gradient of the values. -/
def dv (t v : ℕ) : ℝ := ∑ x ∈ Finset.range 768, D.PT t x * D.Do x v

/-- The gradient of the summed log-decay. -/
def db (t k : ℕ) : ℝ := D.QF t k * D.AQ t k - D.KF t k * D.AK t k

/-- The gradient of the log-decay increments: the sum of `db` over the tokens from `t` on. -/
def dg (t k : ℕ) : ℝ := ∑ x ∈ Finset.Ico t 768, D.db x k

/-- The sum from a token to the end: inside its block, then what the later blocks carry. -/
theorem dg_step (b i k : ℕ) (hi : i < 128) (hb : b + 128 ≤ 768) :
    (∑ x ∈ Finset.range 128, sel (i ≤ x) 1 0 * D.db (b + x) k) + D.dg (b + 128) k = D.dg (b + i) k := by
  have e : ∑ x ∈ Finset.range 128, sel (i ≤ x) 1 0 * D.db (b + x) k = ∑ x ∈ Finset.Ico (b + i) (b + 128), D.db x k := by
    rw [Nat.add_comm b i, Nat.add_comm b 128, ← Finset.sum_Ico_add (fun x => D.db x k) i 128 b]
    simp only [sel_eq, ite_mul, one_mul, zero_mul]
    rw [← Finset.sum_filter]
    refine Finset.sum_congr ?_ fun _ _ => rfl
    ext x
    simp only [Finset.mem_filter, Finset.mem_range, Finset.mem_Ico]
    omega
  rw [e, dg, dg, Finset.sum_Ico_consecutive _ (by omega) hb]

/-- After the last token nothing is left to sum. -/
theorem dg_end (k : ℕ) : D.dg (640 + 128) k = 0 := by
  unfold dg
  simp

/-- The tokens before `t` do not count. -/
theorem dv_part {t v : ℕ} (b n : ℕ) (hn : b + n = 768) (hb : b ≤ t) :
    ∑ x ∈ Finset.range n, D.PT t (b + x) * D.Do (b + x) v = D.dv t v := by
  have z : ∑ x ∈ Finset.range b, D.PT t x * D.Do x v = 0 := Finset.sum_eq_zero fun x hx => by
    have := Finset.mem_range.mp hx
    rw [PT, sel_eq, if_neg (by omega), zero_mul]
  rw [dv, ← hn, Finset.sum_range_add, z, zero_add]

end Data

/-! ## The payloads -/

section Payloads
variable {a b x y : FVec Ideal S128x256 .f32} {f g u v : ℕ → ℕ → ℝ}

/-- What the body stores as a gradient: a stored sum times its decays. -/
theorem wMul (ha : a = V2 .f32 f) (hb : b = V2 .f32 g) :
    k0_pay272 a b = (V4 .bf16 fun i j => f i j * g i j : FVec Ideal S1x1x128x256 .bf16) := by
  unfold k0_pay272
  dsimp only
  rw [ha, hb, v_mulf, v_truncf, v_lift]

/-- What the body computes for the gradient of the summed log-decay. -/
theorem wDb (ha : a = V2 .f32 f) (hb : b = V2 .f32 g) (hx : x = V2 .f32 u) (hy : y = V2 .f32 v) :
    k0_pay251 a b x y = V2 .f32 fun i j => u i j * f i j - v i j * g i j := by
  unfold k0_pay251
  dsimp only
  rw [ha, hb, hx, hy, v_mulf, v_mulf, v_subf]

/-- What the body stores for the gradient of the summed log-decay. -/
theorem wUp (ha : a = V2 .f32 f) : k0_pay252 a = (V4 .f32 f : FVec Ideal S1x1x128x256 .f32) := by
  unfold k0_pay252
  dsimp only
  rw [ha, v_lift]

variable (D : Data) {c : FVec Ideal S1x256 .f32} (t : ℕ)

/-- The sum from each token of a block to the end, with the row carried from the later blocks. -/
theorem wG (ht : t + 128 ≤ 768) (hc : c = V2 .f32 fun _ j => D.dg (t + 128) j) (ha : a = V2 .f32 fun i j => D.db (t + i) j) :
    k0_pay253 k0_pay3 c a = V2 .f32 fun i j => D.dg (t + i) j := by
  unfold k0_pay253
  dsimp only
  rw [hc, ha, pay3_V, v_truncf, v_extf, v_subf, v_truncf, v_extf, v_subf, v_truncf, v_const, v_mm _ _ _ dotA,
    v_mm _ _ _ dotA, v_mm _ _ _ dotA, v_addf, v_addf, v_row _ (by decide) (by decide), v_addf]
  refine V2_congr fun i hi j hj => ?_
  rw [← D.dg_step t i j hi ht]
  simp only [sub_self, mul_zero, Finset.sum_const_zero, add_zero]

/-- What the body stores for the gradient of the log-decay. -/
theorem wDg (ht : t + 128 ≤ 768) (hc : c = V2 .f32 fun _ j => D.dg (t + 128) j) (ha : a = V2 .f32 fun i j => D.db (t + i) j) :
    k0_pay254 k0_pay3 c a = (V4 .f32 fun i j => D.dg (t + i) j : FVec Ideal S1x1x128x256 .f32) := by
  unfold k0_pay254
  dsimp only
  rw [wG D t ht hc ha, v_lift]

/-- The row that the body carries to the earlier block. -/
theorem wCar (ht : t + 128 ≤ 768) (hc : c = V2 .f32 fun _ j => D.dg (t + 128) j) (ha : a = V2 .f32 fun i j => D.db (t + i) j) :
    k0_pay255 k0_pay3 c a = V2 .f32 fun _ j => D.dg t j := by
  unfold k0_pay255
  dsimp only
  rw [wG D t ht hc ha, v_slice]
  exact V2_congr fun i hi j hj => by rw [show t + (0 + i) = t by omega, zero_add]

/-- The row that the body starts from. -/
theorem wCar0 : k0_pay227 (F := Ideal) = V2 .f32 fun _ j => D.dg (640 + 128) j := by
  unfold k0_pay227
  dsimp only
  rw [v_zero, v_broadcast]
  exact V2_congr fun i hi j hj => (D.dg_end j).symm

end Payloads

section Dv
variable {f g : ℕ → ℕ → ℝ}

/-- This contraction is the plain product of two matrices. -/
theorem dotD0 : dot_S256x768_S768x512_S256x512_1_0_0_1_n_n = DotDims.plain 256 768 512 := rfl
/-- This contraction is the plain product of two matrices. -/
theorem dotD1 : dot_S256x512_S512x512_S256x512_1_0_0_1_n_n = DotDims.plain 256 512 512 := rfl
/-- This contraction is the plain product of two matrices. -/
theorem dotD2 : dot_S256x256_S256x512_S256x512_1_0_0_1_n_n = DotDims.plain 256 256 512 := rfl

/-- The gradient of the values of the first segment: all tokens from its start. -/
theorem wV0 {p : Vec Ideal S256x768 .bf16} {d : Vec Ideal S1x1x768x512 .fp8e5m2} (hp : p = (V2 .bf16 f : FVec Ideal S256x768 .bf16))
    (hd : d = V4 .fp8e5m2 g) :
    k0_pay224 p d = (V4 .bf16 fun i j => ∑ x ∈ Finset.range 768, f i x * g x j : FVec Ideal S1x1x256x512 .bf16) := by
  unfold k0_pay224
  dsimp only
  rw [hp, hd, v_drop, v_extf, v_const, v_mm _ _ _ dotD0, v_truncf, v_lift]

/-- The gradient of the values of the second segment: all tokens from its start. -/
theorem wV1 {p : Vec Ideal S256x512 .bf16} {d : Vec Ideal S1x1x512x512 .fp8e5m2} (hp : p = (V2 .bf16 f : FVec Ideal S256x512 .bf16))
    (hd : d = V4 .fp8e5m2 g) :
    k0_pay225 p d = (V4 .bf16 fun i j => ∑ x ∈ Finset.range 512, f i x * g x j : FVec Ideal S1x1x256x512 .bf16) := by
  unfold k0_pay225
  dsimp only
  rw [hp, hd, v_drop, v_extf, v_const, v_mm _ _ _ dotD1, v_truncf, v_lift]

/-- The gradient of the values of the last segment. -/
theorem wV2 {p : Vec Ideal S256x256 .bf16} {d : Vec Ideal S1x1x256x512 .fp8e5m2} (hp : p = (V2 .bf16 f : FVec Ideal S256x256 .bf16))
    (hd : d = V4 .fp8e5m2 g) :
    k0_pay226 p d = (V4 .bf16 fun i j => ∑ x ∈ Finset.range 256, f i x * g x j : FVec Ideal S1x1x256x512 .bf16) := by
  unfold k0_pay226
  dsimp only
  rw [hp, hd, v_drop, v_extf, v_const, v_mm _ _ _ dotD2, v_truncf, v_lift]

end Dv

/-! ## The result blocks -/

/-- The values a result block of real numbers holds. -/
abbrev GO {e : EltTy} (ι : ℝ → Elt Ideal e) {A B : ℕ} (f : ℕ → ℕ → ℝ) : (⟨4, ![1, 1, A, B]⟩ : Shape).Idx → Elt Ideal e :=
  fun j => ι (f (j 2).val (j 3).val)

/-- A bfloat16 store into a result block of numbers that agree with `f` on its rectangle. -/
theorem pieceO16 {A B a b : ℕ} (f h : ℕ → ℕ → ℝ) (r c : ℕ) (inb) (w : FVec Ideal ⟨4, ![1, 1, a, b]⟩ .bf16) (hw : w = V4 .bf16 h)
    (hg : ∀ i < a, ∀ j < b, h i j = f (r + i) (c + j)) :
    ∀ x, w x = (GO ι16 f : (⟨4, ![1, 1, A, B]⟩ : Shape).Idx → Elt Ideal .bf16)
      ((Rect.unit (s := ⟨4, ![1, 1, A, B]⟩) ![0, 0, r, c] ![1, 1, a, b] inb).emb x) := by
  intro x
  subst hw
  refine (congrArg ι16 (hg _ (x 2).isLt _ (x 3).isLt)).trans ?_
  show ι16 (f _ _) = ι16 (f (r + 1 * (x 2).val) (c + 1 * (x 3).val))
  rw [one_mul, one_mul]

/-- A float32 store into a result block of numbers that agree with `f` on its rectangle. -/
theorem pieceO32 {A B a b : ℕ} (f h : ℕ → ℕ → ℝ) (r c : ℕ) (inb) (w : FVec Ideal ⟨4, ![1, 1, a, b]⟩ .f32) (hw : w = V4 .f32 h)
    (hg : ∀ i < a, ∀ j < b, h i j = f (r + i) (c + j)) :
    ∀ x, w x = (GO ι32 f : (⟨4, ![1, 1, A, B]⟩ : Shape).Idx → Elt Ideal .f32)
      ((Rect.unit (s := ⟨4, ![1, 1, A, B]⟩) ![0, 0, r, c] ![1, 1, a, b] inb).emb x) := by
  intro x
  subst hw
  refine (congrArg ι32 (hg _ (x 2).isLt _ (x 3).isLt)).trans ?_
  show ι32 (f _ _) = ι32 (f (r + 1 * (x 2).val) (c + 1 * (x 3).val))
  rw [one_mul, one_mul]

namespace Env
variable {E : Env} {D : Data} (R : E.Real D)
include R

/-- A read of the stored decays of the queries. -/
theorem rd10 (r : ℕ) (inb) (hc : boxCov E.HS10 128 r 0 1 2 = true) :
    E.arg26.view.readCov E.HS10 (Rect.unit (s := S768x256) ![r, 0] S128x256.size inb).toLoadRect = V2 .f32 fun i j => D.EQ (r + i) (0 + j) :=
  rd32 _ _ _ (hs10 R) r 0 inb 128 1 2 (by decide) rfl rfl hc

/-- A read of the stored inverse decays of the keys. -/
theorem rd11 (r : ℕ) (inb) (hc : boxCov E.HS11 128 r 0 1 2 = true) :
    E.arg27.view.readCov E.HS11 (Rect.unit (s := S768x256) ![r, 0] S128x256.size inb).toLoadRect = V2 .f32 fun i j => D.EK (r + i) (0 + j) :=
  rd32 _ _ _ (hs11 R) r 0 inb 128 1 2 (by decide) rfl rfl hc

/-- A read of the stored sums for the gradient of the queries. -/
theorem rd14 (r : ℕ) (inb) (hc : boxCov E.HS14 128 r 0 1 2 = true) :
    E.arg30.view.readCov E.HS14 (Rect.unit (s := S768x256) ![r, 0] S128x256.size inb).toLoadRect = V2 .f32 fun i j => D.AQ (r + i) (0 + j) :=
  rd32 _ _ _ (hs14 R) r 0 inb 128 1 2 (by decide) rfl rfl hc

/-- A read of the stored sums for the gradient of the keys. -/
theorem rd15 (r : ℕ) (inb) (hc : boxCov E.HS15 128 r 0 1 2 = true) :
    E.arg31.view.readCov E.HS15 (Rect.unit (s := S768x256) ![r, 0] S128x256.size inb).toLoadRect = V2 .f32 fun i j => D.AK (r + i) (0 + j) :=
  rd32 _ _ _ (hs15 R) r 0 inb 128 1 2 (by decide) rfl rfl hc

/-- A block of the gradient of the summed log-decay. -/
theorem wDbR (r : ℕ) (inb) (h14 : boxCov E.HS14 128 r 0 1 2 = true) (h15 : boxCov E.HS15 128 r 0 1 2 = true)
    (h12 : boxCov E.HS12 128 r 0 1 2 = true) (h13 : boxCov E.HS13 128 r 0 1 2 = true) :
    k0_pay251 (E.arg30.view.readCov E.HS14 (Rect.unit (s := S768x256) ![r, 0] S128x256.size inb).toLoadRect)
      (E.arg31.view.readCov E.HS15 (Rect.unit (s := S768x256) ![r, 0] S128x256.size inb).toLoadRect)
      (E.arg28.view.readCov E.HS12 (Rect.unit (s := S768x256) ![r, 0] S128x256.size inb).toLoadRect)
      (E.arg29.view.readCov E.HS13 (Rect.unit (s := S768x256) ![r, 0] S128x256.size inb).toLoadRect)
      = V2 .f32 fun i j => D.db (r + i) j := by
  rw [wDb (rd14 R r inb h14) (rd15 R r inb h15) (rd12 R r inb h12) (rd13 R r inb h13)]
  exact V2_congr fun i _ j _ => by rw [zero_add]; rfl

variable (arg11 : Memref sig .tc .vmem S1x1x768x256 .bf16) (harg11 : arg11.IsWhole)
variable (arg12 : Memref sig .tc .vmem S1x1x768x256 .bf16) (harg12 : arg12.IsWhole)
variable (arg13 : Memref sig .tc .vmem S1x1x768x512 .bf16) (harg13 : arg13.IsWhole)
variable (arg14 : Memref sig .tc .vmem S1x1x768x256 .f32) (harg14 : arg14.IsWhole)
variable (arg15 : Memref sig .tc .vmem S1x1x768x256 .f32) (harg15 : arg15.IsWhole)
variable (harg16 : E.arg16.IsWhole) (harg17 : E.arg17.IsWhole) (harg18 : E.arg18.IsWhole) (harg19 : E.arg19.IsWhole) (harg20 : E.arg20.IsWhole) (harg21 : E.arg21.IsWhole) (harg22 : E.arg22.IsWhole) (harg23 : E.arg23.IsWhole) (harg24 : E.arg24.IsWhole) (harg25 : E.arg25.IsWhole) (harg26 : E.arg26.IsWhole) (harg27 : E.arg27.IsWhole) (harg28 : E.arg28.IsWhole) (harg29 : E.arg29.IsWhole) (harg30 : E.arg30.IsWhole) (harg31 : E.arg31.IsWhole)
/-- The stores into the block of the gradient of the queries. -/
theorem st_dq : View.PiecesOf (GO ι16 D.dq) (kernelRun0_A (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8).1 := by
  exact ⟨pieceO16 D.dq _ 0 0 inb_S1x1x768x256_S1x1x128x256_0_0_0_0 _ (wMul (rd14 R 0 inb_S768x256_S128x256_0_0 rfl) (rd10 R 0 inb_S768x256_S128x256_0_0 rfl)) (fun i hi j hj => rfl),
    pieceO16 D.dq _ 128 0 inb_S1x1x768x256_S1x1x128x256_0_0_128_0 _ (wMul (rd14 R 128 inb_S768x256_S128x256_128_0 rfl) (rd10 R 128 inb_S768x256_S128x256_128_0 rfl)) (fun i hi j hj => rfl),
    pieceO16 D.dq _ 256 0 inb_S1x1x768x256_S1x1x128x256_0_0_256_0 _ (wMul (rd14 R 256 inb_S768x256_S128x256_256_0 rfl) (rd10 R 256 inb_S768x256_S128x256_256_0 rfl)) (fun i hi j hj => rfl),
    pieceO16 D.dq _ 384 0 inb_S1x1x768x256_S1x1x128x256_0_0_384_0 _ (wMul (rd14 R 384 inb_S768x256_S128x256_384_0 rfl) (rd10 R 384 inb_S768x256_S128x256_384_0 rfl)) (fun i hi j hj => rfl),
    pieceO16 D.dq _ 512 0 inb_S1x1x768x256_S1x1x128x256_0_0_512_0 _ (wMul (rd14 R 512 inb_S768x256_S128x256_512_0 rfl) (rd10 R 512 inb_S768x256_S128x256_512_0 rfl)) (fun i hi j hj => rfl),
    pieceO16 D.dq _ 640 0 inb_S1x1x768x256_S1x1x128x256_0_0_640_0 _ (wMul (rd14 R 640 inb_S768x256_S128x256_640_0 rfl) (rd10 R 640 inb_S768x256_S128x256_640_0 rfl)) (fun i hi j hj => rfl), trivial⟩

/-- The block of the gradient of the queries. -/
theorem out_dq : out0_A_9 (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8
      = (V4 .bf16 D.dq : FVec Ideal S1x1x768x256 .bf16) := by
  unfold out0_A_9
  rw [View.read_writes_eq_canon _ _ _ (cover0_A_9 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8)]
  funext y
  exact View.canon_apply_of_pieces (GO ι16 D.dq) _ (st_dq R arg11 harg11 arg12 harg12 arg13 harg13 arg14 harg14 arg15 harg15 harg16 harg17 harg18 harg19 harg20 harg21 harg22 harg23 harg24 harg25 harg26 harg27 harg28 harg29 harg30 harg31).mem y (cover0_A_9 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8 y)

/-- The stores into the block of the gradient of the keys. -/
theorem st_dk : View.PiecesOf (GO ι16 D.dk) (kernelRun0_A (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8).2.1 := by
  exact ⟨pieceO16 D.dk _ 0 0 inb_S1x1x768x256_S1x1x128x256_0_0_0_0 _ (wMul (rd15 R 0 inb_S768x256_S128x256_0_0 rfl) (rd11 R 0 inb_S768x256_S128x256_0_0 rfl)) (fun i hi j hj => rfl),
    pieceO16 D.dk _ 128 0 inb_S1x1x768x256_S1x1x128x256_0_0_128_0 _ (wMul (rd15 R 128 inb_S768x256_S128x256_128_0 rfl) (rd11 R 128 inb_S768x256_S128x256_128_0 rfl)) (fun i hi j hj => rfl),
    pieceO16 D.dk _ 256 0 inb_S1x1x768x256_S1x1x128x256_0_0_256_0 _ (wMul (rd15 R 256 inb_S768x256_S128x256_256_0 rfl) (rd11 R 256 inb_S768x256_S128x256_256_0 rfl)) (fun i hi j hj => rfl),
    pieceO16 D.dk _ 384 0 inb_S1x1x768x256_S1x1x128x256_0_0_384_0 _ (wMul (rd15 R 384 inb_S768x256_S128x256_384_0 rfl) (rd11 R 384 inb_S768x256_S128x256_384_0 rfl)) (fun i hi j hj => rfl),
    pieceO16 D.dk _ 512 0 inb_S1x1x768x256_S1x1x128x256_0_0_512_0 _ (wMul (rd15 R 512 inb_S768x256_S128x256_512_0 rfl) (rd11 R 512 inb_S768x256_S128x256_512_0 rfl)) (fun i hi j hj => rfl),
    pieceO16 D.dk _ 640 0 inb_S1x1x768x256_S1x1x128x256_0_0_640_0 _ (wMul (rd15 R 640 inb_S768x256_S128x256_640_0 rfl) (rd11 R 640 inb_S768x256_S128x256_640_0 rfl)) (fun i hi j hj => rfl), trivial⟩

/-- The block of the gradient of the keys. -/
theorem out_dk : out0_A_10 (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8
      = (V4 .bf16 D.dk : FVec Ideal S1x1x768x256 .bf16) := by
  unfold out0_A_10
  rw [View.read_writes_eq_canon _ _ _ (cover0_A_10 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8)]
  funext y
  exact View.canon_apply_of_pieces (GO ι16 D.dk) _ (st_dk R arg11 harg11 arg12 harg12 arg13 harg13 arg14 harg14 arg15 harg15 harg16 harg17 harg18 harg19 harg20 harg21 harg22 harg23 harg24 harg25 harg26 harg27 harg28 harg29 harg30 harg31).mem y (cover0_A_10 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8 y)

/-- The stores into the block of the gradient of the values. -/
theorem st_dv : View.PiecesOf (GO ι16 D.dv) (kernelRun0_A (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8).2.2.1 := by
  exact ⟨pieceO16 D.dv _ 512 0 inb_S1x1x768x512_S1x1x256x512_0_0_512_0 _ (wV2 (rd16 E.arg25.view _ _ (hs9 R) 512 512 inb_S768x768_S256x256_512_512 128 2 2 (by decide) rfl rfl rfl) (ld_e5 512 0 E.arg5 E.harg5 R.h3 _)) (fun i hi j hj => D.dv_part 512 256 rfl (by omega)),
    pieceO16 D.dv _ 256 0 inb_S1x1x768x512_S1x1x256x512_0_0_256_0 _ (wV1 (rd16 E.arg25.view _ _ (hs9 R) 256 256 inb_S768x768_S256x512_256_256 128 2 4 (by decide) rfl rfl rfl) (ld_e5 256 0 E.arg5 E.harg5 R.h3 _)) (fun i hi j hj => D.dv_part 256 512 rfl (by omega)),
    pieceO16 D.dv _ 0 0 inb_S1x1x768x512_S1x1x256x512_0_0_0_0 _ (wV0 (rd16 E.arg25.view _ _ (hs9 R) 0 0 inb_S768x768_S256x768_0_0 128 2 6 (by decide) rfl rfl rfl) (ld_e5 0 0 E.arg5 E.harg5 R.h3 _)) (fun i hi j hj => D.dv_part 0 768 rfl (by omega)), trivial⟩

/-- The block of the gradient of the values. -/
theorem out_dv : out0_A_11 (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8
      = (V4 .bf16 D.dv : FVec Ideal S1x1x768x512 .bf16) := by
  unfold out0_A_11
  rw [View.read_writes_eq_canon _ _ _ (cover0_A_11 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8)]
  funext y
  exact View.canon_apply_of_pieces (GO ι16 D.dv) _ (st_dv R arg11 harg11 arg12 harg12 arg13 harg13 arg14 harg14 arg15 harg15 harg16 harg17 harg18 harg19 harg20 harg21 harg22 harg23 harg24 harg25 harg26 harg27 harg28 harg29 harg30 harg31).mem y (cover0_A_11 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8 y)

/-- The stores into the block of the gradient of the log-decay increments. -/
theorem st_dg : View.PiecesOf (GO ι32 D.dg) (kernelRun0_A (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8).2.2.2.1 := by
  exact ⟨pieceO32 D.dg _ 0 0 inb_S1x1x768x256_S1x1x128x256_0_0_0_0 _ (wDg D 0 (by decide) (wCar D 128 (by decide) (wCar D 256 (by decide) (wCar D 384 (by decide) (wCar D 512 (by decide) (wCar D 640 (by decide) (wCar0 D) (wDbR R 640 inb_S768x256_S128x256_640_0 rfl rfl rfl rfl)) (wDbR R 512 inb_S768x256_S128x256_512_0 rfl rfl rfl rfl)) (wDbR R 384 inb_S768x256_S128x256_384_0 rfl rfl rfl rfl)) (wDbR R 256 inb_S768x256_S128x256_256_0 rfl rfl rfl rfl)) (wDbR R 128 inb_S768x256_S128x256_128_0 rfl rfl rfl rfl)) (wDbR R 0 inb_S768x256_S128x256_0_0 rfl rfl rfl rfl)) (fun i hi j hj => by simp only [zero_add]),
    pieceO32 D.dg _ 128 0 inb_S1x1x768x256_S1x1x128x256_0_0_128_0 _ (wDg D 128 (by decide) (wCar D 256 (by decide) (wCar D 384 (by decide) (wCar D 512 (by decide) (wCar D 640 (by decide) (wCar0 D) (wDbR R 640 inb_S768x256_S128x256_640_0 rfl rfl rfl rfl)) (wDbR R 512 inb_S768x256_S128x256_512_0 rfl rfl rfl rfl)) (wDbR R 384 inb_S768x256_S128x256_384_0 rfl rfl rfl rfl)) (wDbR R 256 inb_S768x256_S128x256_256_0 rfl rfl rfl rfl)) (wDbR R 128 inb_S768x256_S128x256_128_0 rfl rfl rfl rfl)) (fun i hi j hj => by simp only [zero_add]),
    pieceO32 D.dg _ 256 0 inb_S1x1x768x256_S1x1x128x256_0_0_256_0 _ (wDg D 256 (by decide) (wCar D 384 (by decide) (wCar D 512 (by decide) (wCar D 640 (by decide) (wCar0 D) (wDbR R 640 inb_S768x256_S128x256_640_0 rfl rfl rfl rfl)) (wDbR R 512 inb_S768x256_S128x256_512_0 rfl rfl rfl rfl)) (wDbR R 384 inb_S768x256_S128x256_384_0 rfl rfl rfl rfl)) (wDbR R 256 inb_S768x256_S128x256_256_0 rfl rfl rfl rfl)) (fun i hi j hj => by simp only [zero_add]),
    pieceO32 D.dg _ 384 0 inb_S1x1x768x256_S1x1x128x256_0_0_384_0 _ (wDg D 384 (by decide) (wCar D 512 (by decide) (wCar D 640 (by decide) (wCar0 D) (wDbR R 640 inb_S768x256_S128x256_640_0 rfl rfl rfl rfl)) (wDbR R 512 inb_S768x256_S128x256_512_0 rfl rfl rfl rfl)) (wDbR R 384 inb_S768x256_S128x256_384_0 rfl rfl rfl rfl)) (fun i hi j hj => by simp only [zero_add]),
    pieceO32 D.dg _ 512 0 inb_S1x1x768x256_S1x1x128x256_0_0_512_0 _ (wDg D 512 (by decide) (wCar D 640 (by decide) (wCar0 D) (wDbR R 640 inb_S768x256_S128x256_640_0 rfl rfl rfl rfl)) (wDbR R 512 inb_S768x256_S128x256_512_0 rfl rfl rfl rfl)) (fun i hi j hj => by simp only [zero_add]),
    pieceO32 D.dg _ 640 0 inb_S1x1x768x256_S1x1x128x256_0_0_640_0 _ (wDg D 640 (by decide) (wCar0 D) (wDbR R 640 inb_S768x256_S128x256_640_0 rfl rfl rfl rfl)) (fun i hi j hj => by simp only [zero_add]), trivial⟩

/-- The block of the gradient of the log-decay increments. -/
theorem out_dg : out0_A_12 (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8
      = (V4 .f32 D.dg : FVec Ideal S1x1x768x256 .f32) := by
  unfold out0_A_12
  rw [View.read_writes_eq_canon _ _ _ (cover0_A_12 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8)]
  funext y
  exact View.canon_apply_of_pieces (GO ι32 D.dg) _ (st_dg R arg11 harg11 arg12 harg12 arg13 harg13 arg14 harg14 arg15 harg15 harg16 harg17 harg18 harg19 harg20 harg21 harg22 harg23 harg24 harg25 harg26 harg27 harg28 harg29 harg30 harg31).mem y (cover0_A_12 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8 y)

/-- The stores into the block of the gradient of the summed log-decay. -/
theorem st_db : View.PiecesOf (GO ι32 D.db) (kernelRun0_A (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8).2.2.2.2.1 := by
  exact ⟨pieceO32 D.db _ 0 0 inb_S1x1x768x256_S1x1x128x256_0_0_0_0 _ (wUp (wDbR R 0 inb_S768x256_S128x256_0_0 rfl rfl rfl rfl)) (fun i hi j hj => by simp only [zero_add]),
    pieceO32 D.db _ 128 0 inb_S1x1x768x256_S1x1x128x256_0_0_128_0 _ (wUp (wDbR R 128 inb_S768x256_S128x256_128_0 rfl rfl rfl rfl)) (fun i hi j hj => by simp only [zero_add]),
    pieceO32 D.db _ 256 0 inb_S1x1x768x256_S1x1x128x256_0_0_256_0 _ (wUp (wDbR R 256 inb_S768x256_S128x256_256_0 rfl rfl rfl rfl)) (fun i hi j hj => by simp only [zero_add]),
    pieceO32 D.db _ 384 0 inb_S1x1x768x256_S1x1x128x256_0_0_384_0 _ (wUp (wDbR R 384 inb_S768x256_S128x256_384_0 rfl rfl rfl rfl)) (fun i hi j hj => by simp only [zero_add]),
    pieceO32 D.db _ 512 0 inb_S1x1x768x256_S1x1x128x256_0_0_512_0 _ (wUp (wDbR R 512 inb_S768x256_S128x256_512_0 rfl rfl rfl rfl)) (fun i hi j hj => by simp only [zero_add]),
    pieceO32 D.db _ 640 0 inb_S1x1x768x256_S1x1x128x256_0_0_640_0 _ (wUp (wDbR R 640 inb_S768x256_S128x256_640_0 rfl rfl rfl rfl)) (fun i hi j hj => by simp only [zero_add]), trivial⟩

/-- The block of the gradient of the summed log-decay. -/
theorem out_db : out0_A_13 (F := Ideal) E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8
      = (V4 .f32 D.db : FVec Ideal S1x1x768x256 .f32) := by
  unfold out0_A_13
  rw [View.read_writes_eq_canon _ _ _ (cover0_A_13 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8)]
  funext y
  exact View.canon_apply_of_pieces (GO ι32 D.db) _ (st_db R arg11 harg11 arg12 harg12 arg13 harg13 arg14 harg14 arg15 harg15 harg16 harg17 harg18 harg19 harg20 harg21 harg22 harg23 harg24 harg25 harg26 harg27 harg28 harg29 harg30 harg31).mem y (cover0_A_13 E.c E.i E.arg2 E.harg2 E.arg3 E.harg3 E.arg4 E.harg4 E.arg5 E.harg5 E.arg6 E.harg6 E.arg7 E.harg7 E.arg8 E.harg8 E.arg9 E.harg9 E.arg10 E.harg10 arg11 harg11 arg12 harg12 arg13 harg13 arg14 harg14 arg15 harg15 E.arg16 harg16 E.arg17 harg17 E.arg18 harg18 E.arg19 harg19 E.arg20 harg20 E.arg21 harg21 E.arg22 harg22 E.arg23 harg23 E.arg24 harg24 E.arg25 harg25 E.arg26 harg26 E.arg27 harg27 E.arg28 harg28 E.arg29 harg29 E.arg30 harg30 E.arg31 harg31 E.x0 E.x1 E.x2 E.x3 E.x4 E.x5 E.x6 E.x7 E.x8 y)

end Env

end Cert.RV
-- ==== Proof.Chunks.lean ====
/-
  The reference's intermediate arrays as functions of real numbers, chunk by chunk, and the proof that its five results
  are the closed forms the kernel writes.
-/
module

public import proofs.«01_k».proof.Proof.Outs

@[expose] public section

noncomputable section

namespace Cert.RV

open scoped BigOperators
open Finset (range)

/-! ## Sums over the tokens, chunk by chunk -/

/-- A sum over the tokens of whole chunks, chunk by chunk. -/
theorem sum_chunks (f : ℕ → ℝ) (N : ℕ) : ∑ x ∈ range (64 * N), f x = ∑ m ∈ range N, ∑ j ∈ range 64, f (64 * m + j) := by
  induction N with
  | zero => simp
  | succ N ih => rw [Nat.mul_succ, Finset.sum_range_add, ih, Finset.sum_range_succ _ N]

/-- A sum over the tokens of consecutive chunks, chunk by chunk. -/
theorem sum_chunks_Ico (f : ℕ → ℝ) (a c : ℕ) :
    ∑ x ∈ Finset.Ico (64 * a) (64 * (a + c)), f x = ∑ m ∈ Finset.Ico a (a + c), ∑ j ∈ range 64, f (64 * m + j) := by
  induction c with
  | zero => simp
  | succ c ih =>
    rw [← Finset.sum_Ico_consecutive f (show 64 * a ≤ 64 * (a + c) by omega) (show 64 * (a + c) ≤ 64 * (a + (c + 1)) by omega), ih,
      ← add_assoc a c 1, Finset.sum_Ico_succ_top (by omega : a ≤ a + c), Finset.sum_Ico_eq_sum_range f (64 * (a + c)),
      show 64 * (a + c + 1) - 64 * (a + c) = 64 by omega]

/-- A sum over the tokens up to `64 n + r`: the chunks before chunk `n`, and chunk `n` up to its token `r`. -/
theorem sum_upto (F : ℕ → ℝ) (n r : ℕ) (hn : n < 12) (hr : r < 64) :
    ∑ x ∈ range 768, sel (x ≤ 64 * n + r) (F x) 0
      = ∑ m ∈ range 12, sel (m < n) (∑ j ∈ range 64, F (64 * m + j)) 0 + ∑ j ∈ range 64, sel (j ≤ r) (F (64 * n + j)) 0 := by
  have e : ∀ m ∈ range 12, ∑ j ∈ range 64, sel (64 * m + j ≤ 64 * n + r) (F (64 * m + j)) 0
      = sel (m < n) (∑ j ∈ range 64, F (64 * m + j)) 0
        + (if m = n then ∑ j ∈ range 64, sel (j ≤ r) (F (64 * n + j)) 0 else 0) := by
    intro m _
    rcases Nat.lt_trichotomy m n with h | h | h
    · rw [sel_eq, if_pos h, if_neg (by omega), add_zero]
      refine Finset.sum_congr rfl fun j hj => ?_
      have := Finset.mem_range.mp hj
      rw [sel_eq, if_pos (by omega)]
    · subst h
      rw [sel_eq, if_neg (by omega), if_pos rfl, zero_add]
      refine Finset.sum_congr rfl fun j _ => ?_
      simp only [sel_eq, Nat.add_le_add_iff_left]
    · rw [sel_eq, if_neg (by omega), if_neg (by omega), add_zero]
      refine Finset.sum_eq_zero fun j _ => ?_
      rw [sel_eq, if_neg (by omega)]
  rw [show (768 : ℕ) = 64 * 12 by rfl, sum_chunks, Finset.sum_congr rfl e, Finset.sum_add_distrib, Finset.sum_ite_eq',
    if_pos (Finset.mem_range.mpr hn)]

/-- A sum over the tokens from `64 n + r` on: the chunks after chunk `n`, and chunk `n` from its token `r` on. -/
theorem sum_from (F : ℕ → ℝ) (n r : ℕ) (hn : n < 12) (hr : r < 64) :
    ∑ x ∈ range 768, sel (64 * n + r ≤ x) (F x) 0
      = ∑ m ∈ range 12, sel (n < m) (∑ j ∈ range 64, F (64 * m + j)) 0 + ∑ j ∈ range 64, sel (r ≤ j) (F (64 * n + j)) 0 := by
  have e : ∀ m ∈ range 12, ∑ j ∈ range 64, sel (64 * n + r ≤ 64 * m + j) (F (64 * m + j)) 0
      = sel (n < m) (∑ j ∈ range 64, F (64 * m + j)) 0
        + (if m = n then ∑ j ∈ range 64, sel (r ≤ j) (F (64 * n + j)) 0 else 0) := by
    intro m _
    rcases Nat.lt_trichotomy m n with h | h | h
    · rw [sel_eq, if_neg (by omega), if_neg (by omega), add_zero]
      refine Finset.sum_eq_zero fun j hj => ?_
      have := Finset.mem_range.mp hj
      rw [sel_eq, if_neg (by omega)]
    · subst h
      rw [sel_eq, if_neg (by omega), if_pos rfl, zero_add]
      refine Finset.sum_congr rfl fun j _ => ?_
      simp only [sel_eq, Nat.add_le_add_iff_left]
    · rw [sel_eq, if_pos h, if_neg (by omega), add_zero]
      refine Finset.sum_congr rfl fun j _ => ?_
      rw [sel_eq, if_pos (by omega)]
  rw [show (768 : ℕ) = 64 * 12 by rfl, sum_chunks, Finset.sum_congr rfl e, Finset.sum_add_distrib, Finset.sum_ite_eq',
    if_pos (Finset.mem_range.mpr hn)]

namespace Data
variable (D : Data)

/-! ## The reference's arrays -/

/-- The log-decay summed inside chunk `n` up to its token `r`. -/
def rB (n r k : ℕ) : ℝ := ∑ x ∈ range (r + 1), D.G (64 * n + x) k
/-- The log-decay of chunk `n`. -/
def rG (n k : ℕ) : ℝ := D.rB n 63 k
/-- The decayed, scaled query of row `r` of chunk `n`. -/
def qg (n r k : ℕ) : ℝ := 1 / 16 * D.Q (64 * n + r) k * Real.exp (D.rB n r k)
/-- The inversely decayed key. -/
def kg (n r k : ℕ) : ℝ := D.K (64 * n + r) k * Real.exp (-D.rB n r k)
/-- The key decayed to the end of its chunk. -/
def kd (n r k : ℕ) : ℝ := D.K (64 * n + r) k * Real.exp (D.rG n k - D.rB n r k)
/-- The output's gradient times its scale. -/
def dod (t v : ℕ) : ℝ := D.Do t v * D.ds t
/-- The masked weights of the gradient inside a chunk. -/
def rA (n i j : ℕ) : ℝ :=
  sel (j ≤ i) ((∑ v ∈ range 512, D.Do (64 * n + i) v * D.Vc (64 * n + j) v) * (D.ds (64 * n + i) * D.vs n)) 0
/-- The masked attention weights inside a chunk. -/
def rP (n i j : ℕ) : ℝ := sel (j ≤ i) (∑ k ∈ range 256, D.qg n i k * D.kg n j k) 0
/-- The log-decay summed over the chunks up to chunk `n`. -/
def rC (n k : ℕ) : ℝ := ∑ x ∈ range (n + 1), D.rG x k
/-- The decay of the chunks strictly between `m` and `n`. -/
def rD (n m k : ℕ) : ℝ := sel (m < n) (Real.exp (D.rC n k - D.rG n k - D.rC m k)) 0
/-- What a chunk adds to the forward state. -/
def rU (n k v : ℕ) : ℝ := (∑ j ∈ range 64, D.kd n j k * D.Vc (64 * n + j) v) * D.vs n
/-- What a chunk adds to the backward state. -/
def rW (n k v : ℕ) : ℝ := ∑ i ∈ range 64, D.qg n i k * D.dod (64 * n + i) v
/-- The state before chunk `n`. -/
def rS (n k v : ℕ) : ℝ := ∑ m ∈ range 12, D.rU m k v * D.rD n m k
/-- The gradient of the state after chunk `n`. -/
def rT (n k v : ℕ) : ℝ := ∑ m ∈ range 12, D.rW m k v * D.rD m n k
/-- The gradient of a query through the earlier chunks, before its factors. -/
def rqi (n r k : ℕ) : ℝ := ∑ v ∈ range 512, D.rS n k v * D.Do (64 * n + r) v
/-- The gradient of a key through the later chunks, before its decay. -/
def rki (n r k : ℕ) : ℝ := D.vs n * ∑ v ∈ range 512, D.rT n k v * D.Vc (64 * n + r) v
/-- The gradient of a value through the later chunks. -/
def rvi (n r v : ℕ) : ℝ := ∑ k ∈ range 256, D.rT n k v * D.kd n r k
/-- The gradient of a query as the reference computes it. -/
def rdq (n r k : ℕ) : ℝ :=
  1 / 16 * Real.exp (D.rB n r k) * (D.ds (64 * n + r) * D.rqi n r k + ∑ j ∈ range 64, D.kg n j k * D.rA n r j)
/-- The gradient of a key as the reference computes it. -/
def rdk (n r k : ℕ) : ℝ :=
  Real.exp (D.rG n k - D.rB n r k) * D.rki n r k + Real.exp (-D.rB n r k) * ∑ i ∈ range 64, D.qg n i k * D.rA n i r
/-- The gradient of a value as the reference computes it. -/
def rdv (n r v : ℕ) : ℝ := D.rvi n r v + ∑ i ∈ range 64, D.dod (64 * n + i) v * D.rP n i r
/-- The gradient of the summed log-decay as the reference computes it. -/
def rdb (n r k : ℕ) : ℝ := D.Q (64 * n + r) k * D.rdq n r k - D.K (64 * n + r) k * D.rdk n r k
/-- The sum of `rdb` inside chunk `n` from its token `r` on. -/
def rin (n r k : ℕ) : ℝ := ∑ x ∈ Finset.Ico r 64, D.rdb n x k
/-- The sum of `rdb` over the chunks after chunk `n`. -/
def rlat (n k : ℕ) : ℝ := ∑ m ∈ Finset.Ico n 11, D.rin (m + 1) 0 k
/-- The gradient of the log-decay as the reference computes it. -/
def rdg (n r k : ℕ) : ℝ := D.rin n r k + D.rlat n k

/-! ## The decays -/

/-- The cumulative log-decay inside a chunk is a difference of cumulative sums. -/
theorem rB_eq (n r k : ℕ) : D.rB n r k = D.cs (64 * n + r + 1) k - D.cs (64 * n) k := by
  rw [cs, add_assoc, Finset.sum_range_add, ← cs, rB]
  ring

/-- The log-decay of a chunk is a difference of cumulative sums. -/
theorem rG_eq (n k : ℕ) : D.rG n k = D.cs (64 * (n + 1)) k - D.cs (64 * n) k := D.rB_eq n 63 k

/-- The log-decays of the chunks add up to the cumulative sum. -/
theorem rC_eq (n k : ℕ) : D.rC n k = D.cs (64 * (n + 1)) k := by
  rw [rC, Finset.sum_congr rfl fun x _ => D.rG_eq x k, Finset.sum_range_sub fun x => D.cs (64 * x) k]
  simp [cs]

/-! ## The results -/

/-- The gradient of the queries, as one masked sum. -/
theorem dq_sum (t k : ℕ) : D.dq t k = ∑ x ∈ range 768, sel (x ≤ t)
    ((∑ v ∈ range 512, D.Vc x v * D.Do t v) * (D.ds t * D.vs (x / 64))
      * (D.K x k * (Real.exp (D.cs (t + 1) k - D.cs (x + 1) k) * (1 / 16)))) 0 := by
  rw [dq, AQ, Finset.sum_mul]
  refine Finset.sum_congr rfl fun x _ => ?_
  rw [AT, BF, EQ, sel_eq, sel_eq]
  split
  · rw [show D.cs (t + 1) k - D.cs (x + 1) k = (D.cs (128 * (t / 128) + 64) k - D.cs (x + 1) k)
      + (D.cs (t + 1) k - D.cs (128 * (t / 128) + 64) k) by ring, Real.exp_add]
    ring
  · ring

/-- The gradient of the keys, as one masked sum. -/
theorem dk_sum (t k : ℕ) : D.dk t k = ∑ x ∈ range 768, sel (t ≤ x)
    ((∑ v ∈ range 512, D.Vc t v * D.Do x v) * (D.ds x * D.vs (t / 64))
      * (D.Q x k * (Real.exp (D.cs (x + 1) k - D.cs (t + 1) k) * (1 / 16)))) 0 := by
  rw [dk, AK, Finset.sum_mul]
  refine Finset.sum_congr rfl fun x _ => ?_
  rw [AT, AF, EK, sel_eq, sel_eq]
  split
  · rw [show D.cs (x + 1) k - D.cs (t + 1) k = (D.cs (x + 1) k - D.cs (128 * (t / 128) + 64) k)
      + (D.cs (128 * (t / 128) + 64) k - D.cs (t + 1) k) by ring, Real.exp_add]
    ring
  · ring

/-- The gradient of the values, as one masked sum. -/
theorem dv_sum (t v : ℕ) : D.dv t v = ∑ x ∈ range 768, sel (t ≤ x) (D.S t x * D.ds x * D.Do x v) 0 := by
  rw [dv]
  refine Finset.sum_congr rfl fun x _ => ?_
  rw [PT, sel_eq, sel_eq]
  split
  · rfl
  · ring

/-- The three decays between a token and one of an earlier chunk are one exponential. -/
theorem exp_q (n r m j k : ℕ) : Real.exp (D.rB n r k) * (Real.exp (D.rC n k - D.rG n k - D.rC m k) * Real.exp (D.rG m k - D.rB m j k))
    = Real.exp (D.cs (64 * n + r + 1) k - D.cs (64 * m + j + 1) k) := by
  rw [← Real.exp_add, ← Real.exp_add, rB_eq, rB_eq, rC_eq, rC_eq, rG_eq, rG_eq]
  congr 1
  ring

/-- The two decays between tokens of a chunk are one exponential. -/
theorem exp_d (n r j k : ℕ) : Real.exp (D.rB n r k) * Real.exp (-D.rB n j k)
    = Real.exp (D.cs (64 * n + r + 1) k - D.cs (64 * n + j + 1) k) := by
  rw [← Real.exp_add, rB_eq, rB_eq]
  congr 1
  ring

/-- The reference's gradient of the queries is the closed form. -/
theorem rdq_eq (n r k : ℕ) (hn : n < 12) (hr : r < 64) : D.rdq n r k = D.dq (64 * n + r) k := by
  have inter : D.rqi n r k = ∑ m ∈ range 12, ∑ j ∈ range 64,
      D.kd m j k * D.vs m * D.rD n m k * ∑ v ∈ range 512, D.Vc (64 * m + j) v * D.Do (64 * n + r) v := by
    rw [rqi]
    simp only [rS, rU, Finset.sum_mul, Finset.mul_sum]
    rw [Finset.sum_comm]
    refine Finset.sum_congr rfl fun m _ => ?_
    rw [Finset.sum_comm]
    refine Finset.sum_congr rfl fun j _ => Finset.sum_congr rfl fun v _ => ?_
    ring
  rw [dq_sum, sum_upto _ n r hn hr, rdq, mul_add, inter]
  congr 1
  · rw [Finset.mul_sum, Finset.mul_sum]
    refine Finset.sum_congr rfl fun m _ => ?_
    rw [Finset.mul_sum, Finset.mul_sum, sel_eq]
    split
    · next h =>
      refine Finset.sum_congr rfl fun j hj => ?_
      have := Finset.mem_range.mp hj
      rw [kd, rD, sel_eq, if_pos h, ← exp_q D n r m j k, show (64 * m + j) / 64 = m by omega]
      ring
    · next h =>
      refine Finset.sum_eq_zero fun j _ => ?_
      rw [rD, sel_eq, if_neg h]
      ring
  · rw [Finset.mul_sum]
    refine Finset.sum_congr rfl fun j hj => ?_
    have := Finset.mem_range.mp hj
    rw [kg, rA, sel_eq, sel_eq]
    split
    · rw [← exp_d D n r j k, show (64 * n + j) / 64 = n by omega,
        Finset.sum_congr rfl fun v _ => mul_comm (D.Do (64 * n + r) v) (D.Vc (64 * n + j) v)]
      ring
    · ring

/-- The reference's gradient of the keys is the closed form. -/
theorem rdk_eq (n r k : ℕ) (hn : n < 12) (hr : r < 64) : D.rdk n r k = D.dk (64 * n + r) k := by
  have inter : D.rki n r k = ∑ m ∈ range 12, ∑ j ∈ range 64,
      D.qg m j k * D.ds (64 * m + j) * D.vs n * D.rD m n k * ∑ v ∈ range 512, D.Vc (64 * n + r) v * D.Do (64 * m + j) v := by
    rw [rki]
    simp only [rT, rW, dod, Finset.sum_mul, Finset.mul_sum]
    rw [Finset.sum_comm]
    refine Finset.sum_congr rfl fun m _ => ?_
    rw [Finset.sum_comm]
    refine Finset.sum_congr rfl fun j _ => Finset.sum_congr rfl fun v _ => ?_
    ring
  rw [dk_sum, sum_from _ n r hn hr, rdk, inter]
  congr 1
  · rw [Finset.mul_sum]
    refine Finset.sum_congr rfl fun m _ => ?_
    rw [Finset.mul_sum, sel_eq]
    split
    · next h =>
      refine Finset.sum_congr rfl fun j hj => ?_
      rw [qg, rD, sel_eq, if_pos h, ← exp_q D m j n r k, show (64 * n + r) / 64 = n by omega]
      ring
    · next h =>
      refine Finset.sum_eq_zero fun j _ => ?_
      rw [rD, sel_eq, if_neg h]
      ring
  · rw [Finset.mul_sum]
    refine Finset.sum_congr rfl fun j hj => ?_
    rw [qg, rA, sel_eq, sel_eq]
    split
    · rw [← exp_d D n j r k, show (64 * n + r) / 64 = n by omega,
        Finset.sum_congr rfl fun v _ => mul_comm (D.Do (64 * n + j) v) (D.Vc (64 * n + r) v)]
      ring
    · ring

/-- The reference's gradient of the values is the closed form. -/
theorem rdv_eq (n r v : ℕ) (hn : n < 12) (hr : r < 64) : D.rdv n r v = D.dv (64 * n + r) v := by
  have inter : D.rvi n r v = ∑ m ∈ range 12, ∑ j ∈ range 64, ∑ k ∈ range 256,
      D.qg m j k * D.rD m n k * D.kd n r k * (D.ds (64 * m + j) * D.Do (64 * m + j) v) := by
    rw [rvi]
    simp only [rT, rW, dod, Finset.sum_mul]
    rw [Finset.sum_comm]
    refine Finset.sum_congr rfl fun m _ => ?_
    rw [Finset.sum_comm]
    refine Finset.sum_congr rfl fun j _ => Finset.sum_congr rfl fun k _ => ?_
    ring
  rw [dv_sum, sum_from _ n r hn hr, rdv, inter]
  congr 1
  · refine Finset.sum_congr rfl fun m _ => ?_
    rw [sel_eq]
    split
    · next h =>
      refine Finset.sum_congr rfl fun j _ => ?_
      rw [S, Finset.sum_mul, Finset.sum_mul]
      refine Finset.sum_congr rfl fun k _ => ?_
      rw [qg, kd, rD, sel_eq, if_pos h, ← exp_q D m j n r k]
      ring
    · next h =>
      refine Finset.sum_eq_zero fun j _ => Finset.sum_eq_zero fun k _ => ?_
      rw [rD, sel_eq, if_neg h]
      ring
  · refine Finset.sum_congr rfl fun j _ => ?_
    rw [rP, sel_eq, sel_eq, dod]
    split
    · rw [S, Finset.mul_sum, Finset.sum_mul, Finset.sum_mul]
      refine Finset.sum_congr rfl fun k _ => ?_
      rw [qg, kg, ← exp_d D n j r k]
      ring
    · ring

/-- The reference's gradient of the summed log-decay is the closed form. -/
theorem rdb_eq (n r k : ℕ) (hn : n < 12) (hr : r < 64) : D.rdb n r k = D.db (64 * n + r) k := by
  rw [rdb, rdq_eq D n r k hn hr, rdk_eq D n r k hn hr, db, dq, dk, QF, KF]
  ring

/-- The sum from a token to the end of its chunk. -/
theorem rin_eq (n r k : ℕ) (hn : n < 12) : D.rin n r k = ∑ x ∈ Finset.Ico (64 * n + r) (64 * n + 64), D.db x k := by
  rw [rin, Finset.sum_congr rfl fun x hx => D.rdb_eq n x k hn (Finset.mem_Ico.mp hx).2, Nat.add_comm (64 * n) r,
    Nat.add_comm (64 * n) 64, Finset.sum_Ico_add (fun x => D.db x k)]

/-- The sum over the later chunks. -/
theorem rlat_eq (n k : ℕ) (hn : n < 12) : D.rlat n k = ∑ x ∈ Finset.Ico (64 * n + 64) 768, D.db x k := by
  have e := sum_chunks_Ico (fun x => D.db x k) (n + 1) (11 - n)
  rw [show 64 * (n + 1 + (11 - n)) = 768 by omega, show n + 1 + (11 - n) = 11 + 1 by omega] at e
  rw [rlat, show 64 * n + 64 = 64 * (n + 1) by ring, e, ← Finset.sum_Ico_add' (fun m => ∑ j ∈ range 64, D.db (64 * m + j) k) n 11 1]
  refine Finset.sum_congr rfl fun m hm => ?_
  have := Finset.mem_Ico.mp hm
  rw [rin_eq D (m + 1) 0 k (by omega), Finset.sum_Ico_eq_sum_range, add_zero, Nat.add_sub_cancel_left]

/-- The reference's gradient of the log-decay is the closed form. -/
theorem rdg_eq (n r k : ℕ) (hn : n < 12) (hr : r < 64) : D.rdg n r k = D.dg (64 * n + r) k := by
  rw [rdg, rin_eq D n r k hn, rlat_eq D n k hn, dg, Finset.sum_Ico_consecutive _ (by omega) (by omega)]

end Data

end Cert.RV
-- ==== Proof.Scans.lean ====
/-
  The reference's host operations on real entries: elementwise arithmetic, masks, contractions, running sums and padding.
-/
module

public import proofs.«01_k».proof.Proof.Chunks
public import proofs.«01_k».proof.Proof.Gen.ReferenceIdeal.Read

@[expose] public section

noncomputable section

namespace Cert.RV

open Idealize.ShloMosaic Idealize.ShloMosaic.ValueIdx Idealize.SL.Sem
open Cert.ReferenceIdeal Cert.ReferenceIdeal.Gen
open scoped BigOperators
open Finset (range)

/-! ## One element -/

/-- The product of two real numbers as elements. -/
theorem r_mul (φ : FTy) (x y : ℝ) : FloatOps.mulf (R0 φ x) (R0 φ y) = R0 φ (x * y) := (EReal.coe_mul x y).symm
/-- The sum of two real numbers as elements. -/
theorem r_add (φ : FTy) (x y : ℝ) : FloatOps.addf (R0 φ x) (R0 φ y) = R0 φ (x + y) := (EReal.coe_add x y).symm
/-- The difference of two real numbers as elements. -/
theorem r_sub (φ : FTy) (x y : ℝ) : FloatOps.subf (R0 φ x) (R0 φ y) = R0 φ (x - y) := (EReal.coe_sub x y).symm
/-- The negative of a real number as an element. -/
theorem r_neg (φ : FTy) (x : ℝ) : FloatOps.hostNegf (R0 φ x) = R0 φ (-x) := (EReal.coe_neg x).symm
/-- The exponential of a real number as an element. -/
theorem r_exp (φ : FTy) (x : ℝ) : FloatOps.hostUnary .exp (R0 φ x) = R0 φ (Real.exp x) := rfl
/-- Narrowing a real number leaves it. -/
theorem r_trunc (x : ℝ) : FloatOps.truncf .bf16 bitsLt_bf16_f32 (R0 .f32 x) = R0 .bf16 x := rfl

/-- A choice between two real numbers by a decided condition. -/
theorem r_sel (φ : FTy) (p : Prop) [Decidable p] (x y : ℝ) :
    Scalar.select (if p then 1#1 else 0#1) (R0 φ x) (R0 φ y) = R0 φ (sel p x y) := by
  rw [sel_eq]
  split
  · exact if_pos rfl
  · exact if_neg (by decide)

/-- A contraction of real entries. -/
theorem r_dot {n : ℕ} (l r : Fin n → EReal) (f g : ℕ → ℝ) (hl : ∀ k, l k = ((f k.val : ℝ) : EReal)) (hr : ∀ k, r k = ((g k.val : ℝ) : EReal)) :
    ∑ k, l k * r k = ((∑ k ∈ range n, f k * g k : ℝ) : EReal) := by
  rw [← Fin.sum_univ_eq_sum_range (fun k => f k * g k) n, Finset.sum_congr rfl fun k _ => by rw [hl k, hr k, ← EReal.coe_mul]]
  exact (map_sum (⟨⟨Real.toEReal, EReal.coe_zero⟩, EReal.coe_add⟩ : ℝ →+ EReal) _ _).symm

/-! ## Masks -/

/-- The mask inside a chunk: a token sees itself and the earlier ones. -/
theorem mask64 : ∀ a b : Fin 64, Scalar.select (IntOp.cmpi .sge (IntOp.addi (BitVec.ofNat 32 a.val) 0#32) (BitVec.ofNat 32 b.val)) 1#1 0#1
    = if b.val ≤ a.val then 1#1 else 0#1 := by decide +kernel

/-- The mask between chunks: a chunk sees the earlier ones. -/
theorem mask12 : ∀ a b : Fin 12, Scalar.select (IntOp.cmpi .sge (IntOp.addi (BitVec.ofNat 32 a.val) 4294967295#32) (BitVec.ofNat 32 b.val)) 1#1 0#1
    = if b.val < a.val then 1#1 else 0#1 := by decide +kernel

/-! ## Running sums -/

/-- A fold of real summands is their sum. -/
theorem foldl_real {n : ℕ} (F : Fin n → EReal) (g : ℕ → ℝ) (h : ∀ k, F k = ((g k.val : ℝ) : EReal)) :
    (List.finRange n).foldl (fun r k => r + F k) 0 = ((∑ k ∈ range n, g k : ℝ) : EReal) := by
  have e : ∀ (l : List (Fin n)) (a : ℝ), l.foldl (fun r k => r + F k) (a : EReal) = ((a + (l.map fun k => g k.val).sum : ℝ) : EReal) := by
    intro l
    induction l with
    | nil => simp
    | cons k l ih =>
      intro a
      rw [List.foldl_cons, h k, ← EReal.coe_add, ih, List.map_cons, List.sum_cons, add_assoc]
  refine (e _ 0).trans ?_
  rw [zero_add, ← Fin.sum_univ_def, Fin.sum_univ_eq_sum_range g n]

/-- The positions of a window that is long on axis 2 of 5 alone. -/
theorem win5 (A : ℕ) (n : Fin (⟨5, ![1, 1, A, 1, 1]⟩ : Shape).numel) :
    ((⟨5, ![1, 1, A, 1, 1]⟩ : Shape).rowMajor.symm n 0).val = 0 ∧ ((⟨5, ![1, 1, A, 1, 1]⟩ : Shape).rowMajor.symm n 1).val = 0
      ∧ ((⟨5, ![1, 1, A, 1, 1]⟩ : Shape).rowMajor.symm n 2).val = n.val
      ∧ ((⟨5, ![1, 1, A, 1, 1]⟩ : Shape).rowMajor.symm n 3).val = 0 ∧ ((⟨5, ![1, 1, A, 1, 1]⟩ : Shape).rowMajor.symm n 4).val = 0 := by
  obtain ⟨i, rfl⟩ := (⟨5, ![1, 1, A, 1, 1]⟩ : Shape).rowMajor.surjective n
  rw [Equiv.symm_apply_apply, Shape.rowMajor_val_five]
  have h0 : (i 0).val < 1 := (i 0).isLt
  have h1 : (i 1).val < 1 := (i 1).isLt
  have h3 : (i 3).val < 1 := (i 3).isLt
  have h4 : (i 4).val < 1 := (i 4).isLt
  have e : (⟨5, ![1, 1, A, 1, 1]⟩ : Shape).size 3 = 1 := rfl
  have e4 : (⟨5, ![1, 1, A, 1, 1]⟩ : Shape).size 4 = 1 := rfl
  have e1 : (⟨5, ![1, 1, A, 1, 1]⟩ : Shape).size 1 = 1 := rfl
  refine ⟨by omega, by omega, ?_, by omega, by omega⟩
  simp only [e, e4, e1, show (i 0).val = 0 by omega, show (i 1).val = 0 by omega, show (i 3).val = 0 by omega, show (i 4).val = 0 by omega]
  simp

/-- The positions of a window that is long on axis 1 of 4 alone. -/
theorem win4 (A : ℕ) (n : Fin (⟨4, ![1, A, 1, 1]⟩ : Shape).numel) :
    ((⟨4, ![1, A, 1, 1]⟩ : Shape).rowMajor.symm n 0).val = 0 ∧ ((⟨4, ![1, A, 1, 1]⟩ : Shape).rowMajor.symm n 1).val = n.val
      ∧ ((⟨4, ![1, A, 1, 1]⟩ : Shape).rowMajor.symm n 2).val = 0 ∧ ((⟨4, ![1, A, 1, 1]⟩ : Shape).rowMajor.symm n 3).val = 0 := by
  obtain ⟨i, rfl⟩ := (⟨4, ![1, A, 1, 1]⟩ : Shape).rowMajor.surjective n
  rw [Equiv.symm_apply_apply, Shape.rowMajor_val_four]
  have h0 : (i 0).val < 1 := (i 0).isLt
  have h2 : (i 2).val < 1 := (i 2).isLt
  have h3 : (i 3).val < 1 := (i 3).isLt
  have e2 : (⟨4, ![1, A, 1, 1]⟩ : Shape).size 2 = 1 := rfl
  have e3 : (⟨4, ![1, A, 1, 1]⟩ : Shape).size 3 = 1 := rfl
  refine ⟨by omega, ?_, by omega, by omega⟩
  simp only [e2, e3, show (i 0).val = 0 by omega, show (i 2).val = 0 by omega, show (i 3).val = 0 by omega]
  simp

/-- A windowed sum along axis 2 of an array of real entries: what lies in the window, zeros where it is padding. -/
theorem scan5 (a b A c d L H : ℕ) (x : (⟨5, ![a, b, A, c, d]⟩ : Shape).Idx → EReal) (f : ℕ → ℕ → ℕ → ℕ → ℕ → ℝ)
    (hx : ∀ i, x i = ((f (i 0).val (i 1).val (i 2).val (i 3).val (i 4).val : ℝ) : EReal))
    (h : (⟨5, ![a, b, A, c, d]⟩ : Shape).ReduceWindows ![1, 1, A, 1, 1] ![1, 1, 1, 1, 1] ![0, 0, L, 0, 0] ![0, 0, H, 0, 0] ⟨5, ![a, b, A, c, d]⟩)
    (j : (⟨5, ![a, b, A, c, d]⟩ : Shape).Idx) :
    Ideal.hostReduceWindowAdd (t := ⟨5, ![a, b, A, c, d]⟩) ![1, 1, A, 1, 1] ![1, 1, 1, 1, 1] ![0, 0, L, 0, 0] ![0, 0, H, 0, 0] h x 0 j
      = ((∑ w ∈ range A, sel (L ≤ (j 2).val + w ∧ (j 2).val + w - L < A) (f (j 0).val (j 1).val ((j 2).val + w - L) (j 3).val (j 4).val) 0 : ℝ) : EReal) := by
  have hn : (⟨5, ![1, 1, A, 1, 1]⟩ : Shape).numel = A := by simp [Shape.numel, Fin.prod_univ_succ]
  have j0 : (j 0).val < a := (j 0).isLt
  have j1 : (j 1).val < b := (j 1).isLt
  have j3 : (j 3).val < c := (j 3).isLt
  have j4 : (j 4).val < d := (j 4).isLt
  refine (foldl_real _ (fun w => sel (L ≤ (j 2).val + w ∧ (j 2).val + w - L < A)
    (f (j 0).val (j 1).val ((j 2).val + w - L) (j 3).val (j 4).val) 0) fun n => ?_).trans (by rw [hn])
  obtain ⟨w0, w1, w2, w3, w4⟩ := win5 A n
  rw [sel_eq]
  split
  · next hin =>
    have h2 : L ≤ (j 2).val * 1 + ((⟨5, ![1, 1, A, 1, 1]⟩ : Shape).rowMajor.symm n 2).val
      ∧ (j 2).val * 1 + ((⟨5, ![1, 1, A, 1, 1]⟩ : Shape).rowMajor.symm n 2).val - L < A := hin 2
    rw [w2] at h2
    rw [if_pos (by omega), hx]
    show ((f ((j 0).val * 1 + ((⟨5, ![1, 1, A, 1, 1]⟩ : Shape).rowMajor.symm n 0).val - 0)
      ((j 1).val * 1 + ((⟨5, ![1, 1, A, 1, 1]⟩ : Shape).rowMajor.symm n 1).val - 0)
      ((j 2).val * 1 + ((⟨5, ![1, 1, A, 1, 1]⟩ : Shape).rowMajor.symm n 2).val - L)
      ((j 3).val * 1 + ((⟨5, ![1, 1, A, 1, 1]⟩ : Shape).rowMajor.symm n 3).val - 0)
      ((j 4).val * 1 + ((⟨5, ![1, 1, A, 1, 1]⟩ : Shape).rowMajor.symm n 4).val - 0) : ℝ) : EReal) = _
    rw [w0, w1, w2, w3, w4]
    simp only [Nat.mul_one, Nat.add_zero, Nat.sub_zero]
  · next hin =>
    rw [if_neg fun hle => hin fun t => by
      match t with
      | ⟨0, _⟩ =>
        show 0 ≤ (j 0).val * 1 + ((⟨5, ![1, 1, A, 1, 1]⟩ : Shape).rowMajor.symm n 0).val
          ∧ (j 0).val * 1 + ((⟨5, ![1, 1, A, 1, 1]⟩ : Shape).rowMajor.symm n 0).val - 0 < a
        omega
      | ⟨1, _⟩ =>
        show 0 ≤ (j 1).val * 1 + ((⟨5, ![1, 1, A, 1, 1]⟩ : Shape).rowMajor.symm n 1).val
          ∧ (j 1).val * 1 + ((⟨5, ![1, 1, A, 1, 1]⟩ : Shape).rowMajor.symm n 1).val - 0 < b
        omega
      | ⟨2, _⟩ =>
        show L ≤ (j 2).val * 1 + ((⟨5, ![1, 1, A, 1, 1]⟩ : Shape).rowMajor.symm n 2).val
          ∧ (j 2).val * 1 + ((⟨5, ![1, 1, A, 1, 1]⟩ : Shape).rowMajor.symm n 2).val - L < A
        omega
      | ⟨3, _⟩ =>
        show 0 ≤ (j 3).val * 1 + ((⟨5, ![1, 1, A, 1, 1]⟩ : Shape).rowMajor.symm n 3).val
          ∧ (j 3).val * 1 + ((⟨5, ![1, 1, A, 1, 1]⟩ : Shape).rowMajor.symm n 3).val - 0 < c
        omega
      | ⟨4, _⟩ =>
        show 0 ≤ (j 4).val * 1 + ((⟨5, ![1, 1, A, 1, 1]⟩ : Shape).rowMajor.symm n 4).val
          ∧ (j 4).val * 1 + ((⟨5, ![1, 1, A, 1, 1]⟩ : Shape).rowMajor.symm n 4).val - 0 < d
        omega]
    exact EReal.coe_zero.symm

/-- A windowed sum along axis 1 of an array of real entries: what lies in the window, zeros where it is padding. -/
theorem scan4 (a A c d L H : ℕ) (x : (⟨4, ![a, A, c, d]⟩ : Shape).Idx → EReal) (f : ℕ → ℕ → ℕ → ℕ → ℝ)
    (hx : ∀ i, x i = ((f (i 0).val (i 1).val (i 2).val (i 3).val : ℝ) : EReal))
    (h : (⟨4, ![a, A, c, d]⟩ : Shape).ReduceWindows ![1, A, 1, 1] ![1, 1, 1, 1] ![0, L, 0, 0] ![0, H, 0, 0] ⟨4, ![a, A, c, d]⟩)
    (j : (⟨4, ![a, A, c, d]⟩ : Shape).Idx) :
    Ideal.hostReduceWindowAdd (t := ⟨4, ![a, A, c, d]⟩) ![1, A, 1, 1] ![1, 1, 1, 1] ![0, L, 0, 0] ![0, H, 0, 0] h x 0 j
      = ((∑ w ∈ range A, sel (L ≤ (j 1).val + w ∧ (j 1).val + w - L < A) (f (j 0).val ((j 1).val + w - L) (j 2).val (j 3).val) 0 : ℝ) : EReal) := by
  have hn : (⟨4, ![1, A, 1, 1]⟩ : Shape).numel = A := by simp [Shape.numel, Fin.prod_univ_succ]
  have j0 : (j 0).val < a := (j 0).isLt
  have j2 : (j 2).val < c := (j 2).isLt
  have j3 : (j 3).val < d := (j 3).isLt
  refine (foldl_real _ (fun w => sel (L ≤ (j 1).val + w ∧ (j 1).val + w - L < A)
    (f (j 0).val ((j 1).val + w - L) (j 2).val (j 3).val) 0) fun n => ?_).trans (by rw [hn])
  obtain ⟨w0, w1, w2, w3⟩ := win4 A n
  rw [sel_eq]
  split
  · next hin =>
    have h1 : L ≤ (j 1).val * 1 + ((⟨4, ![1, A, 1, 1]⟩ : Shape).rowMajor.symm n 1).val
      ∧ (j 1).val * 1 + ((⟨4, ![1, A, 1, 1]⟩ : Shape).rowMajor.symm n 1).val - L < A := hin 1
    rw [w1] at h1
    rw [if_pos (by omega), hx]
    show ((f ((j 0).val * 1 + ((⟨4, ![1, A, 1, 1]⟩ : Shape).rowMajor.symm n 0).val - 0)
      ((j 1).val * 1 + ((⟨4, ![1, A, 1, 1]⟩ : Shape).rowMajor.symm n 1).val - L)
      ((j 2).val * 1 + ((⟨4, ![1, A, 1, 1]⟩ : Shape).rowMajor.symm n 2).val - 0)
      ((j 3).val * 1 + ((⟨4, ![1, A, 1, 1]⟩ : Shape).rowMajor.symm n 3).val - 0) : ℝ) : EReal) = _
    rw [w0, w1, w2, w3]
    simp only [Nat.mul_one, Nat.add_zero, Nat.sub_zero]
  · next hin =>
    rw [if_neg fun hle => hin fun t => by
      match t with
      | ⟨0, _⟩ =>
        show 0 ≤ (j 0).val * 1 + ((⟨4, ![1, A, 1, 1]⟩ : Shape).rowMajor.symm n 0).val
          ∧ (j 0).val * 1 + ((⟨4, ![1, A, 1, 1]⟩ : Shape).rowMajor.symm n 0).val - 0 < a
        omega
      | ⟨1, _⟩ =>
        show L ≤ (j 1).val * 1 + ((⟨4, ![1, A, 1, 1]⟩ : Shape).rowMajor.symm n 1).val
          ∧ (j 1).val * 1 + ((⟨4, ![1, A, 1, 1]⟩ : Shape).rowMajor.symm n 1).val - L < A
        omega
      | ⟨2, _⟩ =>
        show 0 ≤ (j 2).val * 1 + ((⟨4, ![1, A, 1, 1]⟩ : Shape).rowMajor.symm n 2).val
          ∧ (j 2).val * 1 + ((⟨4, ![1, A, 1, 1]⟩ : Shape).rowMajor.symm n 2).val - 0 < c
        omega
      | ⟨3, _⟩ =>
        show 0 ≤ (j 3).val * 1 + ((⟨4, ![1, A, 1, 1]⟩ : Shape).rowMajor.symm n 3).val
          ∧ (j 3).val * 1 + ((⟨4, ![1, A, 1, 1]⟩ : Shape).rowMajor.symm n 3).val - 0 < d
        omega]
    exact EReal.coe_zero.symm

/-- The same of the host's operation, from a zero. -/
theorem host_scan5 (a b A c d L H : ℕ) (x : FVec Ideal ⟨5, ![a, b, A, c, d]⟩ .f32) (f : ℕ → ℕ → ℕ → ℕ → ℕ → ℝ)
    (hx : ∀ i, (x i : Ideal .f32) = R0 .f32 (f (i 0).val (i 1).val (i 2).val (i 3).val (i 4).val)) {u : Shape} (init : u.Idx → Ideal .f32) (hu : 0 < u.numel)
    (hi : init (Shape.Idx.first hu) = R0 .f32 0)
    (h : Shape.ReduceWindows ⟨5, ![a, b, A, c, d]⟩ ![1, 1, A, 1, 1] ![1, 1, 1, 1, 1] ![0, 0, L, 0, 0] ![0, 0, H, 0, 0] ⟨5, ![a, b, A, c, d]⟩) (j : Shape.Idx ⟨5, ![a, b, A, c, d]⟩) :
    (Host.reduceWindowAdd (t := ⟨5, ![a, b, A, c, d]⟩) ![1, 1, A, 1, 1] ![1, 1, 1, 1, 1] ![0, 0, L, 0, 0] ![0, 0, H, 0, 0] x init h hu j : Ideal .f32)
      = R0 .f32 (∑ w ∈ range A, sel (L ≤ (j 2).val + w ∧ (j 2).val + w - L < A) (f (j 0).val (j 1).val ((j 2).val + w - L) (j 3).val (j 4).val) 0) := by
  show Ideal.hostReduceWindowAdd (t := ⟨5, ![a, b, A, c, d]⟩) ![1, 1, A, 1, 1] ![1, 1, 1, 1, 1] ![0, 0, L, 0, 0] ![0, 0, H, 0, 0] h x (init (Shape.Idx.first hu)) j = _
  rw [hi.trans EReal.coe_zero]
  exact scan5 a b A c d L H x f hx h j

/-- The same of the host's operation, from a zero. -/
theorem host_scan4 (a A c d L H : ℕ) (x : FVec Ideal ⟨4, ![a, A, c, d]⟩ .f32) (f : ℕ → ℕ → ℕ → ℕ → ℝ)
    (hx : ∀ i, (x i : Ideal .f32) = R0 .f32 (f (i 0).val (i 1).val (i 2).val (i 3).val)) {u : Shape} (init : u.Idx → Ideal .f32) (hu : 0 < u.numel)
    (hi : init (Shape.Idx.first hu) = R0 .f32 0)
    (h : Shape.ReduceWindows ⟨4, ![a, A, c, d]⟩ ![1, A, 1, 1] ![1, 1, 1, 1] ![0, L, 0, 0] ![0, H, 0, 0] ⟨4, ![a, A, c, d]⟩) (j : Shape.Idx ⟨4, ![a, A, c, d]⟩) :
    (Host.reduceWindowAdd (t := ⟨4, ![a, A, c, d]⟩) ![1, A, 1, 1] ![1, 1, 1, 1] ![0, L, 0, 0] ![0, H, 0, 0] x init h hu j : Ideal .f32)
      = R0 .f32 (∑ w ∈ range A, sel (L ≤ (j 1).val + w ∧ (j 1).val + w - L < A) (f (j 0).val ((j 1).val + w - L) (j 2).val (j 3).val) 0) := by
  show Ideal.hostReduceWindowAdd (t := ⟨4, ![a, A, c, d]⟩) ![1, A, 1, 1] ![1, 1, 1, 1] ![0, L, 0, 0] ![0, H, 0, 0] h x (init (Shape.Idx.first hu)) j = _
  rw [hi.trans EReal.coe_zero]
  exact scan4 a A c d L H x f hx h j

/-- A window padded low: the sum up to the position. -/
theorem window_upto (f : ℕ → ℝ) (A j : ℕ) (hj : j < A + 1) :
    ∑ w ∈ range (A + 1), sel (A ≤ j + w ∧ j + w - A < A + 1) (f (j + w - A)) 0 = ∑ x ∈ range (j + 1), f x := by
  have e : A + 1 = (A - j) + (j + 1) := by omega
  rw [show range (A + 1) = range ((A - j) + (j + 1)) from congrArg range e, Finset.sum_range_add,
    Finset.sum_eq_zero fun w hw => by
      have := Finset.mem_range.mp hw
      rw [sel_eq, if_neg (by omega)], zero_add]
  refine Finset.sum_congr rfl fun x hx => ?_
  have := Finset.mem_range.mp hx
  rw [sel_eq, if_pos (by omega), show j + (A - j + x) - A = x by omega]

/-- A window padded high: the sum from the position on. -/
theorem window_from (f : ℕ → ℝ) (A j : ℕ) (hj : j < A) :
    ∑ w ∈ range A, sel (0 ≤ j + w ∧ j + w - 0 < A) (f (j + w - 0)) 0 = ∑ x ∈ Finset.Ico j A, f x := by
  have e : A = (A - j) + j := by omega
  rw [show range A = range ((A - j) + j) from congrArg range e, Finset.sum_range_add, add_comm,
    Finset.sum_eq_zero fun w hw => by
      rw [sel_eq, if_neg (by omega)], zero_add, Finset.sum_Ico_eq_sum_range]
  refine Finset.sum_congr rfl fun x hx => ?_
  have := Finset.mem_range.mp hx
  rw [sel_eq, if_pos (by omega), Nat.sub_zero]

end Cert.RV
-- ==== Proof.Stages.lean ====
/-
  The reference's arrays, operation by operation, as functions of the real numbers its inputs hold.
-/
module

public import proofs.«01_k».proof.Proof.Scans

@[expose] public section

noncomputable section

namespace Cert.RV

open Idealize.ShloMosaic Idealize.ShloMosaic.ValueIdx Idealize.SL.Sem
open Cert.ReferenceIdeal Cert.ReferenceIdeal.Gen
open scoped BigOperators
open Finset (range)

/-- The real numbers the arguments hold: codes and log-decay by batch, token, head and channel, scales by batch, chunk (or token) and head. -/
structure Inp where
  q : ℕ → ℕ → ℕ → ℕ → ℝ
  k : ℕ → ℕ → ℕ → ℕ → ℝ
  v : ℕ → ℕ → ℕ → ℕ → ℝ
  o : ℕ → ℕ → ℕ → ℕ → ℝ
  g : ℕ → ℕ → ℕ → ℕ → ℝ
  qs : ℕ → ℕ → ℕ → ℝ
  ks : ℕ → ℕ → ℕ → ℝ
  vs : ℕ → ℕ → ℕ → ℝ
  ds : ℕ → ℕ → ℕ → ℝ

/-- What one batch and head sees of them. -/
def Inp.data (I : Inp) (b h : ℕ) : Data where
  Qc t c := I.q b t h c
  Kc t c := I.k b t h c
  Vc t c := I.v b t h c
  Do t c := I.o b t h c
  G t c := I.g b t h c
  qs n := I.qs b n h
  ks n := I.ks b n h
  vs n := I.vs b n h
  ds t := I.ds b t h

/-- What the reference's host operations read: the scales, the log-decay, and the four decoded arrays. -/
structure Ref where
  x2 : (⟨S2x12x10, .f32⟩ : BufTy).Contents (Elt Ideal)
  x3 : (⟨S2x12x10, .f32⟩ : BufTy).Contents (Elt Ideal)
  x5 : (⟨S2x12x10, .f32⟩ : BufTy).Contents (Elt Ideal)
  x7 : (⟨S2x768x10, .f32⟩ : BufTy).Contents (Elt Ideal)
  x8 : (⟨S2x768x10x256, .f32⟩ : BufTy).Contents (Elt Ideal)
  r0 : (⟨S2x768x10x256, .f32⟩ : BufTy).Contents (Elt Ideal)
  r1 : (⟨S2x768x10x256, .f32⟩ : BufTy).Contents (Elt Ideal)
  r2 : (⟨S2x768x10x512, .bf16⟩ : BufTy).Contents (Elt Ideal)
  r3 : (⟨S2x768x10x512, .bf16⟩ : BufTy).Contents (Elt Ideal)

/-- Those arrays hold the real numbers `I`. -/
structure Ref.Real (P : Ref) (I : Inp) : Prop where
  x2 : ∀ i : S2x12x10.Idx, (P.x2 i : Ideal .f32) = R0 .f32 (I.qs (i 0).val (i 1).val (i 2).val)
  x3 : ∀ i : S2x12x10.Idx, (P.x3 i : Ideal .f32) = R0 .f32 (I.ks (i 0).val (i 1).val (i 2).val)
  x5 : ∀ i : S2x12x10.Idx, (P.x5 i : Ideal .f32) = R0 .f32 (I.vs (i 0).val (i 1).val (i 2).val)
  x7 : ∀ i : S2x768x10.Idx, (P.x7 i : Ideal .f32) = R0 .f32 (I.ds (i 0).val (i 1).val (i 2).val)
  x8 : ∀ i : S2x768x10x256.Idx, (P.x8 i : Ideal .f32) = R0 .f32 (I.g (i 0).val (i 1).val (i 2).val (i 3).val)
  r0 : ∀ i : S2x768x10x256.Idx, (P.r0 i : Ideal .f32) = R0 .f32 (I.q (i 0).val (i 1).val (i 2).val (i 3).val)
  r1 : ∀ i : S2x768x10x256.Idx, (P.r1 i : Ideal .f32) = R0 .f32 (I.k (i 0).val (i 1).val (i 2).val (i 3).val)
  r2 : ∀ i : S2x768x10x512.Idx, (P.r2 i : Ideal .bf16) = R0 .bf16 (I.v (i 0).val (i 1).val (i 2).val (i 3).val)
  r3 : ∀ i : S2x768x10x512.Idx, (P.r3 i : Ideal .bf16) = R0 .bf16 (I.o (i 0).val (i 1).val (i 2).val (i 3).val)

/-! ## Flattened indices -/

/-- A function of three numbers at equal numbers. -/
theorem congr3 (f : ℕ → ℕ → ℕ → ℝ) {a b c a' b' c' : ℕ} (ha : a = a') (hb : b = b') (hc : c = c') : f a b c = f a' b' c' := by
  subst ha hb hc; rfl
/-- A function of four numbers at equal numbers. -/
theorem congr4 (f : ℕ → ℕ → ℕ → ℕ → ℝ) {a b c d a' b' c' d' : ℕ} (ha : a = a') (hb : b = b') (hc : c = c') (hd : d = d') :
    f a b c d = f a' b' c' d' := by
  subst ha hb hc hd; rfl
/-- A function of five numbers at equal numbers. -/
theorem congr5 (f : ℕ → ℕ → ℕ → ℕ → ℕ → ℝ) {a b c d e a' b' c' d' e' : ℕ} (ha : a = a') (hb : b = b') (hc : c = c') (hd : d = d')
    (he : e = e') : f a b c d e = f a' b' c' d' e' := by
  subst ha hb hc hd he; rfl

/-- Flattening the indices of a chunked array and splitting them at the unchunked shape gives batch, token, head and place. -/
theorem flat_1 {b n r h : ℕ} (hb : b < 2) (hn : n < 12) (hr : r < 64) (hh : h < 10) :
    (((b * 12 + n) * 64 + r) * 10 + h) / 7680 = b ∧ (((b * 12 + n) * 64 + r) * 10 + h) / 10 % 768 = 64 * n + r
      ∧ (((b * 12 + n) * 64 + r) * 10 + h) % 10 = h := by omega

/-- Flattening the indices of a chunked array and splitting them at the unchunked shape gives batch, token, head and place. -/
theorem flat_256 {b n r h k : ℕ} (hb : b < 2) (hn : n < 12) (hr : r < 64) (hh : h < 10) (hk : k < 256) :
    ((((b * 12 + n) * 64 + r) * 10 + h) * 256 + k) / 1966080 = b ∧ ((((b * 12 + n) * 64 + r) * 10 + h) * 256 + k) / 2560 % 768 = 64 * n + r
      ∧ ((((b * 12 + n) * 64 + r) * 10 + h) * 256 + k) / 256 % 10 = h ∧ ((((b * 12 + n) * 64 + r) * 10 + h) * 256 + k) % 256 = k := by omega

/-- Flattening the indices of an unchunked array and splitting them at the chunked shape gives batch, chunk, row, head and place. -/
theorem join_256 {b t h k : ℕ} (hb : b < 2) (ht : t < 768) (hh : h < 10) (hk : k < 256) :
    (((b * 768 + t) * 10 + h) * 256 + k) / 1966080 = b ∧ (((b * 768 + t) * 10 + h) * 256 + k) / 163840 % 12 = t / 64 ∧ (((b * 768 + t) * 10 + h) * 256 + k) / 2560 % 64 = t % 64
      ∧ (((b * 768 + t) * 10 + h) * 256 + k) / 256 % 10 = h ∧ (((b * 768 + t) * 10 + h) * 256 + k) % 256 = k := by omega

/-- Flattening the indices of a chunked array and splitting them at the unchunked shape gives batch, token, head and place. -/
theorem flat_512 {b n r h k : ℕ} (hb : b < 2) (hn : n < 12) (hr : r < 64) (hh : h < 10) (hk : k < 512) :
    ((((b * 12 + n) * 64 + r) * 10 + h) * 512 + k) / 3932160 = b ∧ ((((b * 12 + n) * 64 + r) * 10 + h) * 512 + k) / 5120 % 768 = 64 * n + r
      ∧ ((((b * 12 + n) * 64 + r) * 10 + h) * 512 + k) / 512 % 10 = h ∧ ((((b * 12 + n) * 64 + r) * 10 + h) * 512 + k) % 512 = k := by omega

/-- Flattening the indices of an unchunked array and splitting them at the chunked shape gives batch, chunk, row, head and place. -/
theorem join_512 {b t h k : ℕ} (hb : b < 2) (ht : t < 768) (hh : h < 10) (hk : k < 512) :
    (((b * 768 + t) * 10 + h) * 512 + k) / 3932160 = b ∧ (((b * 768 + t) * 10 + h) * 512 + k) / 327680 % 12 = t / 64 ∧ (((b * 768 + t) * 10 + h) * 512 + k) / 5120 % 64 = t % 64
      ∧ (((b * 768 + t) * 10 + h) * 512 + k) / 512 % 10 = h ∧ (((b * 768 + t) * 10 + h) * 512 + k) % 512 = k := by omega

/-- Flattening the indices of an array per chunk and splitting them again. -/
theorem flat_4 {b n h k : ℕ} (hb : b < 2) (hn : n < 12) (hh : h < 10) (hk : k < 256) :
    (((b * 12 + n) * 10 + h) * 256 + k) / 30720 = b ∧ (((b * 12 + n) * 10 + h) * 256 + k) / 2560 % 12 = n ∧ (((b * 12 + n) * 10 + h) * 256 + k) / 256 % 10 = h ∧ (((b * 12 + n) * 10 + h) * 256 + k) % 256 = k := by omega

/-- The scaled query of a row of a chunk. -/
theorem Q_at (D : Data) (n r : ℕ) (hr : r < 64) (k : ℕ) : D.Q (64 * n + r) k = D.Qc (64 * n + r) k * D.qs n := by
  rw [Data.Q, show (64 * n + r) / 64 = n by omega]
/-- The scaled key of a row of a chunk. -/
theorem K_at (D : Data) (n r : ℕ) (hr : r < 64) (k : ℕ) : D.K (64 * n + r) k = D.Kc (64 * n + r) k * D.ks n := by
  rw [Data.K, show (64 * n + r) / 64 = n by omega]

namespace Ref.Real

variable {P : Ref} {I : Inp} (R : P.Real I)
include R

/-! ## The operations -/

/-- The decoded codes of the queries, in chunks. -/
theorem v5 (i : S2x12x64x10x256.Idx) : (Read.val_main_v5 (F := Ideal) P.r0 i : Ideal .f32)
    = R0 .f32 ((I.data (i 0).val (i 3).val).Qc (64 * (i 1).val + (i 2).val) (i 4).val) := by
  obtain ⟨e0, e1, e2, e3⟩ := flat_256 (i 0).isLt (i 1).isLt (i 2).isLt (i 3).isLt (i 4).isLt
  refine (Read.val_main_v5_apply (F := Ideal) P.r0 i).trans ((R.r0 _).trans ?_)
  exact congrArg (R0 .f32) (congr4 I.q e0 e1 e2 e3)

/-- The decoded codes of the keys, in chunks. -/
theorem v6 (i : S2x12x64x10x256.Idx) : (Read.val_main_v6 (F := Ideal) P.r1 i : Ideal .f32)
    = R0 .f32 ((I.data (i 0).val (i 3).val).Kc (64 * (i 1).val + (i 2).val) (i 4).val) := by
  obtain ⟨e0, e1, e2, e3⟩ := flat_256 (i 0).isLt (i 1).isLt (i 2).isLt (i 3).isLt (i 4).isLt
  refine (Read.val_main_v6_apply (F := Ideal) P.r1 i).trans ((R.r1 _).trans ?_)
  exact congrArg (R0 .f32) (congr4 I.k e0 e1 e2 e3)

/-- The decoded codes of the values, in chunks. -/
theorem v7 (i : S2x12x64x10x512.Idx) : (Read.val_main_v7 (F := Ideal) P.r2 i : Ideal .bf16)
    = R0 .bf16 ((I.data (i 0).val (i 3).val).Vc (64 * (i 1).val + (i 2).val) (i 4).val) := by
  obtain ⟨e0, e1, e2, e3⟩ := flat_512 (i 0).isLt (i 1).isLt (i 2).isLt (i 3).isLt (i 4).isLt
  refine (Read.val_main_v7_apply (F := Ideal) P.r2 i).trans ((R.r2 _).trans ?_)
  exact congrArg (R0 .bf16) (congr4 I.v e0 e1 e2 e3)

/-- The decoded codes of the output's gradient, in chunks. -/
theorem v8 (i : S2x12x64x10x512.Idx) : (Read.val_main_v8 (F := Ideal) P.r3 i : Ideal .bf16)
    = R0 .bf16 ((I.data (i 0).val (i 3).val).Do (64 * (i 1).val + (i 2).val) (i 4).val) := by
  obtain ⟨e0, e1, e2, e3⟩ := flat_512 (i 0).isLt (i 1).isLt (i 2).isLt (i 3).isLt (i 4).isLt
  refine (Read.val_main_v8_apply (F := Ideal) P.r3 i).trans ((R.r3 _).trans ?_)
  exact congrArg (R0 .bf16) (congr4 I.o e0 e1 e2 e3)

/-- The log-decay, in chunks. -/
theorem v9 (i : S2x12x64x10x256.Idx) : (Read.val_main_v9 (F := Ideal) P.x8 i : Ideal .f32)
    = R0 .f32 ((I.data (i 0).val (i 3).val).G (64 * (i 1).val + (i 2).val) (i 4).val) := by
  obtain ⟨e0, e1, e2, e3⟩ := flat_256 (i 0).isLt (i 1).isLt (i 2).isLt (i 3).isLt (i 4).isLt
  refine (Read.val_main_v9_apply (F := Ideal) P.x8 i).trans ((R.x8 _).trans ?_)
  exact congrArg (R0 .f32) (congr4 I.g e0 e1 e2 e3)

/-- The scales of the output's gradient, in chunks. -/
theorem v10 (i : S2x12x64x10.Idx) : (Read.val_main_v10 (F := Ideal) P.x7 i : Ideal .f32)
    = R0 .f32 ((I.data (i 0).val (i 3).val).ds (64 * (i 1).val + (i 2).val)) := by
  obtain ⟨e0, e1, e2⟩ := flat_1 (i 0).isLt (i 1).isLt (i 2).isLt (i 3).isLt
  refine (Read.val_main_v10_apply (F := Ideal) P.x7 i).trans ((R.x7 _).trans ?_)
  exact congrArg (R0 .f32) (congr3 I.ds e0 e1 e2)

/-- The scales of the queries, with axes of length one. -/
theorem v11 (i : S2x12x1x10x1.Idx) : (Read.val_main_v11 (F := Ideal) P.x2 i : Ideal .f32)
    = R0 .f32 ((I.data (i 0).val (i 3).val).qs (i 1).val) := (Read.val_main_v11_apply (F := Ideal) P.x2 i).trans (R.x2 _)

/-- The scales of the queries, repeated. -/
theorem v12 (i : S2x12x64x10x256.Idx) : (Read.val_main_v12 (F := Ideal) P.x2 i : Ideal .f32)
    = R0 .f32 ((I.data (i 0).val (i 3).val).qs (i 1).val) := (Read.val_main_v12_apply (F := Ideal) P.x2 i).trans (R.v11 _)

/-- The queries. -/
theorem v13 (i : S2x12x64x10x256.Idx) : (Read.val_main_v13 (F := Ideal) P.x2 P.r0 i : Ideal .f32)
    = R0 .f32 ((I.data (i 0).val (i 3).val).Q (64 * (i 1).val + (i 2).val) (i 4).val) := by
  rw [Read.val_main_v13_apply (F := Ideal) P.x2 P.r0 i, R.v5 i, R.v12 i]
  exact (r_mul _ _ _).trans (congrArg (R0 .f32) (Q_at _ _ _ (i 2).isLt _).symm)

/-- The scales of the keys, with axes of length one. -/
theorem v14 (i : S2x12x1x10x1.Idx) : (Read.val_main_v14 (F := Ideal) P.x3 i : Ideal .f32)
    = R0 .f32 ((I.data (i 0).val (i 3).val).ks (i 1).val) := (Read.val_main_v14_apply (F := Ideal) P.x3 i).trans (R.x3 _)

/-- The scales of the keys, repeated. -/
theorem v15 (i : S2x12x64x10x256.Idx) : (Read.val_main_v15 (F := Ideal) P.x3 i : Ideal .f32)
    = R0 .f32 ((I.data (i 0).val (i 3).val).ks (i 1).val) := (Read.val_main_v15_apply (F := Ideal) P.x3 i).trans (R.v14 _)

/-- The keys. -/
theorem v16 (i : S2x12x64x10x256.Idx) : (Read.val_main_v16 (F := Ideal) P.x3 P.r1 i : Ideal .f32)
    = R0 .f32 ((I.data (i 0).val (i 3).val).K (64 * (i 1).val + (i 2).val) (i 4).val) := by
  rw [Read.val_main_v16_apply (F := Ideal) P.x3 P.r1 i, R.v6 i, R.v15 i]
  exact (r_mul _ _ _).trans (congrArg (R0 .f32) (K_at _ _ _ (i 2).isLt _).symm)

/-- The log-decay summed inside each chunk. -/
theorem v17 (i : S2x12x64x10x256.Idx) : (Read.val_main_v17 (F := Ideal) P.x8 i : Ideal .f32)
    = R0 .f32 ((I.data (i 0).val (i 3).val).rB (i 1).val (i 2).val (i 4).val) := by
  unfold Read.val_main_v17
  refine (host_scan5 2 12 64 10 256 63 0 _ (fun b n r h k => (I.data b h).G (64 * n + r) k) (fun i => R.v9 i) _ _ v_zero _ i).trans ?_
  exact congrArg (R0 .f32) (window_upto (fun x => (I.data (i 0).val (i 3).val).G (64 * (i 1).val + x) (i 4).val) 63 (i 2).val (i 2).isLt)

/-- The last row of the cumulative log-decays. -/
theorem v18 (i : S2x12x1x10x256.Idx) : (Read.val_main_v18 (F := Ideal) P.x8 i : Ideal .f32)
    = R0 .f32 ((I.data (i 0).val (i 3).val).rG (i 1).val (i 4).val) := by
  have h2 : (i 2).val < 1 := (i 2).isLt
  refine (Read.val_main_v18_apply (F := Ideal) P.x8 i).trans ((R.v17 _).trans ?_)
  show R0 .f32 ((I.data (i 0).val (i 3).val).rB (i 1).val (63 + (i 2).val) (i 4).val) = _
  rw [show (i 2).val = 0 by omega]
  rfl

/-- The log-decay of each chunk. -/
theorem v19 (i : S2x12x10x256.Idx) : (Read.val_main_v19 (F := Ideal) P.x8 i : Ideal .f32)
    = R0 .f32 ((I.data (i 0).val (i 2).val).rG (i 1).val (i 3).val) := by
  obtain ⟨e0, e1, e2, e3⟩ := flat_4 (i 0).isLt (i 1).isLt (i 2).isLt (i 3).isLt
  refine (Read.val_main_v19_apply (F := Ideal) P.x8 i).trans ((R.v18 _).trans ?_)
  exact congrArg (R0 .f32) (congr4 (fun b n h k => (I.data b h).rG n k) e0 e1 e2 e3)

/-- The decays `exp B`. -/
theorem v20 (i : S2x12x64x10x256.Idx) : (Read.val_main_v20 (F := Ideal) P.x8 i : Ideal .f32)
    = R0 .f32 (Real.exp ((I.data (i 0).val (i 3).val).rB (i 1).val (i 2).val (i 4).val)) := by
  rw [Read.val_main_v20_apply (F := Ideal) P.x8 i, R.v17 i]
  exact r_exp _ _

/-- The negated cumulative log-decays. -/
theorem v21 (i : S2x12x64x10x256.Idx) : (Read.val_main_v21 (F := Ideal) P.x8 i : Ideal .f32)
    = R0 .f32 (-(I.data (i 0).val (i 3).val).rB (i 1).val (i 2).val (i 4).val) := by
  rw [Read.val_main_v21_apply (F := Ideal) P.x8 i, R.v17 i]
  exact r_neg _ _

/-- The inverse decays `exp (-B)`. -/
theorem v22 (i : S2x12x64x10x256.Idx) : (Read.val_main_v22 (F := Ideal) P.x8 i : Ideal .f32)
    = R0 .f32 (Real.exp (-(I.data (i 0).val (i 3).val).rB (i 1).val (i 2).val (i 4).val)) := by
  rw [Read.val_main_v22_apply (F := Ideal) P.x8 i, R.v21 i]
  exact r_exp _ _

/-- The log-decay of each chunk, with an axis of length one. -/
theorem v23 (i : S2x12x1x10x256.Idx) : (Read.val_main_v23 (F := Ideal) P.x8 i : Ideal .f32)
    = R0 .f32 ((I.data (i 0).val (i 3).val).rG (i 1).val (i 4).val) := (Read.val_main_v23_apply (F := Ideal) P.x8 i).trans (R.v19 _)

/-- The log-decay of each chunk, repeated over its rows. -/
theorem v24 (i : S2x12x64x10x256.Idx) : (Read.val_main_v24 (F := Ideal) P.x8 i : Ideal .f32)
    = R0 .f32 ((I.data (i 0).val (i 3).val).rG (i 1).val (i 4).val) := (Read.val_main_v24_apply (F := Ideal) P.x8 i).trans (R.v23 _)

/-- The log-decay from a row to the end of its chunk. -/
theorem v25 (i : S2x12x64x10x256.Idx) : (Read.val_main_v25 (F := Ideal) P.x8 i : Ideal .f32)
    = R0 .f32 ((I.data (i 0).val (i 3).val).rG (i 1).val (i 4).val - (I.data (i 0).val (i 3).val).rB (i 1).val (i 2).val (i 4).val) := by
  rw [Read.val_main_v25_apply (F := Ideal) P.x8 i, R.v24 i, R.v17 i]
  exact r_sub _ _ _

/-- The decays from a row to the end of its chunk. -/
theorem v26 (i : S2x12x64x10x256.Idx) : (Read.val_main_v26 (F := Ideal) P.x8 i : Ideal .f32)
    = R0 .f32 (Real.exp ((I.data (i 0).val (i 3).val).rG (i 1).val (i 4).val - (I.data (i 0).val (i 3).val).rB (i 1).val (i 2).val (i 4).val)) := by
  rw [Read.val_main_v26_apply (F := Ideal) P.x8 i, R.v25 i]
  exact r_exp _ _

omit R in
/-- The scale of the queries, one sixteenth. -/
theorem v27 (i : S2x12x64x10x256.Idx) : (Read.val_main_v27 (F := Ideal) i : Ideal .f32)
    = R0 .f32 (1 / 16) := (Read.val_main_v27_apply (F := Ideal) i).trans v_sixteenth

/-- The scaled queries. -/
theorem v28 (i : S2x12x64x10x256.Idx) : (Read.val_main_v28 (F := Ideal) P.x2 P.r0 i : Ideal .f32)
    = R0 .f32 (1 / 16 * (I.data (i 0).val (i 3).val).Q (64 * (i 1).val + (i 2).val) (i 4).val) := by
  rw [Read.val_main_v28_apply (F := Ideal) P.x2 P.r0 i, v27 i, R.v13 i]
  exact r_mul _ _ _

/-- The decayed, scaled queries. -/
theorem v29 (i : S2x12x64x10x256.Idx) : (Read.val_main_v29 (F := Ideal) P.x2 P.x8 P.r0 i : Ideal .f32)
    = R0 .f32 ((I.data (i 0).val (i 3).val).qg (i 1).val (i 2).val (i 4).val) := by
  rw [Read.val_main_v29_apply (F := Ideal) P.x2 P.x8 P.r0 i, R.v28 i, R.v20 i]
  exact r_mul _ _ _

/-- The queries, scaled and decayed from the start of their chunk. -/
theorem v30 (i : S2x12x64x10x256.Idx) : (Read.val_main_v30 (F := Ideal) P.x2 P.x8 P.r0 i : Ideal .bf16)
    = R0 .bf16 ((I.data (i 0).val (i 3).val).qg (i 1).val (i 2).val (i 4).val) := by
  rw [Read.val_main_v30_apply (F := Ideal) P.x2 P.x8 P.r0 i, R.v29 i]
  exact r_trunc _

/-- The inversely decayed keys. -/
theorem v31 (i : S2x12x64x10x256.Idx) : (Read.val_main_v31 (F := Ideal) P.x3 P.x8 P.r1 i : Ideal .f32)
    = R0 .f32 ((I.data (i 0).val (i 3).val).kg (i 1).val (i 2).val (i 4).val) := by
  rw [Read.val_main_v31_apply (F := Ideal) P.x3 P.x8 P.r1 i, R.v16 i, R.v22 i]
  exact r_mul _ _ _

/-- The keys, decayed back to the start of their chunk. -/
theorem v32 (i : S2x12x64x10x256.Idx) : (Read.val_main_v32 (F := Ideal) P.x3 P.x8 P.r1 i : Ideal .bf16)
    = R0 .bf16 ((I.data (i 0).val (i 3).val).kg (i 1).val (i 2).val (i 4).val) := by
  rw [Read.val_main_v32_apply (F := Ideal) P.x3 P.x8 P.r1 i, R.v31 i]
  exact r_trunc _

/-- The keys decayed to the end of their chunk. -/
theorem v33 (i : S2x12x64x10x256.Idx) : (Read.val_main_v33 (F := Ideal) P.x3 P.x8 P.r1 i : Ideal .f32)
    = R0 .f32 ((I.data (i 0).val (i 3).val).kd (i 1).val (i 2).val (i 4).val) := by
  rw [Read.val_main_v33_apply (F := Ideal) P.x3 P.x8 P.r1 i, R.v16 i, R.v26 i]
  exact r_mul _ _ _

/-- The keys, decayed to the end of their chunk. -/
theorem v34 (i : S2x12x64x10x256.Idx) : (Read.val_main_v34 (F := Ideal) P.x3 P.x8 P.r1 i : Ideal .bf16)
    = R0 .bf16 ((I.data (i 0).val (i 3).val).kd (i 1).val (i 2).val (i 4).val) := by
  rw [Read.val_main_v34_apply (F := Ideal) P.x3 P.x8 P.r1 i, R.v33 i]
  exact r_trunc _

/-- The scales of the output's gradient, narrowed. -/
theorem v35 (i : S2x12x64x10.Idx) : (Read.val_main_v35 (F := Ideal) P.x7 i : Ideal .bf16)
    = R0 .bf16 ((I.data (i 0).val (i 3).val).ds (64 * (i 1).val + (i 2).val)) := by
  rw [Read.val_main_v35_apply (F := Ideal) P.x7 i, R.v10 i]
  exact r_trunc _

/-- The narrowed scales, with an axis of length one. -/
theorem v36 (i : S2x12x64x10x1.Idx) : (Read.val_main_v36 (F := Ideal) P.x7 i : Ideal .bf16)
    = R0 .bf16 ((I.data (i 0).val (i 3).val).ds (64 * (i 1).val + (i 2).val)) := (Read.val_main_v36_apply (F := Ideal) P.x7 i).trans (R.v35 _)

/-- The narrowed scales, repeated. -/
theorem v37 (i : S2x12x64x10x512.Idx) : (Read.val_main_v37 (F := Ideal) P.x7 i : Ideal .bf16)
    = R0 .bf16 ((I.data (i 0).val (i 3).val).ds (64 * (i 1).val + (i 2).val)) := (Read.val_main_v37_apply (F := Ideal) P.x7 i).trans (R.v36 _)

/-- The output's gradient times its scales. -/
theorem v38 (i : S2x12x64x10x512.Idx) : (Read.val_main_v38 (F := Ideal) P.x7 P.r3 i : Ideal .bf16)
    = R0 .bf16 ((I.data (i 0).val (i 3).val).dod (64 * (i 1).val + (i 2).val) (i 4).val) := by
  rw [Read.val_main_v38_apply (F := Ideal) P.x7 P.r3 i, R.v8 i, R.v37 i]
  exact r_mul _ _ _

omit R in
/-- The causal mask inside a chunk. -/
theorem v40 (i : S64x64.Idx) : Read.val_main_v40 (F := Ideal) i = if (i 1).val ≤ (i 0).val then 1#1 else 0#1 := mask64 (i 0) (i 1)

/-- The products of the output's gradient and the values inside a chunk. -/
theorem v41 (i : S2x12x10x64x64.Idx) : (Read.val_main_v41 (F := Ideal) P.r2 P.r3 i : Ideal .f32)
    = R0 .f32 (∑ v ∈ range 512, (I.data (i 0).val (i 2).val).Do (64 * (i 1).val + (i 3).val) v * (I.data (i 0).val (i 2).val).Vc (64 * (i 1).val + (i 4).val) v) := (Read.val_main_v41_apply P.r2 P.r3 i).trans (r_dot _ _ (fun v => (I.data (i 0).val (i 2).val).Do (64 * (i 1).val + (i 3).val) v) (fun v => (I.data (i 0).val (i 2).val).Vc (64 * (i 1).val + (i 4).val) v) (fun _ => R.v8 _) (fun _ => R.v7 _))

/-- The scales of the output's gradient, with the axes exchanged. -/
theorem v42 (i : S2x12x10x64.Idx) : (Read.val_main_v42 (F := Ideal) P.x7 i : Ideal .f32)
    = R0 .f32 ((I.data (i 0).val (i 2).val).ds (64 * (i 1).val + (i 3).val)) := (Read.val_main_v42_apply (F := Ideal) P.x7 i).trans (R.v10 _)

/-- Those scales, with an axis of length one. -/
theorem v43 (i : S2x12x10x64x1.Idx) : (Read.val_main_v43 (F := Ideal) P.x7 i : Ideal .f32)
    = R0 .f32 ((I.data (i 0).val (i 2).val).ds (64 * (i 1).val + (i 3).val)) := (Read.val_main_v43_apply (F := Ideal) P.x7 i).trans (R.v42 _)

/-- The scales of the values, with axes of length one. -/
theorem v44 (i : S2x12x10x1x1.Idx) : (Read.val_main_v44 (F := Ideal) P.x5 i : Ideal .f32)
    = R0 .f32 ((I.data (i 0).val (i 2).val).vs (i 1).val) := (Read.val_main_v44_apply (F := Ideal) P.x5 i).trans (R.x5 _)

/-- The scales of the values, repeated over the rows. -/
theorem v45 (i : S2x12x10x64x1.Idx) : (Read.val_main_v45 (F := Ideal) P.x5 i : Ideal .f32)
    = R0 .f32 ((I.data (i 0).val (i 2).val).vs (i 1).val) := (Read.val_main_v45_apply (F := Ideal) P.x5 i).trans (R.v44 _)

/-- The products of the two scales. -/
theorem v46 (i : S2x12x10x64x1.Idx) : (Read.val_main_v46 (F := Ideal) P.x5 P.x7 i : Ideal .f32)
    = R0 .f32 ((I.data (i 0).val (i 2).val).ds (64 * (i 1).val + (i 3).val) * (I.data (i 0).val (i 2).val).vs (i 1).val) := by
  rw [Read.val_main_v46_apply (F := Ideal) P.x5 P.x7 i, R.v43 i, R.v45 i]
  exact r_mul _ _ _

/-- The products of the two scales, repeated over the columns. -/
theorem v47 (i : S2x12x10x64x64.Idx) : (Read.val_main_v47 (F := Ideal) P.x5 P.x7 i : Ideal .f32)
    = R0 .f32 ((I.data (i 0).val (i 2).val).ds (64 * (i 1).val + (i 3).val) * (I.data (i 0).val (i 2).val).vs (i 1).val) := (Read.val_main_v47_apply (F := Ideal) P.x5 P.x7 i).trans (R.v46 _)

/-- The weights of the gradient before the mask. -/
theorem v48 (i : S2x12x10x64x64.Idx) : (Read.val_main_v48 (F := Ideal) P.x5 P.x7 P.r2 P.r3 i : Ideal .f32)
    = R0 .f32 ((∑ v ∈ range 512, (I.data (i 0).val (i 2).val).Do (64 * (i 1).val + (i 3).val) v * (I.data (i 0).val (i 2).val).Vc (64 * (i 1).val + (i 4).val) v) * ((I.data (i 0).val (i 2).val).ds (64 * (i 1).val + (i 3).val) * (I.data (i 0).val (i 2).val).vs (i 1).val)) := by
  rw [Read.val_main_v48_apply (F := Ideal) P.x5 P.x7 P.r2 P.r3 i, R.v41 i, R.v47 i]
  exact r_mul _ _ _

/-- The masked weights of the gradient. -/
theorem v49 (i : S2x12x10x64x64.Idx) : (Read.val_main_v49 (F := Ideal) P.x5 P.x7 P.r2 P.r3 i : Ideal .f32)
    = R0 .f32 ((I.data (i 0).val (i 2).val).rA (i 1).val (i 3).val (i 4).val) := by
  rw [Read.val_main_v49_apply (F := Ideal) P.x5 P.x7 P.r2 P.r3 i, show Read.val_main_call2_v1 (F := Ideal) i = if (i 4).val ≤ (i 3).val then 1#1 else 0#1 from v40 _, R.v48 i,
    show Read.val_main_call2_v2 (F := Ideal) i = R0 .f32 0 from v_zero]
  exact r_sel _ _ _ _

/-- The gradient of the attention inside a chunk. -/
theorem v50 (i : S2x12x10x64x64.Idx) : (Read.val_main_v50 (F := Ideal) P.x5 P.x7 P.r2 P.r3 i : Ideal .bf16)
    = R0 .bf16 ((I.data (i 0).val (i 2).val).rA (i 1).val (i 3).val (i 4).val) := by
  rw [Read.val_main_v50_apply (F := Ideal) P.x5 P.x7 P.r2 P.r3 i, R.v49 i]
  exact r_trunc _

/-- The products of the queries and keys inside a chunk. -/
theorem v51 (i : S2x12x10x64x64.Idx) : (Read.val_main_v51 (F := Ideal) P.x2 P.x3 P.x8 P.r0 P.r1 i : Ideal .f32)
    = R0 .f32 (∑ k ∈ range 256, (I.data (i 0).val (i 2).val).qg (i 1).val (i 3).val k * (I.data (i 0).val (i 2).val).kg (i 1).val (i 4).val k) := (Read.val_main_v51_apply P.x2 P.x3 P.x8 P.r0 P.r1 i).trans (r_dot _ _ (fun k => (I.data (i 0).val (i 2).val).qg (i 1).val (i 3).val k) (fun k => (I.data (i 0).val (i 2).val).kg (i 1).val (i 4).val k) (fun _ => R.v30 _) (fun _ => R.v32 _))

/-- The masked attention weights. -/
theorem v52 (i : S2x12x10x64x64.Idx) : (Read.val_main_v52 (F := Ideal) P.x2 P.x3 P.x8 P.r0 P.r1 i : Ideal .f32)
    = R0 .f32 ((I.data (i 0).val (i 2).val).rP (i 1).val (i 3).val (i 4).val) := by
  rw [Read.val_main_v52_apply (F := Ideal) P.x2 P.x3 P.x8 P.r0 P.r1 i, show Read.val_main_call3_v1 (F := Ideal) i = if (i 4).val ≤ (i 3).val then 1#1 else 0#1 from v40 _, R.v51 i,
    show Read.val_main_call3_v2 (F := Ideal) i = R0 .f32 0 from v_zero]
  exact r_sel _ _ _ _

/-- The attention inside a chunk. -/
theorem v53 (i : S2x12x10x64x64.Idx) : (Read.val_main_v53 (F := Ideal) P.x2 P.x3 P.x8 P.r0 P.r1 i : Ideal .bf16)
    = R0 .bf16 ((I.data (i 0).val (i 2).val).rP (i 1).val (i 3).val (i 4).val) := by
  rw [Read.val_main_v53_apply (F := Ideal) P.x2 P.x3 P.x8 P.r0 P.r1 i, R.v52 i]
  exact r_trunc _

/-- The log-decay summed over the chunks. -/
theorem v54 (i : S2x12x10x256.Idx) : (Read.val_main_v54 (F := Ideal) P.x8 i : Ideal .f32)
    = R0 .f32 ((I.data (i 0).val (i 2).val).rC (i 1).val (i 3).val) := by
  unfold Read.val_main_v54
  refine (host_scan4 2 12 10 256 11 0 _ (fun b n h k => (I.data b h).rG n k) (fun i => R.v19 i) _ _ v_zero _ i).trans ?_
  exact congrArg (R0 .f32) (window_upto (fun x => (I.data (i 0).val (i 2).val).rG x (i 3).val) 11 (i 1).val (i 1).isLt)

omit R in
/-- The mask between chunks. -/
theorem v56 (i : S12x12.Idx) : Read.val_main_v56 (F := Ideal) i = if (i 1).val < (i 0).val then 1#1 else 0#1 := mask12 (i 0) (i 1)

/-- The log-decay summed up to the start of each chunk. -/
theorem v58 (i : S2x12x10x256.Idx) : (Read.val_main_v58 (F := Ideal) P.x8 i : Ideal .f32)
    = R0 .f32 ((I.data (i 0).val (i 2).val).rC (i 1).val (i 3).val - (I.data (i 0).val (i 2).val).rG (i 1).val (i 3).val) := by
  rw [Read.val_main_v58_apply (F := Ideal) P.x8 i, R.v54 i, R.v19 i]
  exact r_sub _ _ _

/-- That sum, with an axis for the earlier chunk. -/
theorem v59 (i : S2x12x1x10x256.Idx) : (Read.val_main_v59 (F := Ideal) P.x8 i : Ideal .f32)
    = R0 .f32 ((I.data (i 0).val (i 3).val).rC (i 1).val (i 4).val - (I.data (i 0).val (i 3).val).rG (i 1).val (i 4).val) := (Read.val_main_v59_apply (F := Ideal) P.x8 i).trans (R.v58 _)

/-- The log-decay summed up to the end of each chunk, with an axis for the later chunk. -/
theorem v60 (i : S2x1x12x10x256.Idx) : (Read.val_main_v60 (F := Ideal) P.x8 i : Ideal .f32)
    = R0 .f32 ((I.data (i 0).val (i 3).val).rC (i 2).val (i 4).val) := (Read.val_main_v60_apply (F := Ideal) P.x8 i).trans (R.v54 _)

/-- The sum up to the start of the later chunk, for each pair of chunks. -/
theorem v61 (i : S2x12x12x10x256.Idx) : (Read.val_main_v61 (F := Ideal) P.x8 i : Ideal .f32)
    = R0 .f32 ((I.data (i 0).val (i 3).val).rC (i 1).val (i 4).val - (I.data (i 0).val (i 3).val).rG (i 1).val (i 4).val) := (Read.val_main_v61_apply (F := Ideal) P.x8 i).trans (R.v59 _)

/-- The sum up to the end of the earlier chunk, for each pair of chunks. -/
theorem v62 (i : S2x12x12x10x256.Idx) : (Read.val_main_v62 (F := Ideal) P.x8 i : Ideal .f32)
    = R0 .f32 ((I.data (i 0).val (i 3).val).rC (i 2).val (i 4).val) := (Read.val_main_v62_apply (F := Ideal) P.x8 i).trans (R.v60 _)

/-- The log-decay strictly between two chunks. -/
theorem v63 (i : S2x12x12x10x256.Idx) : (Read.val_main_v63 (F := Ideal) P.x8 i : Ideal .f32)
    = R0 .f32 ((I.data (i 0).val (i 3).val).rC (i 1).val (i 4).val - (I.data (i 0).val (i 3).val).rG (i 1).val (i 4).val - (I.data (i 0).val (i 3).val).rC (i 2).val (i 4).val) := by
  rw [Read.val_main_v63_apply (F := Ideal) P.x8 i, R.v61 i, R.v62 i]
  exact r_sub _ _ _

/-- The decay strictly between two chunks. -/
theorem v64 (i : S2x12x12x10x256.Idx) : (Read.val_main_v64 (F := Ideal) P.x8 i : Ideal .f32)
    = R0 .f32 (Real.exp ((I.data (i 0).val (i 3).val).rC (i 1).val (i 4).val - (I.data (i 0).val (i 3).val).rG (i 1).val (i 4).val - (I.data (i 0).val (i 3).val).rC (i 2).val (i 4).val)) := by
  rw [Read.val_main_v64_apply (F := Ideal) P.x8 i, R.v63 i]
  exact r_exp _ _

/-- The decay of the chunks between two chunks. -/
theorem v65 (i : S2x12x12x10x256.Idx) : (Read.val_main_v65 (F := Ideal) P.x8 i : Ideal .f32)
    = R0 .f32 ((I.data (i 0).val (i 3).val).rD (i 1).val (i 2).val (i 4).val) := by
  have hm : Read.val_main_call6_v1 (F := Ideal) i = if (i 2).val < (i 1).val then 1#1 else 0#1 :=
    (Read.val_main_call6_v1_apply (F := Ideal) i).trans ((Read.val_main_v57_apply (F := Ideal) _).trans (v56 _))
  rw [Read.val_main_v65_apply (F := Ideal) P.x8 i, hm, R.v64 i, show Read.val_main_call6_v2 (F := Ideal) i = R0 .f32 0 from v_zero]
  exact r_sel _ _ _ _

/-- The products of the decayed keys and the values of a chunk. -/
theorem v66 (i : S2x12x10x256x512.Idx) : (Read.val_main_v66 (F := Ideal) P.x3 P.x8 P.r1 P.r2 i : Ideal .f32)
    = R0 .f32 (∑ j ∈ range 64, (I.data (i 0).val (i 2).val).kd (i 1).val j (i 3).val * (I.data (i 0).val (i 2).val).Vc (64 * (i 1).val + j) (i 4).val) := (Read.val_main_v66_apply P.x3 P.x8 P.r1 P.r2 i).trans (r_dot _ _ (fun j => (I.data (i 0).val (i 2).val).kd (i 1).val j (i 3).val) (fun j => (I.data (i 0).val (i 2).val).Vc (64 * (i 1).val + j) (i 4).val) (fun _ => R.v34 _) (fun _ => R.v7 _))

/-- The scales of the values, with axes of length one. -/
theorem v67 (i : S2x12x10x1x1.Idx) : (Read.val_main_v67 (F := Ideal) P.x5 i : Ideal .f32)
    = R0 .f32 ((I.data (i 0).val (i 2).val).vs (i 1).val) := (Read.val_main_v67_apply (F := Ideal) P.x5 i).trans (R.x5 _)

/-- The scales of the values, repeated over the state. -/
theorem v68 (i : S2x12x10x256x512.Idx) : (Read.val_main_v68 (F := Ideal) P.x5 i : Ideal .f32)
    = R0 .f32 ((I.data (i 0).val (i 2).val).vs (i 1).val) := (Read.val_main_v68_apply (F := Ideal) P.x5 i).trans (R.v67 _)

/-- What a chunk adds to the forward state. -/
theorem v69 (i : S2x12x10x256x512.Idx) : (Read.val_main_v69 (F := Ideal) P.x3 P.x5 P.x8 P.r1 P.r2 i : Ideal .f32)
    = R0 .f32 ((I.data (i 0).val (i 2).val).rU (i 1).val (i 3).val (i 4).val) := by
  rw [Read.val_main_v69_apply (F := Ideal) P.x3 P.x5 P.x8 P.r1 P.r2 i, R.v66 i, R.v68 i]
  exact r_mul _ _ _

/-- What a chunk adds to the backward state. -/
theorem v70 (i : S2x12x10x256x512.Idx) : (Read.val_main_v70 (F := Ideal) P.x2 P.x7 P.x8 P.r0 P.r3 i : Ideal .f32)
    = R0 .f32 ((I.data (i 0).val (i 2).val).rW (i 1).val (i 3).val (i 4).val) := (Read.val_main_v70_apply P.x2 P.x7 P.x8 P.r0 P.r3 i).trans (r_dot _ _ (fun j => (I.data (i 0).val (i 2).val).qg (i 1).val j (i 3).val) (fun j => (I.data (i 0).val (i 2).val).dod (64 * (i 1).val + j) (i 4).val) (fun _ => R.v30 _) (fun _ => R.v38 _))

/-- The forward states, as contracted. -/
theorem v71 (i : S2x10x256x512x12.Idx) : (Read.val_main_v71 (F := Ideal) P.x3 P.x5 P.x8 P.r1 P.r2 i : Ideal .f32)
    = R0 .f32 ((I.data (i 0).val (i 1).val).rS (i 4).val (i 2).val (i 3).val) := (Read.val_main_v71_apply P.x3 P.x5 P.x8 P.r1 P.r2 i).trans (r_dot _ _ (fun m => (I.data (i 0).val (i 1).val).rU m (i 2).val (i 3).val) (fun m => (I.data (i 0).val (i 1).val).rD (i 4).val m (i 2).val) (fun _ => R.v69 _) (fun _ => R.v65 _))

/-- The forward states. -/
theorem v72 (i : S2x12x10x256x512.Idx) : (Read.val_main_v72 (F := Ideal) P.x3 P.x5 P.x8 P.r1 P.r2 i : Ideal .f32)
    = R0 .f32 ((I.data (i 0).val (i 2).val).rS (i 1).val (i 3).val (i 4).val) := (Read.val_main_v72_apply (F := Ideal) P.x3 P.x5 P.x8 P.r1 P.r2 i).trans (R.v71 _)

/-- The state before each chunk. -/
theorem v73 (i : S2x12x10x256x512.Idx) : (Read.val_main_v73 (F := Ideal) P.x3 P.x5 P.x8 P.r1 P.r2 i : Ideal .bf16)
    = R0 .bf16 ((I.data (i 0).val (i 2).val).rS (i 1).val (i 3).val (i 4).val) := by
  rw [Read.val_main_v73_apply (F := Ideal) P.x3 P.x5 P.x8 P.r1 P.r2 i, R.v72 i]
  exact r_trunc _

/-- The backward states, as contracted. -/
theorem v74 (i : S2x10x256x512x12.Idx) : (Read.val_main_v74 (F := Ideal) P.x2 P.x7 P.x8 P.r0 P.r3 i : Ideal .f32)
    = R0 .f32 ((I.data (i 0).val (i 1).val).rT (i 4).val (i 2).val (i 3).val) := (Read.val_main_v74_apply P.x2 P.x7 P.x8 P.r0 P.r3 i).trans (r_dot _ _ (fun m => (I.data (i 0).val (i 1).val).rW m (i 2).val (i 3).val) (fun m => (I.data (i 0).val (i 1).val).rD m (i 4).val (i 2).val) (fun _ => R.v70 _) (fun _ => R.v65 _))

/-- The backward states. -/
theorem v75 (i : S2x12x10x256x512.Idx) : (Read.val_main_v75 (F := Ideal) P.x2 P.x7 P.x8 P.r0 P.r3 i : Ideal .f32)
    = R0 .f32 ((I.data (i 0).val (i 2).val).rT (i 1).val (i 3).val (i 4).val) := (Read.val_main_v75_apply (F := Ideal) P.x2 P.x7 P.x8 P.r0 P.r3 i).trans (R.v74 _)

/-- The gradient of the state after each chunk. -/
theorem v76 (i : S2x12x10x256x512.Idx) : (Read.val_main_v76 (F := Ideal) P.x2 P.x7 P.x8 P.r0 P.r3 i : Ideal .bf16)
    = R0 .bf16 ((I.data (i 0).val (i 2).val).rT (i 1).val (i 3).val (i 4).val) := by
  rw [Read.val_main_v76_apply (F := Ideal) P.x2 P.x7 P.x8 P.r0 P.r3 i, R.v75 i]
  exact r_trunc _

/-- The gradient of the queries through the forward state, as contracted. -/
theorem v77 (i : S2x12x10x256x64.Idx) : (Read.val_main_v77 (F := Ideal) P.x3 P.x5 P.x8 P.r1 P.r2 P.r3 i : Ideal .f32)
    = R0 .f32 ((I.data (i 0).val (i 2).val).rqi (i 1).val (i 4).val (i 3).val) := (Read.val_main_v77_apply P.x3 P.x5 P.x8 P.r1 P.r2 P.r3 i).trans (r_dot _ _ (fun v => (I.data (i 0).val (i 2).val).rS (i 1).val (i 3).val v) (fun v => (I.data (i 0).val (i 2).val).Do (64 * (i 1).val + (i 4).val) v) (fun _ => R.v73 _) (fun _ => R.v8 _))

/-- The gradient of the queries through the forward state. -/
theorem v78 (i : S2x12x64x10x256.Idx) : (Read.val_main_v78 (F := Ideal) P.x3 P.x5 P.x8 P.r1 P.r2 P.r3 i : Ideal .f32)
    = R0 .f32 ((I.data (i 0).val (i 3).val).rqi (i 1).val (i 2).val (i 4).val) := (Read.val_main_v78_apply (F := Ideal) P.x3 P.x5 P.x8 P.r1 P.r2 P.r3 i).trans (R.v77 _)

/-- The scales of the values, with axes of length one. -/
theorem v79 (i : S2x12x1x10x1.Idx) : (Read.val_main_v79 (F := Ideal) P.x5 i : Ideal .f32)
    = R0 .f32 ((I.data (i 0).val (i 3).val).vs (i 1).val) := (Read.val_main_v79_apply (F := Ideal) P.x5 i).trans (R.x5 _)

/-- The products of the values and the backward state, as contracted. -/
theorem v80 (i : S2x12x10x256x64.Idx) : (Read.val_main_v80 (F := Ideal) P.x2 P.x7 P.x8 P.r0 P.r2 P.r3 i : Ideal .f32)
    = R0 .f32 (∑ v ∈ range 512, (I.data (i 0).val (i 2).val).rT (i 1).val (i 3).val v * (I.data (i 0).val (i 2).val).Vc (64 * (i 1).val + (i 4).val) v) := (Read.val_main_v80_apply P.x2 P.x7 P.x8 P.r0 P.r2 P.r3 i).trans (r_dot _ _ (fun v => (I.data (i 0).val (i 2).val).rT (i 1).val (i 3).val v) (fun v => (I.data (i 0).val (i 2).val).Vc (64 * (i 1).val + (i 4).val) v) (fun _ => R.v76 _) (fun _ => R.v7 _))

/-- The products of the values and the backward state. -/
theorem v81 (i : S2x12x64x10x256.Idx) : (Read.val_main_v81 (F := Ideal) P.x2 P.x7 P.x8 P.r0 P.r2 P.r3 i : Ideal .f32)
    = R0 .f32 (∑ v ∈ range 512, (I.data (i 0).val (i 3).val).rT (i 1).val (i 4).val v * (I.data (i 0).val (i 3).val).Vc (64 * (i 1).val + (i 2).val) v) := (Read.val_main_v81_apply (F := Ideal) P.x2 P.x7 P.x8 P.r0 P.r2 P.r3 i).trans (R.v80 _)

/-- The scales of the values, repeated over the rows. -/
theorem v82 (i : S2x12x64x10x256.Idx) : (Read.val_main_v82 (F := Ideal) P.x5 i : Ideal .f32)
    = R0 .f32 ((I.data (i 0).val (i 3).val).vs (i 1).val) := (Read.val_main_v82_apply (F := Ideal) P.x5 i).trans (R.v79 _)

/-- The gradient of the keys through the backward state. -/
theorem v83 (i : S2x12x64x10x256.Idx) : (Read.val_main_v83 (F := Ideal) P.x2 P.x5 P.x7 P.x8 P.r0 P.r2 P.r3 i : Ideal .f32)
    = R0 .f32 ((I.data (i 0).val (i 3).val).rki (i 1).val (i 2).val (i 4).val) := by
  rw [Read.val_main_v83_apply (F := Ideal) P.x2 P.x5 P.x7 P.x8 P.r0 P.r2 P.r3 i, R.v82 i, R.v81 i]
  exact r_mul _ _ _

/-- The gradient of the values through the backward state, as contracted. -/
theorem v84 (i : S2x12x10x512x64.Idx) : (Read.val_main_v84 (F := Ideal) P.x2 P.x3 P.x7 P.x8 P.r0 P.r1 P.r3 i : Ideal .f32)
    = R0 .f32 ((I.data (i 0).val (i 2).val).rvi (i 1).val (i 4).val (i 3).val) := (Read.val_main_v84_apply P.x2 P.x3 P.x7 P.x8 P.r0 P.r1 P.r3 i).trans (r_dot _ _ (fun k => (I.data (i 0).val (i 2).val).rT (i 1).val k (i 3).val) (fun k => (I.data (i 0).val (i 2).val).kd (i 1).val (i 4).val k) (fun _ => R.v76 _) (fun _ => R.v34 _))

/-- The gradient of the values through the backward state. -/
theorem v85 (i : S2x12x64x10x512.Idx) : (Read.val_main_v85 (F := Ideal) P.x2 P.x3 P.x7 P.x8 P.r0 P.r1 P.r3 i : Ideal .f32)
    = R0 .f32 ((I.data (i 0).val (i 3).val).rvi (i 1).val (i 2).val (i 4).val) := (Read.val_main_v85_apply (F := Ideal) P.x2 P.x3 P.x7 P.x8 P.r0 P.r1 P.r3 i).trans (R.v84 _)

omit R in
/-- The scale of the queries, one sixteenth. -/
theorem v86 (i : S2x12x64x10x256.Idx) : (Read.val_main_v86 (F := Ideal) i : Ideal .f32)
    = R0 .f32 (1 / 16) := (Read.val_main_v86_apply (F := Ideal) i).trans v_sixteenth

/-- The decays times the scale. -/
theorem v87 (i : S2x12x64x10x256.Idx) : (Read.val_main_v87 (F := Ideal) P.x8 i : Ideal .f32)
    = R0 .f32 (1 / 16 * Real.exp ((I.data (i 0).val (i 3).val).rB (i 1).val (i 2).val (i 4).val)) := by
  rw [Read.val_main_v87_apply (F := Ideal) P.x8 i, v86 i, R.v20 i]
  exact r_mul _ _ _

/-- The scales of the output's gradient, with an axis of length one. -/
theorem v88 (i : S2x12x64x10x1.Idx) : (Read.val_main_v88 (F := Ideal) P.x7 i : Ideal .f32)
    = R0 .f32 ((I.data (i 0).val (i 3).val).ds (64 * (i 1).val + (i 2).val)) := (Read.val_main_v88_apply (F := Ideal) P.x7 i).trans (R.v10 _)

/-- The scales of the output's gradient, repeated. -/
theorem v89 (i : S2x12x64x10x256.Idx) : (Read.val_main_v89 (F := Ideal) P.x7 i : Ideal .f32)
    = R0 .f32 ((I.data (i 0).val (i 3).val).ds (64 * (i 1).val + (i 2).val)) := (Read.val_main_v89_apply (F := Ideal) P.x7 i).trans (R.v88 _)

/-- The gradient of the queries through the forward state, with its scale. -/
theorem v90 (i : S2x12x64x10x256.Idx) : (Read.val_main_v90 (F := Ideal) P.x3 P.x5 P.x7 P.x8 P.r1 P.r2 P.r3 i : Ideal .f32)
    = R0 .f32 ((I.data (i 0).val (i 3).val).ds (64 * (i 1).val + (i 2).val) * (I.data (i 0).val (i 3).val).rqi (i 1).val (i 2).val (i 4).val) := by
  rw [Read.val_main_v90_apply (F := Ideal) P.x3 P.x5 P.x7 P.x8 P.r1 P.r2 P.r3 i, R.v89 i, R.v78 i]
  exact r_mul _ _ _

/-- The gradient of the queries inside a chunk, as contracted. -/
theorem v91 (i : S2x12x10x256x64.Idx) : (Read.val_main_v91 (F := Ideal) P.x3 P.x5 P.x7 P.x8 P.r1 P.r2 P.r3 i : Ideal .f32)
    = R0 .f32 (∑ j ∈ range 64, (I.data (i 0).val (i 2).val).kg (i 1).val j (i 3).val * (I.data (i 0).val (i 2).val).rA (i 1).val (i 4).val j) := (Read.val_main_v91_apply P.x3 P.x5 P.x7 P.x8 P.r1 P.r2 P.r3 i).trans (r_dot _ _ (fun j => (I.data (i 0).val (i 2).val).kg (i 1).val j (i 3).val) (fun j => (I.data (i 0).val (i 2).val).rA (i 1).val (i 4).val j) (fun _ => R.v32 _) (fun _ => R.v50 _))

/-- The gradient of the queries inside a chunk. -/
theorem v92 (i : S2x12x64x10x256.Idx) : (Read.val_main_v92 (F := Ideal) P.x3 P.x5 P.x7 P.x8 P.r1 P.r2 P.r3 i : Ideal .f32)
    = R0 .f32 (∑ j ∈ range 64, (I.data (i 0).val (i 3).val).kg (i 1).val j (i 4).val * (I.data (i 0).val (i 3).val).rA (i 1).val (i 2).val j) := (Read.val_main_v92_apply (F := Ideal) P.x3 P.x5 P.x7 P.x8 P.r1 P.r2 P.r3 i).trans (R.v91 _)

/-- The gradient of the queries before its decay. -/
theorem v93 (i : S2x12x64x10x256.Idx) : (Read.val_main_v93 (F := Ideal) P.x3 P.x5 P.x7 P.x8 P.r1 P.r2 P.r3 i : Ideal .f32)
    = R0 .f32 ((I.data (i 0).val (i 3).val).ds (64 * (i 1).val + (i 2).val) * (I.data (i 0).val (i 3).val).rqi (i 1).val (i 2).val (i 4).val + ∑ j ∈ range 64, (I.data (i 0).val (i 3).val).kg (i 1).val j (i 4).val * (I.data (i 0).val (i 3).val).rA (i 1).val (i 2).val j) := by
  rw [Read.val_main_v93_apply (F := Ideal) P.x3 P.x5 P.x7 P.x8 P.r1 P.r2 P.r3 i, R.v90 i, R.v92 i]
  exact r_add _ _ _

/-- The gradient of the queries. -/
theorem v94 (i : S2x12x64x10x256.Idx) : (Read.val_main_v94 (F := Ideal) P.x3 P.x5 P.x7 P.x8 P.r1 P.r2 P.r3 i : Ideal .f32)
    = R0 .f32 ((I.data (i 0).val (i 3).val).rdq (i 1).val (i 2).val (i 4).val) := by
  rw [Read.val_main_v94_apply (F := Ideal) P.x3 P.x5 P.x7 P.x8 P.r1 P.r2 P.r3 i, R.v87 i, R.v93 i]
  exact r_mul _ _ _

/-- The gradient of the keys through the backward state, decayed. -/
theorem v95 (i : S2x12x64x10x256.Idx) : (Read.val_main_v95 (F := Ideal) P.x2 P.x5 P.x7 P.x8 P.r0 P.r2 P.r3 i : Ideal .f32)
    = R0 .f32 (Real.exp ((I.data (i 0).val (i 3).val).rG (i 1).val (i 4).val - (I.data (i 0).val (i 3).val).rB (i 1).val (i 2).val (i 4).val) * (I.data (i 0).val (i 3).val).rki (i 1).val (i 2).val (i 4).val) := by
  rw [Read.val_main_v95_apply (F := Ideal) P.x2 P.x5 P.x7 P.x8 P.r0 P.r2 P.r3 i, R.v26 i, R.v83 i]
  exact r_mul _ _ _

/-- The gradient of the keys inside a chunk, as contracted. -/
theorem v96 (i : S2x12x10x256x64.Idx) : (Read.val_main_v96 (F := Ideal) P.x2 P.x5 P.x7 P.x8 P.r0 P.r2 P.r3 i : Ideal .f32)
    = R0 .f32 (∑ j ∈ range 64, (I.data (i 0).val (i 2).val).qg (i 1).val j (i 3).val * (I.data (i 0).val (i 2).val).rA (i 1).val j (i 4).val) := (Read.val_main_v96_apply P.x2 P.x5 P.x7 P.x8 P.r0 P.r2 P.r3 i).trans (r_dot _ _ (fun j => (I.data (i 0).val (i 2).val).qg (i 1).val j (i 3).val) (fun j => (I.data (i 0).val (i 2).val).rA (i 1).val j (i 4).val) (fun _ => R.v30 _) (fun _ => R.v50 _))

/-- The gradient of the keys inside a chunk. -/
theorem v97 (i : S2x12x64x10x256.Idx) : (Read.val_main_v97 (F := Ideal) P.x2 P.x5 P.x7 P.x8 P.r0 P.r2 P.r3 i : Ideal .f32)
    = R0 .f32 (∑ j ∈ range 64, (I.data (i 0).val (i 3).val).qg (i 1).val j (i 4).val * (I.data (i 0).val (i 3).val).rA (i 1).val j (i 2).val) := (Read.val_main_v97_apply (F := Ideal) P.x2 P.x5 P.x7 P.x8 P.r0 P.r2 P.r3 i).trans (R.v96 _)

/-- The gradient of the keys inside a chunk, decayed. -/
theorem v98 (i : S2x12x64x10x256.Idx) : (Read.val_main_v98 (F := Ideal) P.x2 P.x5 P.x7 P.x8 P.r0 P.r2 P.r3 i : Ideal .f32)
    = R0 .f32 (Real.exp (-(I.data (i 0).val (i 3).val).rB (i 1).val (i 2).val (i 4).val) * ∑ j ∈ range 64, (I.data (i 0).val (i 3).val).qg (i 1).val j (i 4).val * (I.data (i 0).val (i 3).val).rA (i 1).val j (i 2).val) := by
  rw [Read.val_main_v98_apply (F := Ideal) P.x2 P.x5 P.x7 P.x8 P.r0 P.r2 P.r3 i, R.v22 i, R.v97 i]
  exact r_mul _ _ _

/-- The gradient of the keys. -/
theorem v99 (i : S2x12x64x10x256.Idx) : (Read.val_main_v99 (F := Ideal) P.x2 P.x5 P.x7 P.x8 P.r0 P.r2 P.r3 i : Ideal .f32)
    = R0 .f32 ((I.data (i 0).val (i 3).val).rdk (i 1).val (i 2).val (i 4).val) := by
  rw [Read.val_main_v99_apply (F := Ideal) P.x2 P.x5 P.x7 P.x8 P.r0 P.r2 P.r3 i, R.v95 i, R.v98 i]
  exact r_add _ _ _

/-- The gradient of the values inside a chunk, as contracted. -/
theorem v100 (i : S2x12x10x512x64.Idx) : (Read.val_main_v100 (F := Ideal) P.x2 P.x3 P.x7 P.x8 P.r0 P.r1 P.r3 i : Ideal .f32)
    = R0 .f32 (∑ j ∈ range 64, (I.data (i 0).val (i 2).val).dod (64 * (i 1).val + j) (i 3).val * (I.data (i 0).val (i 2).val).rP (i 1).val j (i 4).val) := (Read.val_main_v100_apply P.x2 P.x3 P.x7 P.x8 P.r0 P.r1 P.r3 i).trans (r_dot _ _ (fun j => (I.data (i 0).val (i 2).val).dod (64 * (i 1).val + j) (i 3).val) (fun j => (I.data (i 0).val (i 2).val).rP (i 1).val j (i 4).val) (fun _ => R.v38 _) (fun _ => R.v53 _))

/-- The gradient of the values inside a chunk. -/
theorem v101 (i : S2x12x64x10x512.Idx) : (Read.val_main_v101 (F := Ideal) P.x2 P.x3 P.x7 P.x8 P.r0 P.r1 P.r3 i : Ideal .f32)
    = R0 .f32 (∑ j ∈ range 64, (I.data (i 0).val (i 3).val).dod (64 * (i 1).val + j) (i 4).val * (I.data (i 0).val (i 3).val).rP (i 1).val j (i 2).val) := (Read.val_main_v101_apply (F := Ideal) P.x2 P.x3 P.x7 P.x8 P.r0 P.r1 P.r3 i).trans (R.v100 _)

/-- The gradient of the values. -/
theorem v102 (i : S2x12x64x10x512.Idx) : (Read.val_main_v102 (F := Ideal) P.x2 P.x3 P.x7 P.x8 P.r0 P.r1 P.r3 i : Ideal .f32)
    = R0 .f32 ((I.data (i 0).val (i 3).val).rdv (i 1).val (i 2).val (i 4).val) := by
  rw [Read.val_main_v102_apply (F := Ideal) P.x2 P.x3 P.x7 P.x8 P.r0 P.r1 P.r3 i, R.v85 i, R.v101 i]
  exact r_add _ _ _

/-- The queries times their gradient. -/
theorem v103 (i : S2x12x64x10x256.Idx) : (Read.val_main_v103 (F := Ideal) P.x2 P.x3 P.x5 P.x7 P.x8 P.r0 P.r1 P.r2 P.r3 i : Ideal .f32)
    = R0 .f32 ((I.data (i 0).val (i 3).val).Q (64 * (i 1).val + (i 2).val) (i 4).val * (I.data (i 0).val (i 3).val).rdq (i 1).val (i 2).val (i 4).val) := by
  rw [Read.val_main_v103_apply (F := Ideal) P.x2 P.x3 P.x5 P.x7 P.x8 P.r0 P.r1 P.r2 P.r3 i, R.v13 i, R.v94 i]
  exact r_mul _ _ _

/-- The keys times their gradient. -/
theorem v104 (i : S2x12x64x10x256.Idx) : (Read.val_main_v104 (F := Ideal) P.x2 P.x3 P.x5 P.x7 P.x8 P.r0 P.r1 P.r2 P.r3 i : Ideal .f32)
    = R0 .f32 ((I.data (i 0).val (i 3).val).K (64 * (i 1).val + (i 2).val) (i 4).val * (I.data (i 0).val (i 3).val).rdk (i 1).val (i 2).val (i 4).val) := by
  rw [Read.val_main_v104_apply (F := Ideal) P.x2 P.x3 P.x5 P.x7 P.x8 P.r0 P.r1 P.r2 P.r3 i, R.v16 i, R.v99 i]
  exact r_mul _ _ _

/-- The gradient of the summed log-decay. -/
theorem v105 (i : S2x12x64x10x256.Idx) : (Read.val_main_v105 (F := Ideal) P.x2 P.x3 P.x5 P.x7 P.x8 P.r0 P.r1 P.r2 P.r3 i : Ideal .f32)
    = R0 .f32 ((I.data (i 0).val (i 3).val).rdb (i 1).val (i 2).val (i 4).val) := by
  rw [Read.val_main_v105_apply (F := Ideal) P.x2 P.x3 P.x5 P.x7 P.x8 P.r0 P.r1 P.r2 P.r3 i, R.v103 i, R.v104 i]
  exact r_sub _ _ _

/-- Its sum inside each chunk from a token on. -/
theorem v106 (i : S2x12x64x10x256.Idx) : (Read.val_main_v106 (F := Ideal) P.x2 P.x3 P.x5 P.x7 P.x8 P.r0 P.r1 P.r2 P.r3 i : Ideal .f32)
    = R0 .f32 ((I.data (i 0).val (i 3).val).rin (i 1).val (i 2).val (i 4).val) := by
  unfold Read.val_main_v106
  refine (host_scan5 2 12 64 10 256 0 63 _ (fun b n r h k => (I.data b h).rdb n r k) (fun i => R.v105 i) _ _ v_zero _ i).trans ?_
  exact congrArg (R0 .f32) (window_from (fun x => (I.data (i 0).val (i 3).val).rdb (i 1).val x (i 4).val) 64 (i 2).val (i 2).isLt)

/-- The first row of the sums from a row to the end of its chunk. -/
theorem v107 (i : S2x12x1x10x256.Idx) : (Read.val_main_v107 (F := Ideal) P.x2 P.x3 P.x5 P.x7 P.x8 P.r0 P.r1 P.r2 P.r3 i : Ideal .f32)
    = R0 .f32 ((I.data (i 0).val (i 3).val).rin (i 1).val 0 (i 4).val) := by
  have h2 : (i 2).val < 1 := (i 2).isLt
  refine (Read.val_main_v107_apply (F := Ideal) P.x2 P.x3 P.x5 P.x7 P.x8 P.r0 P.r1 P.r2 P.r3 i).trans ((R.v106 _).trans ?_)
  show R0 .f32 ((I.data (i 0).val (i 3).val).rin (i 1).val (i 2).val (i 4).val) = _
  rw [show (i 2).val = 0 by omega]

/-- The sum over each chunk. -/
theorem v108 (i : S2x12x10x256.Idx) : (Read.val_main_v108 (F := Ideal) P.x2 P.x3 P.x5 P.x7 P.x8 P.r0 P.r1 P.r2 P.r3 i : Ideal .f32)
    = R0 .f32 ((I.data (i 0).val (i 2).val).rin (i 1).val 0 (i 3).val) := by
  obtain ⟨e0, e1, e2, e3⟩ := flat_4 (i 0).isLt (i 1).isLt (i 2).isLt (i 3).isLt
  refine (Read.val_main_v108_apply (F := Ideal) P.x2 P.x3 P.x5 P.x7 P.x8 P.r0 P.r1 P.r2 P.r3 i).trans ((R.v107 _).trans ?_)
  exact congrArg (R0 .f32) (congr4 (fun b n h k => (I.data b h).rin n 0 k) e0 e1 e2 e3)

/-- The sums over the chunks after the first. -/
theorem v109 (i : S2x11x10x256.Idx) : (Read.val_main_v109 (F := Ideal) P.x2 P.x3 P.x5 P.x7 P.x8 P.r0 P.r1 P.r2 P.r3 i : Ideal .f32)
    = R0 .f32 ((I.data (i 0).val (i 2).val).rin ((i 1).val + 1) 0 (i 3).val) := by
  refine (Read.val_main_v109_apply (F := Ideal) P.x2 P.x3 P.x5 P.x7 P.x8 P.r0 P.r1 P.r2 P.r3 i).trans ((R.v108 _).trans ?_)
  show R0 .f32 ((I.data (i 0).val (i 2).val).rin (1 + (i 1).val) 0 (i 3).val) = _
  rw [Nat.add_comm]

/-- The sums over all later chunks, without the last chunk. -/
theorem v110 (i : S2x11x10x256.Idx) : (Read.val_main_v110 (F := Ideal) P.x2 P.x3 P.x5 P.x7 P.x8 P.r0 P.r1 P.r2 P.r3 i : Ideal .f32)
    = R0 .f32 ((I.data (i 0).val (i 2).val).rlat (i 1).val (i 3).val) := by
  unfold Read.val_main_v110
  refine (host_scan4 2 11 10 256 0 10 _ (fun b n h k => (I.data b h).rin (n + 1) 0 k) (fun i => R.v109 i) _ _ v_zero _ i).trans ?_
  exact congrArg (R0 .f32) (window_from (fun x => (I.data (i 0).val (i 2).val).rin (x + 1) 0 (i 3).val) 11 (i 1).val (i 1).isLt)

/-- The sum over the later chunks: zero after the last one. -/
theorem v111 (i : S2x12x10x256.Idx) : (Read.val_main_v111 (F := Ideal) P.x2 P.x3 P.x5 P.x7 P.x8 P.r0 P.r1 P.r2 P.r3 i : Ideal .f32)
    = R0 .f32 ((I.data (i 0).val (i 2).val).rlat (i 1).val (i 3).val) := by
  unfold Read.val_main_v111
  unfold pad
  have i0 : (i 0).val < 2 := (i 0).isLt
  have i1 : (i 1).val < 12 := (i 1).isLt
  have i2 : (i 2).val < 10 := (i 2).isLt
  have i3 : (i 3).val < 256 := (i 3).isLt
  split
  · next hin =>
    refine (R.v110 _).trans ?_
    show R0 .f32 ((I.data (((i 0).val - 0) / (0 + 1)) (((i 2).val - 0) / (0 + 1))).rlat (((i 1).val - 0) / (0 + 1)) (((i 3).val - 0) / (0 + 1))) = _
    simp only [Nat.sub_zero, Nat.zero_add, Nat.div_one]
  · next hin =>
    have h : (i 1).val = 11 := by
      by_contra hne
      refine hin fun a => ?_
      match a with
      | ⟨0, _⟩ => show 0 ≤ (i 0).val ∧ ((i 0).val - 0) % (0 + 1) = 0 ∧ ((i 0).val - 0) / (0 + 1) < 2; omega
      | ⟨1, _⟩ => show 0 ≤ (i 1).val ∧ ((i 1).val - 0) % (0 + 1) = 0 ∧ ((i 1).val - 0) / (0 + 1) < 11; omega
      | ⟨2, _⟩ => show 0 ≤ (i 2).val ∧ ((i 2).val - 0) % (0 + 1) = 0 ∧ ((i 2).val - 0) / (0 + 1) < 10; omega
      | ⟨3, _⟩ => show 0 ≤ (i 3).val ∧ ((i 3).val - 0) % (0 + 1) = 0 ∧ ((i 3).val - 0) / (0 + 1) < 256; omega
    rw [h, Data.rlat, Finset.Ico_self, Finset.sum_empty]
    exact congrArg Real.toEReal (Int.cast_zero (R := ℝ))

/-- The sums over all later chunks, with an axis of length one. -/
theorem v113 (i : S2x12x1x10x256.Idx) : (Read.val_main_v113 (F := Ideal) P.x2 P.x3 P.x5 P.x7 P.x8 P.r0 P.r1 P.r2 P.r3 i : Ideal .f32)
    = R0 .f32 ((I.data (i 0).val (i 3).val).rlat (i 1).val (i 4).val) := (Read.val_main_v113_apply (F := Ideal) P.x2 P.x3 P.x5 P.x7 P.x8 P.r0 P.r1 P.r2 P.r3 i).trans (R.v111 _)

/-- The sums over all later chunks, repeated over the rows. -/
theorem v114 (i : S2x12x64x10x256.Idx) : (Read.val_main_v114 (F := Ideal) P.x2 P.x3 P.x5 P.x7 P.x8 P.r0 P.r1 P.r2 P.r3 i : Ideal .f32)
    = R0 .f32 ((I.data (i 0).val (i 3).val).rlat (i 1).val (i 4).val) := (Read.val_main_v114_apply (F := Ideal) P.x2 P.x3 P.x5 P.x7 P.x8 P.r0 P.r1 P.r2 P.r3 i).trans (R.v113 _)

/-- The gradient of the log-decay. -/
theorem v115 (i : S2x12x64x10x256.Idx) : (Read.val_main_v115 (F := Ideal) P.x2 P.x3 P.x5 P.x7 P.x8 P.r0 P.r1 P.r2 P.r3 i : Ideal .f32)
    = R0 .f32 ((I.data (i 0).val (i 3).val).rdg (i 1).val (i 2).val (i 4).val) := by
  rw [Read.val_main_v115_apply (F := Ideal) P.x2 P.x3 P.x5 P.x7 P.x8 P.r0 P.r1 P.r2 P.r3 i, R.v106 i, R.v114 i]
  exact r_add _ _ _

/-- The gradient of the summed log-decay, unchunked. -/
theorem v112 (i : S2x768x10x256.Idx) : (Read.val_main_v112 (F := Ideal) P.x2 P.x3 P.x5 P.x7 P.x8 P.r0 P.r1 P.r2 P.r3 i : Ideal .f32)
    = R0 .f32 ((I.data (i 0).val (i 2).val).db (i 1).val (i 3).val) := by
  obtain ⟨e0, e1, e2, e3, e4⟩ := join_256 (i 0).isLt (i 1).isLt (i 2).isLt (i 3).isLt
  have ht : (i 1).val < 768 := (i 1).isLt
  refine (Read.val_main_v112_apply (F := Ideal) P.x2 P.x3 P.x5 P.x7 P.x8 P.r0 P.r1 P.r2 P.r3 i).trans ((R.v105 _).trans ?_)
  refine (congrArg (R0 .f32) (congr5 (fun b n r h k => (I.data b h).rdb n r k) e0 e1 e2 e3 e4)).trans ?_
  exact congrArg (R0 .f32) ((Data.rdb_eq _ _ _ _ (by omega) (Nat.mod_lt _ (by omega))).trans (by rw [Nat.div_add_mod]))

/-- The gradient of the log-decay, unchunked. -/
theorem v116 (i : S2x768x10x256.Idx) : (Read.val_main_v116 (F := Ideal) P.x2 P.x3 P.x5 P.x7 P.x8 P.r0 P.r1 P.r2 P.r3 i : Ideal .f32)
    = R0 .f32 ((I.data (i 0).val (i 2).val).dg (i 1).val (i 3).val) := by
  obtain ⟨e0, e1, e2, e3, e4⟩ := join_256 (i 0).isLt (i 1).isLt (i 2).isLt (i 3).isLt
  have ht : (i 1).val < 768 := (i 1).isLt
  refine (Read.val_main_v116_apply (F := Ideal) P.x2 P.x3 P.x5 P.x7 P.x8 P.r0 P.r1 P.r2 P.r3 i).trans ((R.v115 _).trans ?_)
  refine (congrArg (R0 .f32) (congr5 (fun b n r h k => (I.data b h).rdg n r k) e0 e1 e2 e3 e4)).trans ?_
  exact congrArg (R0 .f32) ((Data.rdg_eq _ _ _ _ (by omega) (Nat.mod_lt _ (by omega))).trans (by rw [Nat.div_add_mod]))

/-- The gradient of the queries, narrowed. -/
theorem v117 (i : S2x12x64x10x256.Idx) : (Read.val_main_v117 (F := Ideal) P.x3 P.x5 P.x7 P.x8 P.r1 P.r2 P.r3 i : Ideal .bf16)
    = R0 .bf16 ((I.data (i 0).val (i 3).val).rdq (i 1).val (i 2).val (i 4).val) := by
  rw [Read.val_main_v117_apply (F := Ideal) P.x3 P.x5 P.x7 P.x8 P.r1 P.r2 P.r3 i, R.v94 i]
  exact r_trunc _

/-- The gradient of the queries, unchunked. -/
theorem v118 (i : S2x768x10x256.Idx) : (Read.val_main_v118 (F := Ideal) P.x3 P.x5 P.x7 P.x8 P.r1 P.r2 P.r3 i : Ideal .bf16)
    = R0 .bf16 ((I.data (i 0).val (i 2).val).dq (i 1).val (i 3).val) := by
  obtain ⟨e0, e1, e2, e3, e4⟩ := join_256 (i 0).isLt (i 1).isLt (i 2).isLt (i 3).isLt
  have ht : (i 1).val < 768 := (i 1).isLt
  refine (Read.val_main_v118_apply (F := Ideal) P.x3 P.x5 P.x7 P.x8 P.r1 P.r2 P.r3 i).trans ((R.v117 _).trans ?_)
  refine (congrArg (R0 .bf16) (congr5 (fun b n r h k => (I.data b h).rdq n r k) e0 e1 e2 e3 e4)).trans ?_
  exact congrArg (R0 .bf16) ((Data.rdq_eq _ _ _ _ (by omega) (Nat.mod_lt _ (by omega))).trans (by rw [Nat.div_add_mod]))

/-- The gradient of the keys, narrowed. -/
theorem v119 (i : S2x12x64x10x256.Idx) : (Read.val_main_v119 (F := Ideal) P.x2 P.x5 P.x7 P.x8 P.r0 P.r2 P.r3 i : Ideal .bf16)
    = R0 .bf16 ((I.data (i 0).val (i 3).val).rdk (i 1).val (i 2).val (i 4).val) := by
  rw [Read.val_main_v119_apply (F := Ideal) P.x2 P.x5 P.x7 P.x8 P.r0 P.r2 P.r3 i, R.v99 i]
  exact r_trunc _

/-- The gradient of the keys, unchunked. -/
theorem v120 (i : S2x768x10x256.Idx) : (Read.val_main_v120 (F := Ideal) P.x2 P.x5 P.x7 P.x8 P.r0 P.r2 P.r3 i : Ideal .bf16)
    = R0 .bf16 ((I.data (i 0).val (i 2).val).dk (i 1).val (i 3).val) := by
  obtain ⟨e0, e1, e2, e3, e4⟩ := join_256 (i 0).isLt (i 1).isLt (i 2).isLt (i 3).isLt
  have ht : (i 1).val < 768 := (i 1).isLt
  refine (Read.val_main_v120_apply (F := Ideal) P.x2 P.x5 P.x7 P.x8 P.r0 P.r2 P.r3 i).trans ((R.v119 _).trans ?_)
  refine (congrArg (R0 .bf16) (congr5 (fun b n r h k => (I.data b h).rdk n r k) e0 e1 e2 e3 e4)).trans ?_
  exact congrArg (R0 .bf16) ((Data.rdk_eq _ _ _ _ (by omega) (Nat.mod_lt _ (by omega))).trans (by rw [Nat.div_add_mod]))

/-- The gradient of the values, narrowed. -/
theorem v121 (i : S2x12x64x10x512.Idx) : (Read.val_main_v121 (F := Ideal) P.x2 P.x3 P.x7 P.x8 P.r0 P.r1 P.r3 i : Ideal .bf16)
    = R0 .bf16 ((I.data (i 0).val (i 3).val).rdv (i 1).val (i 2).val (i 4).val) := by
  rw [Read.val_main_v121_apply (F := Ideal) P.x2 P.x3 P.x7 P.x8 P.r0 P.r1 P.r3 i, R.v102 i]
  exact r_trunc _

/-- The gradient of the values, unchunked. -/
theorem v122 (i : S2x768x10x512.Idx) : (Read.val_main_v122 (F := Ideal) P.x2 P.x3 P.x7 P.x8 P.r0 P.r1 P.r3 i : Ideal .bf16)
    = R0 .bf16 ((I.data (i 0).val (i 2).val).dv (i 1).val (i 3).val) := by
  obtain ⟨e0, e1, e2, e3, e4⟩ := join_512 (i 0).isLt (i 1).isLt (i 2).isLt (i 3).isLt
  have ht : (i 1).val < 768 := (i 1).isLt
  refine (Read.val_main_v122_apply (F := Ideal) P.x2 P.x3 P.x7 P.x8 P.r0 P.r1 P.r3 i).trans ((R.v121 _).trans ?_)
  refine (congrArg (R0 .bf16) (congr5 (fun b n r h k => (I.data b h).rdv n r k) e0 e1 e2 e3 e4)).trans ?_
  exact congrArg (R0 .bf16) ((Data.rdv_eq _ _ _ _ (by omega) (Nat.mod_lt _ (by omega))).trans (by rw [Nat.div_add_mod]))

/-- The result: the gradient of the queries. -/
theorem v123 (i : S2x10x768x256.Idx) : (Read.val_main_v123 (F := Ideal) P.x3 P.x5 P.x7 P.x8 P.r1 P.r2 P.r3 i : Ideal .bf16)
    = R0 .bf16 ((I.data (i 0).val (i 1).val).dq (i 2).val (i 3).val) := (Read.val_main_v123_apply (F := Ideal) P.x3 P.x5 P.x7 P.x8 P.r1 P.r2 P.r3 i).trans (R.v118 _)

/-- The result: the gradient of the keys. -/
theorem v124 (i : S2x10x768x256.Idx) : (Read.val_main_v124 (F := Ideal) P.x2 P.x5 P.x7 P.x8 P.r0 P.r2 P.r3 i : Ideal .bf16)
    = R0 .bf16 ((I.data (i 0).val (i 1).val).dk (i 2).val (i 3).val) := (Read.val_main_v124_apply (F := Ideal) P.x2 P.x5 P.x7 P.x8 P.r0 P.r2 P.r3 i).trans (R.v120 _)

/-- The result: the gradient of the values. -/
theorem v125 (i : S2x10x768x512.Idx) : (Read.val_main_v125 (F := Ideal) P.x2 P.x3 P.x7 P.x8 P.r0 P.r1 P.r3 i : Ideal .bf16)
    = R0 .bf16 ((I.data (i 0).val (i 1).val).dv (i 2).val (i 3).val) := (Read.val_main_v125_apply (F := Ideal) P.x2 P.x3 P.x7 P.x8 P.r0 P.r1 P.r3 i).trans (R.v122 _)

/-- The result: the gradient of the log-decay. -/
theorem v126 (i : S2x10x768x256.Idx) : (Read.val_main_v126 (F := Ideal) P.x2 P.x3 P.x5 P.x7 P.x8 P.r0 P.r1 P.r2 P.r3 i : Ideal .f32)
    = R0 .f32 ((I.data (i 0).val (i 1).val).dg (i 2).val (i 3).val) := (Read.val_main_v126_apply (F := Ideal) P.x2 P.x3 P.x5 P.x7 P.x8 P.r0 P.r1 P.r2 P.r3 i).trans (R.v116 _)

/-- The result: the gradient of the summed log-decay. -/
theorem v127 (i : S2x10x768x256.Idx) : (Read.val_main_v127 (F := Ideal) P.x2 P.x3 P.x5 P.x7 P.x8 P.r0 P.r1 P.r2 P.r3 i : Ideal .f32)
    = R0 .f32 ((I.data (i 0).val (i 1).val).db (i 2).val (i 3).val) := (Read.val_main_v127_apply (F := Ideal) P.x2 P.x3 P.x5 P.x7 P.x8 P.r0 P.r1 P.r2 P.r3 i).trans (R.v112 _)

end Ref.Real

end Cert.RV
-- ==== Proof.KernelVal.lean ====
/-
  What the kernel reads at each grid point, as functions of the real numbers its arguments hold.
-/
module

public import proofs.«01_k».proof.Proof.Stages
public import proofs.«01_k».proof.Proof.Gen.KernelIdeal.Value
public import Idealize.ShloMosaic.Lib.Pipeline.ValueKit.Geometry

@[expose] public section

noncomputable section

namespace Cert.RV

open Idealize.ShloMosaic Idealize.ShloMosaic.TcCoe Idealize.ShloMosaic.ValueIdx Idealize.SL.Sem
open Cert.KernelIdeal Cert.KernelIdeal.Gen
open scoped BigOperators

/-- The nine arguments: four arrays of codes as bytes, four arrays of scales, the log-decay. -/
structure Args where
  a0 : (⟨S2x768x10x256, .i8⟩ : BufTy).Contents (Elt Ideal)
  a1 : (⟨S2x768x10x256, .i8⟩ : BufTy).Contents (Elt Ideal)
  a2 : (⟨S2x12x10, .f32⟩ : BufTy).Contents (Elt Ideal)
  a3 : (⟨S2x12x10, .f32⟩ : BufTy).Contents (Elt Ideal)
  a4 : (⟨S2x768x10x512, .i8⟩ : BufTy).Contents (Elt Ideal)
  a5 : (⟨S2x12x10, .f32⟩ : BufTy).Contents (Elt Ideal)
  a6 : (⟨S2x768x10x512, .i8⟩ : BufTy).Contents (Elt Ideal)
  a7 : (⟨S2x768x10, .f32⟩ : BufTy).Contents (Elt Ideal)
  a8 : (⟨S2x768x10x256, .f32⟩ : BufTy).Contents (Elt Ideal)

/-- The arguments hold the real numbers `I`: each byte read as the float it encodes. -/
structure Args.Real (A : Args) (I : Inp) : Prop where
  a0 : ∀ i : S2x768x10x256.Idx, (FloatOps.ofBits .fp8e4m3 (A.a0 i) : Ideal .fp8e4m3) = R0 .fp8e4m3 (I.q (i 0).val (i 1).val (i 2).val (i 3).val)
  a1 : ∀ i : S2x768x10x256.Idx, (FloatOps.ofBits .fp8e4m3 (A.a1 i) : Ideal .fp8e4m3) = R0 .fp8e4m3 (I.k (i 0).val (i 1).val (i 2).val (i 3).val)
  a2 : ∀ i : S2x12x10.Idx, (A.a2 i : Ideal .f32) = R0 .f32 (I.qs (i 0).val (i 1).val (i 2).val)
  a3 : ∀ i : S2x12x10.Idx, (A.a3 i : Ideal .f32) = R0 .f32 (I.ks (i 0).val (i 1).val (i 2).val)
  a4 : ∀ i : S2x768x10x512.Idx, (FloatOps.ofBits .fp8e4m3 (A.a4 i) : Ideal .fp8e4m3) = R0 .fp8e4m3 (I.v (i 0).val (i 1).val (i 2).val (i 3).val)
  a5 : ∀ i : S2x12x10.Idx, (A.a5 i : Ideal .f32) = R0 .f32 (I.vs (i 0).val (i 1).val (i 2).val)
  a6 : ∀ i : S2x768x10x512.Idx, (FloatOps.ofBits .fp8e5m2 (A.a6 i) : Ideal .fp8e5m2) = R0 .fp8e5m2 (I.o (i 0).val (i 1).val (i 2).val (i 3).val)
  a7 : ∀ i : S2x768x10.Idx, (A.a7 i : Ideal .f32) = R0 .f32 (I.ds (i 0).val (i 1).val (i 2).val)
  a8 : ∀ i : S2x768x10x256.Idx, (A.a8 i : Ideal .f32) = R0 .f32 (I.g (i 0).val (i 1).val (i 2).val (i 3).val)

variable (m : (ℓ : Loc nD τ sig) → Buf (Elt Ideal) ℓ) (c : Dev nD)

/-- The arguments of the kernel's program on core `c`. -/
def argsOf : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-! ## What the region reads -/

/-- The region finds the queries with the axes exchanged. -/
theorem V_v4 : (V m c main_v4 : Vec Ideal S2x10x768x256 .fp8e4m3) = transpose S2x10x768x256 [0, 2, 1, 3] (bitcastToFloat (F := Ideal) .fp8e4m3 (((m ((c : Thread nD τ).loc main_arg0)) : IVec S2x768x10x256 8)) : Vec Ideal S2x768x10x256 .fp8e4m3) transposes_S2x768x10x256_S2x10x768x256_0_2_1_3 := by
  show StableHlo.after hostOps0 _ (Proc.devRef .tc main_v4) = _
  after_results

/-- The region finds the keys with the axes exchanged. -/
theorem V_v5 : (V m c main_v5 : Vec Ideal S2x10x768x256 .fp8e4m3) = transpose S2x10x768x256 [0, 2, 1, 3] (bitcastToFloat (F := Ideal) .fp8e4m3 (((m ((c : Thread nD τ).loc main_arg1)) : IVec S2x768x10x256 8)) : Vec Ideal S2x768x10x256 .fp8e4m3) transposes_S2x768x10x256_S2x10x768x256_0_2_1_3 := by
  show StableHlo.after hostOps0 _ (Proc.devRef .tc main_v5) = _
  after_results

/-- The region finds the values with the axes exchanged. -/
theorem V_v6 : (V m c main_v6 : Vec Ideal S2x10x768x512 .fp8e4m3) = transpose S2x10x768x512 [0, 2, 1, 3] (bitcastToFloat (F := Ideal) .fp8e4m3 (((m ((c : Thread nD τ).loc main_arg4)) : IVec S2x768x10x512 8)) : Vec Ideal S2x768x10x512 .fp8e4m3) transposes_S2x768x10x512_S2x10x768x512_0_2_1_3 := by
  show StableHlo.after hostOps0 _ (Proc.devRef .tc main_v6) = _
  after_results

/-- The region finds the output's gradient with the axes exchanged. -/
theorem V_v7 : (V m c main_v7 : Vec Ideal S2x10x768x512 .fp8e5m2) = transpose S2x10x768x512 [0, 2, 1, 3] (bitcastToFloat (F := Ideal) .fp8e5m2 (((m ((c : Thread nD τ).loc main_arg6)) : IVec S2x768x10x512 8)) : Vec Ideal S2x768x10x512 .fp8e5m2) transposes_S2x768x10x512_S2x10x768x512_0_2_1_3 := by
  show StableHlo.after hostOps0 _ (Proc.devRef .tc main_v7) = _
  after_results

/-- The region finds the log-decay with the axes exchanged. -/
theorem V_v8 : (V m c main_v8 : Vec Ideal S2x10x768x256 .f32) = transpose S2x10x768x256 [0, 2, 1, 3] ((m ((c : Thread nD τ).loc main_arg8)) : Vec Ideal S2x768x10x256 .f32) transposes_S2x768x10x256_S2x10x768x256_0_2_1_3 := by
  show StableHlo.after hostOps0 _ (Proc.devRef .tc main_v8) = _
  after_results

/-- The region finds the scales of the queries with the axes exchanged. -/
theorem V_v9 : (V m c main_v9 : Vec Ideal S10x2x12 .f32) = transpose S10x2x12 [2, 0, 1] (m ((c : Thread nD τ).loc main_arg2) : Vec Ideal S2x12x10 .f32) transposes_S2x12x10_S10x2x12_2_0_1 := by
  show StableHlo.after hostOps0 _ (Proc.devRef .tc main_v9) = _
  after_results

/-- The region finds the scales of the keys with the axes exchanged. -/
theorem V_v10 : (V m c main_v10 : Vec Ideal S10x2x12 .f32) = transpose S10x2x12 [2, 0, 1] (m ((c : Thread nD τ).loc main_arg3) : Vec Ideal S2x12x10 .f32) transposes_S2x12x10_S10x2x12_2_0_1 := by
  show StableHlo.after hostOps0 _ (Proc.devRef .tc main_v10) = _
  after_results

/-- The region finds the scales of the values with the axes exchanged. -/
theorem V_v11 : (V m c main_v11 : Vec Ideal S10x2x12 .f32) = transpose S10x2x12 [2, 0, 1] (m ((c : Thread nD τ).loc main_arg5) : Vec Ideal S2x12x10 .f32) transposes_S2x12x10_S10x2x12_2_0_1 := by
  show StableHlo.after hostOps0 _ (Proc.devRef .tc main_v11) = _
  after_results

/-- The region finds the scales of the output's gradient with the axes exchanged. -/
theorem V_v12 : (V m c main_v12 : Vec Ideal S10x2x768 .f32) = transpose S10x2x768 [2, 0, 1] (m ((c : Thread nD τ).loc main_arg7) : Vec Ideal S2x768x10 .f32) transposes_S2x768x10_S10x2x768_2_0_1 := by
  show StableHlo.after hostOps0 _ (Proc.devRef .tc main_v12) = _
  after_results

variable {m c} {I : Inp} (H : (argsOf m c).Real I)
include H

/-- An element of the queries that the region finds, as a real number. -/
theorem in_v4 (j : S2x10x768x256.Idx) : (V m c main_v4 j : Ideal .fp8e4m3) = R0 .fp8e4m3 (I.q (j 0).val (j 2).val (j 1).val (j 3).val) := by
  rw [V_v4]
  exact (transpose_apply _ _ _ j (ix4 (j 0) (j 2) (j 1) (j 3)) fun b => by
    match b with
    | ⟨0, _⟩ => rfl
    | ⟨1, _⟩ => rfl
    | ⟨2, _⟩ => rfl
    | ⟨3, _⟩ => rfl).trans (H.a0 _)

/-- An element of the keys that the region finds, as a real number. -/
theorem in_v5 (j : S2x10x768x256.Idx) : (V m c main_v5 j : Ideal .fp8e4m3) = R0 .fp8e4m3 (I.k (j 0).val (j 2).val (j 1).val (j 3).val) := by
  rw [V_v5]
  exact (transpose_apply _ _ _ j (ix4 (j 0) (j 2) (j 1) (j 3)) fun b => by
    match b with
    | ⟨0, _⟩ => rfl
    | ⟨1, _⟩ => rfl
    | ⟨2, _⟩ => rfl
    | ⟨3, _⟩ => rfl).trans (H.a1 _)

/-- An element of the values that the region finds, as a real number. -/
theorem in_v6 (j : S2x10x768x512.Idx) : (V m c main_v6 j : Ideal .fp8e4m3) = R0 .fp8e4m3 (I.v (j 0).val (j 2).val (j 1).val (j 3).val) := by
  rw [V_v6]
  exact (transpose_apply _ _ _ j (ix4 (j 0) (j 2) (j 1) (j 3)) fun b => by
    match b with
    | ⟨0, _⟩ => rfl
    | ⟨1, _⟩ => rfl
    | ⟨2, _⟩ => rfl
    | ⟨3, _⟩ => rfl).trans (H.a4 _)

/-- An element of the output's gradient that the region finds, as a real number. -/
theorem in_v7 (j : S2x10x768x512.Idx) : (V m c main_v7 j : Ideal .fp8e5m2) = R0 .fp8e5m2 (I.o (j 0).val (j 2).val (j 1).val (j 3).val) := by
  rw [V_v7]
  exact (transpose_apply _ _ _ j (ix4 (j 0) (j 2) (j 1) (j 3)) fun b => by
    match b with
    | ⟨0, _⟩ => rfl
    | ⟨1, _⟩ => rfl
    | ⟨2, _⟩ => rfl
    | ⟨3, _⟩ => rfl).trans (H.a6 _)

/-- An element of the log-decay that the region finds, as a real number. -/
theorem in_v8 (j : S2x10x768x256.Idx) : (V m c main_v8 j : Ideal .f32) = R0 .f32 (I.g (j 0).val (j 2).val (j 1).val (j 3).val) := by
  rw [V_v8]
  exact (transpose_apply _ _ _ j (ix4 (j 0) (j 2) (j 1) (j 3)) fun b => by
    match b with
    | ⟨0, _⟩ => rfl
    | ⟨1, _⟩ => rfl
    | ⟨2, _⟩ => rfl
    | ⟨3, _⟩ => rfl).trans (H.a8 _)

/-- An element of the scales of the queries that the region finds, as a real number. -/
theorem in_v9 (j : S10x2x12.Idx) : (V m c main_v9 j : Ideal .f32) = R0 .f32 (I.qs (j 1).val (j 2).val (j 0).val) := by
  rw [V_v9]
  exact (transpose_apply _ _ _ j (ix3 (j 1) (j 2) (j 0)) fun b => by
    match b with
    | ⟨0, _⟩ => rfl
    | ⟨1, _⟩ => rfl
    | ⟨2, _⟩ => rfl).trans (H.a2 _)

/-- An element of the scales of the keys that the region finds, as a real number. -/
theorem in_v10 (j : S10x2x12.Idx) : (V m c main_v10 j : Ideal .f32) = R0 .f32 (I.ks (j 1).val (j 2).val (j 0).val) := by
  rw [V_v10]
  exact (transpose_apply _ _ _ j (ix3 (j 1) (j 2) (j 0)) fun b => by
    match b with
    | ⟨0, _⟩ => rfl
    | ⟨1, _⟩ => rfl
    | ⟨2, _⟩ => rfl).trans (H.a3 _)

/-- An element of the scales of the values that the region finds, as a real number. -/
theorem in_v11 (j : S10x2x12.Idx) : (V m c main_v11 j : Ideal .f32) = R0 .f32 (I.vs (j 1).val (j 2).val (j 0).val) := by
  rw [V_v11]
  exact (transpose_apply _ _ _ j (ix3 (j 1) (j 2) (j 0)) fun b => by
    match b with
    | ⟨0, _⟩ => rfl
    | ⟨1, _⟩ => rfl
    | ⟨2, _⟩ => rfl).trans (H.a5 _)

/-- An element of the scales of the output's gradient that the region finds, as a real number. -/
theorem in_v12 (j : S10x2x768.Idx) : (V m c main_v12 j : Ideal .f32) = R0 .f32 (I.ds (j 1).val (j 2).val (j 0).val) := by
  rw [V_v12]
  exact (transpose_apply _ _ _ j (ix3 (j 1) (j 2) (j 0)) fun b => by
    match b with
    | ⟨0, _⟩ => rfl
    | ⟨1, _⟩ => rfl
    | ⟨2, _⟩ => rfl).trans (H.a7 _)

/-! ## The blocks of a grid point: batch `b`, head `h` -/

omit H
/-- Where the block of the queries lies: the batch and the head of the grid point. -/
theorem at_0 : ∀ t : Fin cfg0.N, win0_0.index t (0 : Fin 4) = (grid0.coords t 0).val ∧ win0_0.index t (1 : Fin 4) = (grid0.coords t 1).val
    ∧ win0_0.index t (2 : Fin 4) = 0 ∧ win0_0.index t (3 : Fin 4) = 0 := (by decide +kernel : ∀ t : Fin grid0.N, _)
/-- Where the block of the keys lies: the batch and the head of the grid point. -/
theorem at_1 : ∀ t : Fin cfg0.N, win0_1.index t (0 : Fin 4) = (grid0.coords t 0).val ∧ win0_1.index t (1 : Fin 4) = (grid0.coords t 1).val
    ∧ win0_1.index t (2 : Fin 4) = 0 ∧ win0_1.index t (3 : Fin 4) = 0 := (by decide +kernel : ∀ t : Fin grid0.N, _)
/-- Where the block of the values lies: the batch and the head of the grid point. -/
theorem at_2 : ∀ t : Fin cfg0.N, win0_2.index t (0 : Fin 4) = (grid0.coords t 0).val ∧ win0_2.index t (1 : Fin 4) = (grid0.coords t 1).val
    ∧ win0_2.index t (2 : Fin 4) = 0 ∧ win0_2.index t (3 : Fin 4) = 0 := (by decide +kernel : ∀ t : Fin grid0.N, _)
/-- Where the block of the output's gradient lies: the batch and the head of the grid point. -/
theorem at_3 : ∀ t : Fin cfg0.N, win0_3.index t (0 : Fin 4) = (grid0.coords t 0).val ∧ win0_3.index t (1 : Fin 4) = (grid0.coords t 1).val
    ∧ win0_3.index t (2 : Fin 4) = 0 ∧ win0_3.index t (3 : Fin 4) = 0 := (by decide +kernel : ∀ t : Fin grid0.N, _)
/-- Where the block of the log-decay lies: the batch and the head of the grid point. -/
theorem at_4 : ∀ t : Fin cfg0.N, win0_4.index t (0 : Fin 4) = (grid0.coords t 0).val ∧ win0_4.index t (1 : Fin 4) = (grid0.coords t 1).val
    ∧ win0_4.index t (2 : Fin 4) = 0 ∧ win0_4.index t (3 : Fin 4) = 0 := (by decide +kernel : ∀ t : Fin grid0.N, _)
/-- Where the block of the gradient of the queries lies: the batch and the head of the grid point. -/
theorem at_9 : ∀ t : Fin cfg0.N, win0_9.index t (0 : Fin 4) = (grid0.coords t 0).val ∧ win0_9.index t (1 : Fin 4) = (grid0.coords t 1).val
    ∧ win0_9.index t (2 : Fin 4) = 0 ∧ win0_9.index t (3 : Fin 4) = 0 := (by decide +kernel : ∀ t : Fin grid0.N, _)
/-- Where the block of the gradient of the keys lies: the batch and the head of the grid point. -/
theorem at_10 : ∀ t : Fin cfg0.N, win0_10.index t (0 : Fin 4) = (grid0.coords t 0).val ∧ win0_10.index t (1 : Fin 4) = (grid0.coords t 1).val
    ∧ win0_10.index t (2 : Fin 4) = 0 ∧ win0_10.index t (3 : Fin 4) = 0 := (by decide +kernel : ∀ t : Fin grid0.N, _)
/-- Where the block of the gradient of the values lies: the batch and the head of the grid point. -/
theorem at_11 : ∀ t : Fin cfg0.N, win0_11.index t (0 : Fin 4) = (grid0.coords t 0).val ∧ win0_11.index t (1 : Fin 4) = (grid0.coords t 1).val
    ∧ win0_11.index t (2 : Fin 4) = 0 ∧ win0_11.index t (3 : Fin 4) = 0 := (by decide +kernel : ∀ t : Fin grid0.N, _)
/-- Where the block of the gradient of the log-decay lies: the batch and the head of the grid point. -/
theorem at_12 : ∀ t : Fin cfg0.N, win0_12.index t (0 : Fin 4) = (grid0.coords t 0).val ∧ win0_12.index t (1 : Fin 4) = (grid0.coords t 1).val
    ∧ win0_12.index t (2 : Fin 4) = 0 ∧ win0_12.index t (3 : Fin 4) = 0 := (by decide +kernel : ∀ t : Fin grid0.N, _)
/-- Where the block of the gradient of the summed log-decay lies: the batch and the head of the grid point. -/
theorem at_13 : ∀ t : Fin cfg0.N, win0_13.index t (0 : Fin 4) = (grid0.coords t 0).val ∧ win0_13.index t (1 : Fin 4) = (grid0.coords t 1).val
    ∧ win0_13.index t (2 : Fin 4) = 0 ∧ win0_13.index t (3 : Fin 4) = 0 := (by decide +kernel : ∀ t : Fin grid0.N, _)
/-- The window of the scales of the queries is the whole table. -/
theorem at_5 : ∀ t : Fin cfg0.N, win0_5.index t (0 : Fin 3) = 0 ∧ win0_5.index t (1 : Fin 3) = 0
    ∧ win0_5.index t (2 : Fin 3) = 0 := (by decide +kernel : ∀ t : Fin grid0.N, _)
/-- The window of the scales of the keys is the whole table. -/
theorem at_6 : ∀ t : Fin cfg0.N, win0_6.index t (0 : Fin 3) = 0 ∧ win0_6.index t (1 : Fin 3) = 0
    ∧ win0_6.index t (2 : Fin 3) = 0 := (by decide +kernel : ∀ t : Fin grid0.N, _)
/-- The window of the scales of the values is the whole table. -/
theorem at_7 : ∀ t : Fin cfg0.N, win0_7.index t (0 : Fin 3) = 0 ∧ win0_7.index t (1 : Fin 3) = 0
    ∧ win0_7.index t (2 : Fin 3) = 0 := (by decide +kernel : ∀ t : Fin grid0.N, _)
/-- Where the block of the scales of the output's gradient lies: the head of the grid point, both batches. -/
theorem at_8 : ∀ t : Fin cfg0.N, win0_8.index t (0 : Fin 3) = (grid0.coords t 1).val ∧ win0_8.index t (1 : Fin 3) = 0
    ∧ win0_8.index t (2 : Fin 3) = 0 := (by decide +kernel : ∀ t : Fin grid0.N, _)

/-- The buffers of grid point `t`. -/
def envAt (m : (ℓ : Loc nD τ sig) → Buf (Elt Ideal) ℓ) (c : Dev nD) (t : Fin cfg0.N) : Env where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg16 := scM0_0
  arg17 := scM0_1
  arg18 := scM0_2
  arg19 := scM0_3
  arg20 := scM0_4
  arg21 := scM0_5
  arg22 := scM0_6
  arg23 := scM0_7
  arg24 := scM0_8
  arg25 := scM0_9
  arg26 := scM0_10
  arg27 := scM0_11
  arg28 := scM0_12
  arg29 := scM0_13
  arg30 := scM0_14
  arg31 := scM0_15
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t

/-- What one grid point sees of the arguments. -/
abbrev dataAt (I : Inp) (t : Fin cfg0.N) : Data := I.data (grid0.coords t 0).val (grid0.coords t 1).val

include H

/-- The block of the queries at a grid point holds that batch and head. -/
theorem blk_0 (t : Fin cfg0.N) : (iblk m c 0 t : Vec Ideal S1x1x768x256 .fp8e4m3) = V4 .fp8e4m3 (dataAt I t).Qc := by
  obtain ⟨e0, e1, e2, e3⟩ := at_0 t
  funext j
  have j0 : (j 0).val < 1 := (j 0).isLt
  have j1 : (j 1).val < 1 := (j 1).isLt
  refine (in_v4 H (((cfg0.win 0).blk t).view.emb j)).trans (congrArg (R0 .fp8e4m3) ?_)
  show I.q (win0_0.index t (0 : Fin 4) * 1 + 1 * (j 0).val) (win0_0.index t (2 : Fin 4) * 768 + 1 * (j 2).val)
    (win0_0.index t (1 : Fin 4) * 1 + 1 * (j 1).val) (win0_0.index t (3 : Fin 4) * 256 + 1 * (j 3).val) = _
  exact congr4 I.q (by omega) (by omega) (by omega) (by omega)

/-- The block of the keys at a grid point holds that batch and head. -/
theorem blk_1 (t : Fin cfg0.N) : (iblk m c 1 t : Vec Ideal S1x1x768x256 .fp8e4m3) = V4 .fp8e4m3 (dataAt I t).Kc := by
  obtain ⟨e0, e1, e2, e3⟩ := at_1 t
  funext j
  have j0 : (j 0).val < 1 := (j 0).isLt
  have j1 : (j 1).val < 1 := (j 1).isLt
  refine (in_v5 H (((cfg0.win 1).blk t).view.emb j)).trans (congrArg (R0 .fp8e4m3) ?_)
  show I.k (win0_1.index t (0 : Fin 4) * 1 + 1 * (j 0).val) (win0_1.index t (2 : Fin 4) * 768 + 1 * (j 2).val)
    (win0_1.index t (1 : Fin 4) * 1 + 1 * (j 1).val) (win0_1.index t (3 : Fin 4) * 256 + 1 * (j 3).val) = _
  exact congr4 I.k (by omega) (by omega) (by omega) (by omega)

/-- The block of the values at a grid point holds that batch and head. -/
theorem blk_2 (t : Fin cfg0.N) : (iblk m c 2 t : Vec Ideal S1x1x768x512 .fp8e4m3) = V4 .fp8e4m3 (dataAt I t).Vc := by
  obtain ⟨e0, e1, e2, e3⟩ := at_2 t
  funext j
  have j0 : (j 0).val < 1 := (j 0).isLt
  have j1 : (j 1).val < 1 := (j 1).isLt
  refine (in_v6 H (((cfg0.win 2).blk t).view.emb j)).trans (congrArg (R0 .fp8e4m3) ?_)
  show I.v (win0_2.index t (0 : Fin 4) * 1 + 1 * (j 0).val) (win0_2.index t (2 : Fin 4) * 768 + 1 * (j 2).val)
    (win0_2.index t (1 : Fin 4) * 1 + 1 * (j 1).val) (win0_2.index t (3 : Fin 4) * 512 + 1 * (j 3).val) = _
  exact congr4 I.v (by omega) (by omega) (by omega) (by omega)

/-- The block of the output's gradient at a grid point holds that batch and head. -/
theorem blk_3 (t : Fin cfg0.N) : (iblk m c 3 t : Vec Ideal S1x1x768x512 .fp8e5m2) = V4 .fp8e5m2 (dataAt I t).Do := by
  obtain ⟨e0, e1, e2, e3⟩ := at_3 t
  funext j
  have j0 : (j 0).val < 1 := (j 0).isLt
  have j1 : (j 1).val < 1 := (j 1).isLt
  refine (in_v7 H (((cfg0.win 3).blk t).view.emb j)).trans (congrArg (R0 .fp8e5m2) ?_)
  show I.o (win0_3.index t (0 : Fin 4) * 1 + 1 * (j 0).val) (win0_3.index t (2 : Fin 4) * 768 + 1 * (j 2).val)
    (win0_3.index t (1 : Fin 4) * 1 + 1 * (j 1).val) (win0_3.index t (3 : Fin 4) * 512 + 1 * (j 3).val) = _
  exact congr4 I.o (by omega) (by omega) (by omega) (by omega)

/-- The block of the log-decay at a grid point holds that batch and head. -/
theorem blk_4 (t : Fin cfg0.N) : (iblk m c 4 t : Vec Ideal S1x1x768x256 .f32) = V4 .f32 (dataAt I t).G := by
  obtain ⟨e0, e1, e2, e3⟩ := at_4 t
  funext j
  have j0 : (j 0).val < 1 := (j 0).isLt
  have j1 : (j 1).val < 1 := (j 1).isLt
  refine (in_v8 H (((cfg0.win 4).blk t).view.emb j)).trans (congrArg (R0 .f32) ?_)
  show I.g (win0_4.index t (0 : Fin 4) * 1 + 1 * (j 0).val) (win0_4.index t (2 : Fin 4) * 768 + 1 * (j 2).val)
    (win0_4.index t (1 : Fin 4) * 1 + 1 * (j 1).val) (win0_4.index t (3 : Fin 4) * 256 + 1 * (j 3).val) = _
  exact congr4 I.g (by omega) (by omega) (by omega) (by omega)

/-- The buffers of grid point `t` hold the real numbers of its batch and head. -/
theorem envAt_real (t : Fin cfg0.N) : (envAt m c t).Real (dataAt I t) where
  h0 := blk_0 H t
  h1 := blk_1 H t
  h2 := blk_2 H t
  h3 := blk_3 H t
  h4 := blk_4 H t
  h5 n := by
    obtain ⟨e0, e1, e2⟩ := at_5 t
    refine (in_v9 H (((cfg0.win 5).blk t).view.emb (ix3 (grid0.coords t 1) (grid0.coords t 0) n))).trans (congrArg (R0 .f32) ?_)
    show I.qs (win0_5.index t (1 : Fin 3) * 2 + 1 * (grid0.coords t 0).val) (win0_5.index t (2 : Fin 3) * 12 + 1 * n.val)
      (win0_5.index t (0 : Fin 3) * 10 + 1 * (grid0.coords t 1).val) = _
    exact congr3 I.qs (by omega) (by omega) (by omega)
  h6 n := by
    obtain ⟨e0, e1, e2⟩ := at_6 t
    refine (in_v10 H (((cfg0.win 6).blk t).view.emb (ix3 (grid0.coords t 1) (grid0.coords t 0) n))).trans (congrArg (R0 .f32) ?_)
    show I.ks (win0_6.index t (1 : Fin 3) * 2 + 1 * (grid0.coords t 0).val) (win0_6.index t (2 : Fin 3) * 12 + 1 * n.val)
      (win0_6.index t (0 : Fin 3) * 10 + 1 * (grid0.coords t 1).val) = _
    exact congr3 I.ks (by omega) (by omega) (by omega)
  h7 n := by
    obtain ⟨e0, e1, e2⟩ := at_7 t
    refine (in_v11 H (((cfg0.win 7).blk t).view.emb (ix3 (grid0.coords t 1) (grid0.coords t 0) n))).trans (congrArg (R0 .f32) ?_)
    show I.vs (win0_7.index t (1 : Fin 3) * 2 + 1 * (grid0.coords t 0).val) (win0_7.index t (2 : Fin 3) * 12 + 1 * n.val)
      (win0_7.index t (0 : Fin 3) * 10 + 1 * (grid0.coords t 1).val) = _
    exact congr3 I.vs (by omega) (by omega) (by omega)
  h8 s := by
    obtain ⟨e0, e1, e2⟩ := at_8 t
    refine (in_v12 H (((cfg0.win 8).blk t).view.emb (ix3 (0 : Fin 1) (grid0.coords t 0) s))).trans (congrArg (R0 .f32) ?_)
    show I.ds (win0_8.index t (1 : Fin 3) * 2 + 1 * (grid0.coords t 0).val) (win0_8.index t (2 : Fin 3) * 768 + 1 * s.val)
      (win0_8.index t (0 : Fin 3) * 1 + 1 * 0) = _
    exact congr3 I.ds (by omega) (by omega) (by omega)

end Cert.RV
-- ==== Proof.Arrays.lean ====
/-
  The kernel's five result arrays after the run, as functions of the real numbers its arguments hold.
-/
module

public import proofs.«01_k».proof.Proof.KernelVal

@[expose] public section

noncomputable section

namespace Cert.RV

open Idealize.ShloMosaic Idealize.ShloMosaic.TcCoe Idealize.ShloMosaic.ValueIdx Idealize.SL.Sem
open Cert.KernelIdeal Cert.KernelIdeal.Gen
open scoped BigOperators

variable {m : (ℓ : Loc nD τ sig) → Buf (Elt Ideal) ℓ} {c : Dev nD} {I : Inp} (H : (argsOf m c).Real I)
include H

/-- The block of the gradient of the queries after grid point `t`. -/
theorem point_dq (t : Fin cfg0.N) : (outsAt0 m c t).1 = (V4 .bf16 (dataAt I t).dq : FVec Ideal S1x1x768x256 .bf16) := by
  have h := Env.out_dq (envAt_real H t) (ms0_9 t) (hs0_9 t) (ms0_10 t) (hs0_10 t) (ms0_11 t) (hs0_11 t) (ms0_12 t) (hs0_12 t) (ms0_13 t) (hs0_13 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  unfold envAt at h
  unfold outsAt0
  with_reducible exact h

/-- The array of the gradient of the queries after the run. -/
theorem arr_dq : ((dats m 0 c).arrAt 9 cfg0.N : Vec Ideal S2x10x768x256 .bf16)
    = fun j => R0 .bf16 ((I.data (j 0).val (j 1).val).dq (j 2).val (j 3).val) := by
  refine (dats m 0 c).arrAt_eq_of_covers 9 _ (by decide +kernel) fun t _ y => ?_
  obtain ⟨e0, e1, e2, e3⟩ := at_9 t
  have y0 : (y 0).val < 1 := (y 0).isLt
  have y1 : (y 1).val < 1 := (y 1).isLt
  refine (congrFun ((after0_9 m c t).trans (point_dq H t)) y).trans (congrArg (R0 .bf16) ?_)
  show (I.data (grid0.coords t 0).val (grid0.coords t 1).val).dq (y 2).val (y 3).val
    = (I.data (win0_9.index t (0 : Fin 4) * 1 + 1 * (y 0).val) (win0_9.index t (1 : Fin 4) * 1 + 1 * (y 1).val)).dq
      (win0_9.index t (2 : Fin 4) * 768 + 1 * (y 2).val) (win0_9.index t (3 : Fin 4) * 256 + 1 * (y 3).val)
  exact congr4 (fun b h t k => (I.data b h).dq t k) (by omega) (by omega) (by omega) (by omega)

/-- The block of the gradient of the keys after grid point `t`. -/
theorem point_dk (t : Fin cfg0.N) : (outsAt0 m c t).2.1 = (V4 .bf16 (dataAt I t).dk : FVec Ideal S1x1x768x256 .bf16) := by
  have h := Env.out_dk (envAt_real H t) (ms0_9 t) (hs0_9 t) (ms0_10 t) (hs0_10 t) (ms0_11 t) (hs0_11 t) (ms0_12 t) (hs0_12 t) (ms0_13 t) (hs0_13 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  unfold envAt at h
  unfold outsAt0
  with_reducible exact h

/-- The array of the gradient of the keys after the run. -/
theorem arr_dk : ((dats m 0 c).arrAt 10 cfg0.N : Vec Ideal S2x10x768x256 .bf16)
    = fun j => R0 .bf16 ((I.data (j 0).val (j 1).val).dk (j 2).val (j 3).val) := by
  refine (dats m 0 c).arrAt_eq_of_covers 10 _ (by decide +kernel) fun t _ y => ?_
  obtain ⟨e0, e1, e2, e3⟩ := at_10 t
  have y0 : (y 0).val < 1 := (y 0).isLt
  have y1 : (y 1).val < 1 := (y 1).isLt
  refine (congrFun ((after0_10 m c t).trans (point_dk H t)) y).trans (congrArg (R0 .bf16) ?_)
  show (I.data (grid0.coords t 0).val (grid0.coords t 1).val).dk (y 2).val (y 3).val
    = (I.data (win0_10.index t (0 : Fin 4) * 1 + 1 * (y 0).val) (win0_10.index t (1 : Fin 4) * 1 + 1 * (y 1).val)).dk
      (win0_10.index t (2 : Fin 4) * 768 + 1 * (y 2).val) (win0_10.index t (3 : Fin 4) * 256 + 1 * (y 3).val)
  exact congr4 (fun b h t k => (I.data b h).dk t k) (by omega) (by omega) (by omega) (by omega)

/-- The block of the gradient of the values after grid point `t`. -/
theorem point_dv (t : Fin cfg0.N) : (outsAt0 m c t).2.2.1 = (V4 .bf16 (dataAt I t).dv : FVec Ideal S1x1x768x512 .bf16) := by
  have h := Env.out_dv (envAt_real H t) (ms0_9 t) (hs0_9 t) (ms0_10 t) (hs0_10 t) (ms0_11 t) (hs0_11 t) (ms0_12 t) (hs0_12 t) (ms0_13 t) (hs0_13 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  unfold envAt at h
  unfold outsAt0
  with_reducible exact h

/-- The array of the gradient of the values after the run. -/
theorem arr_dv : ((dats m 0 c).arrAt 11 cfg0.N : Vec Ideal S2x10x768x512 .bf16)
    = fun j => R0 .bf16 ((I.data (j 0).val (j 1).val).dv (j 2).val (j 3).val) := by
  refine (dats m 0 c).arrAt_eq_of_covers 11 _ (by decide +kernel) fun t _ y => ?_
  obtain ⟨e0, e1, e2, e3⟩ := at_11 t
  have y0 : (y 0).val < 1 := (y 0).isLt
  have y1 : (y 1).val < 1 := (y 1).isLt
  refine (congrFun ((after0_11 m c t).trans (point_dv H t)) y).trans (congrArg (R0 .bf16) ?_)
  show (I.data (grid0.coords t 0).val (grid0.coords t 1).val).dv (y 2).val (y 3).val
    = (I.data (win0_11.index t (0 : Fin 4) * 1 + 1 * (y 0).val) (win0_11.index t (1 : Fin 4) * 1 + 1 * (y 1).val)).dv
      (win0_11.index t (2 : Fin 4) * 768 + 1 * (y 2).val) (win0_11.index t (3 : Fin 4) * 512 + 1 * (y 3).val)
  exact congr4 (fun b h t k => (I.data b h).dv t k) (by omega) (by omega) (by omega) (by omega)

/-- The block of the gradient of the log-decay after grid point `t`. -/
theorem point_dg (t : Fin cfg0.N) : (outsAt0 m c t).2.2.2.1 = (V4 .f32 (dataAt I t).dg : FVec Ideal S1x1x768x256 .f32) := by
  have h := Env.out_dg (envAt_real H t) (ms0_9 t) (hs0_9 t) (ms0_10 t) (hs0_10 t) (ms0_11 t) (hs0_11 t) (ms0_12 t) (hs0_12 t) (ms0_13 t) (hs0_13 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  unfold envAt at h
  unfold outsAt0
  with_reducible exact h

/-- The array of the gradient of the log-decay after the run. -/
theorem arr_dg : ((dats m 0 c).arrAt 12 cfg0.N : Vec Ideal S2x10x768x256 .f32)
    = fun j => R0 .f32 ((I.data (j 0).val (j 1).val).dg (j 2).val (j 3).val) := by
  refine (dats m 0 c).arrAt_eq_of_covers 12 _ (by decide +kernel) fun t _ y => ?_
  obtain ⟨e0, e1, e2, e3⟩ := at_12 t
  have y0 : (y 0).val < 1 := (y 0).isLt
  have y1 : (y 1).val < 1 := (y 1).isLt
  refine (congrFun ((after0_12 m c t).trans (point_dg H t)) y).trans (congrArg (R0 .f32) ?_)
  show (I.data (grid0.coords t 0).val (grid0.coords t 1).val).dg (y 2).val (y 3).val
    = (I.data (win0_12.index t (0 : Fin 4) * 1 + 1 * (y 0).val) (win0_12.index t (1 : Fin 4) * 1 + 1 * (y 1).val)).dg
      (win0_12.index t (2 : Fin 4) * 768 + 1 * (y 2).val) (win0_12.index t (3 : Fin 4) * 256 + 1 * (y 3).val)
  exact congr4 (fun b h t k => (I.data b h).dg t k) (by omega) (by omega) (by omega) (by omega)

/-- The block of the gradient of the summed log-decay after grid point `t`. -/
theorem point_db (t : Fin cfg0.N) : (outsAt0 m c t).2.2.2.2 = (V4 .f32 (dataAt I t).db : FVec Ideal S1x1x768x256 .f32) := by
  have h := Env.out_db (envAt_real H t) (ms0_9 t) (hs0_9 t) (ms0_10 t) (hs0_10 t) (ms0_11 t) (hs0_11 t) (ms0_12 t) (hs0_12 t) (ms0_13 t) (hs0_13 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  unfold envAt at h
  unfold outsAt0
  with_reducible exact h

/-- The array of the gradient of the summed log-decay after the run. -/
theorem arr_db : ((dats m 0 c).arrAt 13 cfg0.N : Vec Ideal S2x10x768x256 .f32)
    = fun j => R0 .f32 ((I.data (j 0).val (j 1).val).db (j 2).val (j 3).val) := by
  refine (dats m 0 c).arrAt_eq_of_covers 13 _ (by decide +kernel) fun t _ y => ?_
  obtain ⟨e0, e1, e2, e3⟩ := at_13 t
  have y0 : (y 0).val < 1 := (y 0).isLt
  have y1 : (y 1).val < 1 := (y 1).isLt
  refine (congrFun ((after0_13 m c t).trans (point_db H t)) y).trans (congrArg (R0 .f32) ?_)
  show (I.data (grid0.coords t 0).val (grid0.coords t 1).val).db (y 2).val (y 3).val
    = (I.data (win0_13.index t (0 : Fin 4) * 1 + 1 * (y 0).val) (win0_13.index t (1 : Fin 4) * 1 + 1 * (y 1).val)).db
      (win0_13.index t (2 : Fin 4) * 768 + 1 * (y 2).val) (win0_13.index t (3 : Fin 4) * 256 + 1 * (y 3).val)
  exact congr4 (fun b h t k => (I.data b h).db t k) (by omega) (by omega) (by omega) (by omega)

end Cert.RV
-- ==== Proof.Decode.lean ====
/-
  The reference's first region: the four arrays of codes, decoded.
-/
module

public import proofs.«01_k».proof.Proof.Stages
public import proofs.«01_k».proof.Proof.Gen.ReferenceIdeal.Run
public import Idealize.ShloMosaic.Lib.Pipeline.ValueKit.Geometry

@[expose] public section

noncomputable section

namespace Cert.RV

open Idealize.ShloMosaic Idealize.ShloMosaic.TcCoe Idealize.ShloMosaic.ValueIdx Idealize.SL.Sem
open Cert.ReferenceIdeal Cert.ReferenceIdeal.Gen Cert.ReferenceIdeal.Value
open scoped BigOperators

namespace Decode

/-- The offset of the whole array is zero on every axis. -/
theorem hz : (![0, 0, 0, 0] : Fin 4 → Nat) = fun _ => 0 := funext fun a => by fin_cases a <;> rfl

variable (m : (ℓ : Loc nD τ sig) → Buf (Elt Ideal) ℓ) (c : Dev nD)

/-- The region finds the bytes of the queries read as floats. -/
theorem V_v0 : (V m c main_v0 : Vec Ideal S2x768x10x256 .fp8e4m3) = bitcastToFloat (F := Ideal) .fp8e4m3 ((m ((c : Thread nD τ).loc main_arg0)) : IVec S2x768x10x256 8) := by
  show StableHlo.after hostOps0 _ (Proc.devRef .tc main_v0) = _
  after_results

/-- The window of the queries starts at zero. -/
theorem at_0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- The window of the decoded queries starts at zero. -/
theorem at_4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of the block of the queries is the same index of the array. -/
theorem emb_0 (t : Fin cfg0.N) (j : S2x768x10x256.Idx) : ((cfg0.win 0).blk t).view.emb j = j := by
  obtain ⟨e0, e1, e2, e3⟩ := at_0 t
  funext a
  apply Fin.ext
  match a with
  | ⟨0, _⟩ => show win0_0.index t (0 : Fin 4) * 2 + 1 * (j 0).val = (j 0).val; omega
  | ⟨1, _⟩ => show win0_0.index t (1 : Fin 4) * 768 + 1 * (j 1).val = (j 1).val; omega
  | ⟨2, _⟩ => show win0_0.index t (2 : Fin 4) * 10 + 1 * (j 2).val = (j 2).val; omega
  | ⟨3, _⟩ => show win0_0.index t (3 : Fin 4) * 256 + 1 * (j 3).val = (j 3).val; omega

/-- An index of the block of the decoded queries is the same index of the array. -/
theorem emb_4 (t : Fin cfg0.N) (j : S2x768x10x256.Idx) : ((cfg0.win 4).blk t).view.emb j = j := by
  obtain ⟨e0, e1, e2, e3⟩ := at_4 t
  funext a
  apply Fin.ext
  match a with
  | ⟨0, _⟩ => show win0_4.index t (0 : Fin 4) * 2 + 1 * (j 0).val = (j 0).val; omega
  | ⟨1, _⟩ => show win0_4.index t (1 : Fin 4) * 768 + 1 * (j 1).val = (j 1).val; omega
  | ⟨2, _⟩ => show win0_4.index t (2 : Fin 4) * 10 + 1 * (j 2).val = (j 2).val; omega
  | ⟨3, _⟩ => show win0_4.index t (3 : Fin 4) * 256 + 1 * (j 3).val = (j 3).val; omega

/-- The block of the queries is the whole array. -/
theorem iblk_0 (t : Fin cfg0.N) : (iblk m c 0 t : Vec Ideal S2x768x10x256 .fp8e4m3) = V m c main_v0 := by
  funext j
  show V m c main_v0 (((cfg0.win 0).blk t).view.emb j) = V m c main_v0 j
  rw [emb_0]

/-- The region writes the queries widened. -/
theorem out_4 (x0 : Vec Ideal S2x768x10x256 .fp8e4m3) (x1 : Vec Ideal S2x768x10x256 .fp8e4m3) (x2 : Vec Ideal S2x768x10x512 .fp8e4m3) (x3 : Vec Ideal S2x768x10x512 .fp8e5m2) :
    out0_4 x0 x1 x2 x3 = (extf .f32 (x0 : FVec Ideal S2x768x10x256 .fp8e4m3) bitsLt_fp8e4m3_f32 : FVec Ideal S2x768x10x256 .f32) := by
  unfold out0_4
  rw [View.canon_unit_zero hz, View.ld_unit_zero hz]
  unfold k0_pay1
  dsimp only
  rw [shapeCast_self]

/-- The decoded queries: each byte read as the float it encodes. -/
theorem reg_0 (i : S2x768x10x256.Idx) : (reg_main_v4_0 m c i : Ideal .f32)
    = (FloatOps.ofBits .fp8e4m3 (m ((c : Thread nD τ).loc main_arg0) i) : Ideal .fp8e4m3) := by
  have h : ((dats m 0 c).arrAt 4 cfg0.N : Vec Ideal S2x768x10x256 .f32)
      = fun j => (V m c main_v0 j : Ideal .fp8e4m3) := by
    refine (dats m 0 c).arrAt_eq_of_covers 4 _ (by decide +kernel) fun t _ y => ?_
    refine (congrFun ((after0_4 m c t).trans (out_4 _ _ _ _)) y).trans ?_
    refine (congrFun (iblk_0 m c t) y).trans ?_
    exact congrArg (V m c main_v0) (emb_4 t y).symm
  exact (congrFun h i).trans (congrFun (V_v0 m c) i)

/-- The region finds the bytes of the keys read as floats. -/
theorem V_v1 : (V m c main_v1 : Vec Ideal S2x768x10x256 .fp8e4m3) = bitcastToFloat (F := Ideal) .fp8e4m3 ((m ((c : Thread nD τ).loc main_arg1)) : IVec S2x768x10x256 8) := by
  show StableHlo.after hostOps0 _ (Proc.devRef .tc main_v1) = _
  after_results

/-- The window of the keys starts at zero. -/
theorem at_1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- The window of the decoded keys starts at zero. -/
theorem at_5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of the block of the keys is the same index of the array. -/
theorem emb_1 (t : Fin cfg0.N) (j : S2x768x10x256.Idx) : ((cfg0.win 1).blk t).view.emb j = j := by
  obtain ⟨e0, e1, e2, e3⟩ := at_1 t
  funext a
  apply Fin.ext
  match a with
  | ⟨0, _⟩ => show win0_1.index t (0 : Fin 4) * 2 + 1 * (j 0).val = (j 0).val; omega
  | ⟨1, _⟩ => show win0_1.index t (1 : Fin 4) * 768 + 1 * (j 1).val = (j 1).val; omega
  | ⟨2, _⟩ => show win0_1.index t (2 : Fin 4) * 10 + 1 * (j 2).val = (j 2).val; omega
  | ⟨3, _⟩ => show win0_1.index t (3 : Fin 4) * 256 + 1 * (j 3).val = (j 3).val; omega

/-- An index of the block of the decoded keys is the same index of the array. -/
theorem emb_5 (t : Fin cfg0.N) (j : S2x768x10x256.Idx) : ((cfg0.win 5).blk t).view.emb j = j := by
  obtain ⟨e0, e1, e2, e3⟩ := at_5 t
  funext a
  apply Fin.ext
  match a with
  | ⟨0, _⟩ => show win0_5.index t (0 : Fin 4) * 2 + 1 * (j 0).val = (j 0).val; omega
  | ⟨1, _⟩ => show win0_5.index t (1 : Fin 4) * 768 + 1 * (j 1).val = (j 1).val; omega
  | ⟨2, _⟩ => show win0_5.index t (2 : Fin 4) * 10 + 1 * (j 2).val = (j 2).val; omega
  | ⟨3, _⟩ => show win0_5.index t (3 : Fin 4) * 256 + 1 * (j 3).val = (j 3).val; omega

/-- The block of the keys is the whole array. -/
theorem iblk_1 (t : Fin cfg0.N) : (iblk m c 1 t : Vec Ideal S2x768x10x256 .fp8e4m3) = V m c main_v1 := by
  funext j
  show V m c main_v1 (((cfg0.win 1).blk t).view.emb j) = V m c main_v1 j
  rw [emb_1]

/-- The region writes the keys widened. -/
theorem out_5 (x0 : Vec Ideal S2x768x10x256 .fp8e4m3) (x1 : Vec Ideal S2x768x10x256 .fp8e4m3) (x2 : Vec Ideal S2x768x10x512 .fp8e4m3) (x3 : Vec Ideal S2x768x10x512 .fp8e5m2) :
    out0_5 x0 x1 x2 x3 = (extf .f32 (x1 : FVec Ideal S2x768x10x256 .fp8e4m3) bitsLt_fp8e4m3_f32 : FVec Ideal S2x768x10x256 .f32) := by
  unfold out0_5
  rw [View.canon_unit_zero hz, View.ld_unit_zero hz]
  unfold k0_pay2
  dsimp only
  rw [shapeCast_self]

/-- The decoded keys: each byte read as the float it encodes. -/
theorem reg_1 (i : S2x768x10x256.Idx) : (reg_main_v4_1 m c i : Ideal .f32)
    = (FloatOps.ofBits .fp8e4m3 (m ((c : Thread nD τ).loc main_arg1) i) : Ideal .fp8e4m3) := by
  have h : ((dats m 0 c).arrAt 5 cfg0.N : Vec Ideal S2x768x10x256 .f32)
      = fun j => (V m c main_v1 j : Ideal .fp8e4m3) := by
    refine (dats m 0 c).arrAt_eq_of_covers 5 _ (by decide +kernel) fun t _ y => ?_
    refine (congrFun ((after0_5 m c t).trans (out_5 _ _ _ _)) y).trans ?_
    refine (congrFun (iblk_1 m c t) y).trans ?_
    exact congrArg (V m c main_v1) (emb_5 t y).symm
  exact (congrFun h i).trans (congrFun (V_v1 m c) i)

/-- The region finds the bytes of the values read as floats. -/
theorem V_v2 : (V m c main_v2 : Vec Ideal S2x768x10x512 .fp8e4m3) = bitcastToFloat (F := Ideal) .fp8e4m3 ((m ((c : Thread nD τ).loc main_arg4)) : IVec S2x768x10x512 8) := by
  show StableHlo.after hostOps0 _ (Proc.devRef .tc main_v2) = _
  after_results

/-- The window of the values starts at zero. -/
theorem at_2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- The window of the decoded values starts at zero. -/
theorem at_6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of the block of the values is the same index of the array. -/
theorem emb_2 (t : Fin cfg0.N) (j : S2x768x10x512.Idx) : ((cfg0.win 2).blk t).view.emb j = j := by
  obtain ⟨e0, e1, e2, e3⟩ := at_2 t
  funext a
  apply Fin.ext
  match a with
  | ⟨0, _⟩ => show win0_2.index t (0 : Fin 4) * 2 + 1 * (j 0).val = (j 0).val; omega
  | ⟨1, _⟩ => show win0_2.index t (1 : Fin 4) * 768 + 1 * (j 1).val = (j 1).val; omega
  | ⟨2, _⟩ => show win0_2.index t (2 : Fin 4) * 10 + 1 * (j 2).val = (j 2).val; omega
  | ⟨3, _⟩ => show win0_2.index t (3 : Fin 4) * 512 + 1 * (j 3).val = (j 3).val; omega

/-- An index of the block of the decoded values is the same index of the array. -/
theorem emb_6 (t : Fin cfg0.N) (j : S2x768x10x512.Idx) : ((cfg0.win 6).blk t).view.emb j = j := by
  obtain ⟨e0, e1, e2, e3⟩ := at_6 t
  funext a
  apply Fin.ext
  match a with
  | ⟨0, _⟩ => show win0_6.index t (0 : Fin 4) * 2 + 1 * (j 0).val = (j 0).val; omega
  | ⟨1, _⟩ => show win0_6.index t (1 : Fin 4) * 768 + 1 * (j 1).val = (j 1).val; omega
  | ⟨2, _⟩ => show win0_6.index t (2 : Fin 4) * 10 + 1 * (j 2).val = (j 2).val; omega
  | ⟨3, _⟩ => show win0_6.index t (3 : Fin 4) * 512 + 1 * (j 3).val = (j 3).val; omega

/-- The block of the values is the whole array. -/
theorem iblk_2 (t : Fin cfg0.N) : (iblk m c 2 t : Vec Ideal S2x768x10x512 .fp8e4m3) = V m c main_v2 := by
  funext j
  show V m c main_v2 (((cfg0.win 2).blk t).view.emb j) = V m c main_v2 j
  rw [emb_2]

/-- The region writes the values widened. -/
theorem out_6 (x0 : Vec Ideal S2x768x10x256 .fp8e4m3) (x1 : Vec Ideal S2x768x10x256 .fp8e4m3) (x2 : Vec Ideal S2x768x10x512 .fp8e4m3) (x3 : Vec Ideal S2x768x10x512 .fp8e5m2) :
    out0_6 x0 x1 x2 x3 = (extf .bf16 (x2 : FVec Ideal S2x768x10x512 .fp8e4m3) bitsLt_fp8e4m3_bf16 : FVec Ideal S2x768x10x512 .bf16) := by
  unfold out0_6
  rw [View.canon_unit_zero hz, View.ld_unit_zero hz]
  unfold k0_pay3
  dsimp only
  rw [shapeCast_self]

/-- The decoded values: each byte read as the float it encodes. -/
theorem reg_2 (i : S2x768x10x512.Idx) : (reg_main_v4_2 m c i : Ideal .bf16)
    = (FloatOps.ofBits .fp8e4m3 (m ((c : Thread nD τ).loc main_arg4) i) : Ideal .fp8e4m3) := by
  have h : ((dats m 0 c).arrAt 6 cfg0.N : Vec Ideal S2x768x10x512 .bf16)
      = fun j => (V m c main_v2 j : Ideal .fp8e4m3) := by
    refine (dats m 0 c).arrAt_eq_of_covers 6 _ (by decide +kernel) fun t _ y => ?_
    refine (congrFun ((after0_6 m c t).trans (out_6 _ _ _ _)) y).trans ?_
    refine (congrFun (iblk_2 m c t) y).trans ?_
    exact congrArg (V m c main_v2) (emb_6 t y).symm
  exact (congrFun h i).trans (congrFun (V_v2 m c) i)

/-- The region finds the bytes of the output's gradient read as floats. -/
theorem V_v3 : (V m c main_v3 : Vec Ideal S2x768x10x512 .fp8e5m2) = bitcastToFloat (F := Ideal) .fp8e5m2 ((m ((c : Thread nD τ).loc main_arg6)) : IVec S2x768x10x512 8) := by
  show StableHlo.after hostOps0 _ (Proc.devRef .tc main_v3) = _
  after_results

/-- The window of the output's gradient starts at zero. -/
theorem at_3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- The window of the decoded output's gradient starts at zero. -/
theorem at_7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of the block of the output's gradient is the same index of the array. -/
theorem emb_3 (t : Fin cfg0.N) (j : S2x768x10x512.Idx) : ((cfg0.win 3).blk t).view.emb j = j := by
  obtain ⟨e0, e1, e2, e3⟩ := at_3 t
  funext a
  apply Fin.ext
  match a with
  | ⟨0, _⟩ => show win0_3.index t (0 : Fin 4) * 2 + 1 * (j 0).val = (j 0).val; omega
  | ⟨1, _⟩ => show win0_3.index t (1 : Fin 4) * 768 + 1 * (j 1).val = (j 1).val; omega
  | ⟨2, _⟩ => show win0_3.index t (2 : Fin 4) * 10 + 1 * (j 2).val = (j 2).val; omega
  | ⟨3, _⟩ => show win0_3.index t (3 : Fin 4) * 512 + 1 * (j 3).val = (j 3).val; omega

/-- An index of the block of the decoded output's gradient is the same index of the array. -/
theorem emb_7 (t : Fin cfg0.N) (j : S2x768x10x512.Idx) : ((cfg0.win 7).blk t).view.emb j = j := by
  obtain ⟨e0, e1, e2, e3⟩ := at_7 t
  funext a
  apply Fin.ext
  match a with
  | ⟨0, _⟩ => show win0_7.index t (0 : Fin 4) * 2 + 1 * (j 0).val = (j 0).val; omega
  | ⟨1, _⟩ => show win0_7.index t (1 : Fin 4) * 768 + 1 * (j 1).val = (j 1).val; omega
  | ⟨2, _⟩ => show win0_7.index t (2 : Fin 4) * 10 + 1 * (j 2).val = (j 2).val; omega
  | ⟨3, _⟩ => show win0_7.index t (3 : Fin 4) * 512 + 1 * (j 3).val = (j 3).val; omega

/-- The block of the output's gradient is the whole array. -/
theorem iblk_3 (t : Fin cfg0.N) : (iblk m c 3 t : Vec Ideal S2x768x10x512 .fp8e5m2) = V m c main_v3 := by
  funext j
  show V m c main_v3 (((cfg0.win 3).blk t).view.emb j) = V m c main_v3 j
  rw [emb_3]

/-- The region writes the output's gradient widened. -/
theorem out_7 (x0 : Vec Ideal S2x768x10x256 .fp8e4m3) (x1 : Vec Ideal S2x768x10x256 .fp8e4m3) (x2 : Vec Ideal S2x768x10x512 .fp8e4m3) (x3 : Vec Ideal S2x768x10x512 .fp8e5m2) :
    out0_7 x0 x1 x2 x3 = (extf .bf16 (x3 : FVec Ideal S2x768x10x512 .fp8e5m2) bitsLt_fp8e5m2_bf16 : FVec Ideal S2x768x10x512 .bf16) := by
  unfold out0_7
  rw [View.canon_unit_zero hz, View.ld_unit_zero hz]
  unfold k0_pay4
  dsimp only
  rw [shapeCast_self]

/-- The decoded output's gradient: each byte read as the float it encodes. -/
theorem reg_3 (i : S2x768x10x512.Idx) : (reg_main_v4_3 m c i : Ideal .bf16)
    = (FloatOps.ofBits .fp8e5m2 (m ((c : Thread nD τ).loc main_arg6) i) : Ideal .fp8e5m2) := by
  have h : ((dats m 0 c).arrAt 7 cfg0.N : Vec Ideal S2x768x10x512 .bf16)
      = fun j => (V m c main_v3 j : Ideal .fp8e5m2) := by
    refine (dats m 0 c).arrAt_eq_of_covers 7 _ (by decide +kernel) fun t _ y => ?_
    refine (congrFun ((after0_7 m c t).trans (out_7 _ _ _ _)) y).trans ?_
    refine (congrFun (iblk_3 m c t) y).trans ?_
    exact congrArg (V m c main_v3) (emb_7 t y).symm
  exact (congrFun h i).trans (congrFun (V_v3 m c) i)

end Decode

end Cert.RV
-- ==== Proof.RefArrays.lean ====
/-
  The reference's five results after the run, as functions of the real numbers its arguments hold.
-/
module

public import proofs.«01_k».proof.Proof.KernelVal
public import proofs.«01_k».proof.Proof.Decode

@[expose] public section

noncomputable section

namespace Cert.RV

open Idealize.ShloMosaic Idealize.ShloMosaic.TcCoe Idealize.ShloMosaic.ValueIdx Idealize.SL.Sem
open Cert.ReferenceIdeal Cert.ReferenceIdeal.Gen Cert.ReferenceIdeal.Value

namespace RefArrays

variable (m : (ℓ : Loc nD τ sig) → Buf (Elt Ideal) ℓ) (c : Dev nD)

/-- The arguments of the reference's program on core `c`. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)

/-- What the operations after the decoding read: the scales, the log-decay and the four decoded arrays. -/
def arrays : Ref where
  x2 := m ((c.tc : Thread nD τ).loc main_arg2)
  x3 := m ((c.tc : Thread nD τ).loc main_arg3)
  x5 := m ((c.tc : Thread nD τ).loc main_arg5)
  x7 := m ((c.tc : Thread nD τ).loc main_arg7)
  x8 := m ((c.tc : Thread nD τ).loc main_arg8)
  r0 := reg_main_v4_0 m c
  r1 := reg_main_v4_1 m c
  r2 := reg_main_v4_2 m c
  r3 := reg_main_v4_3 m c

variable {m c} {I : Inp} (H : (args m c).Real I)
include H

/-- The arrays that the reference works on hold the real numbers of its arguments. -/
theorem arrays_real : (arrays m c).Real I where
  x2 := H.a2
  x3 := H.a3
  x5 := H.a5
  x7 := H.a7
  x8 := H.a8
  r0 i := (Decode.reg_0 m c i).trans (H.a0 i)
  r1 i := (Decode.reg_1 m c i).trans (H.a1 i)
  r2 i := (Decode.reg_2 m c i).trans (H.a4 i)
  r3 i := (Decode.reg_3 m c i).trans (H.a6 i)

/-- The array of the gradient of the queries. -/
theorem res_dq : Read.val_main_v123 (F := Ideal) (exitV m c (Proc.devRef .tc main_arg3)) (exitV m c (Proc.devRef .tc main_arg5)) (exitV m c (Proc.devRef .tc main_arg7)) (exitV m c (Proc.devRef .tc main_arg8)) (exitV m c (Proc.devRef .tc main_v4_1)) (exitV m c (Proc.devRef .tc main_v4_2)) (exitV m c (Proc.devRef .tc main_v4_3))
    = fun j : S2x10x768x256.Idx => R0 .bf16 ((I.data (j 0).val (j 1).val).dq (j 2).val (j 3).val) := by
  rw [exit_main_arg3, exit_main_arg5, exit_main_arg7, exit_main_arg8, exit_main_v4_1, exit_main_v4_2, exit_main_v4_3]
  exact funext (arrays_real H).v123

/-- The array of the gradient of the keys. -/
theorem res_dk : Read.val_main_v124 (F := Ideal) (exitV m c (Proc.devRef .tc main_arg2)) (exitV m c (Proc.devRef .tc main_arg5)) (exitV m c (Proc.devRef .tc main_arg7)) (exitV m c (Proc.devRef .tc main_arg8)) (exitV m c (Proc.devRef .tc main_v4_0)) (exitV m c (Proc.devRef .tc main_v4_2)) (exitV m c (Proc.devRef .tc main_v4_3))
    = fun j : S2x10x768x256.Idx => R0 .bf16 ((I.data (j 0).val (j 1).val).dk (j 2).val (j 3).val) := by
  rw [exit_main_arg2, exit_main_arg5, exit_main_arg7, exit_main_arg8, exit_main_v4_0, exit_main_v4_2, exit_main_v4_3]
  exact funext (arrays_real H).v124

/-- The array of the gradient of the values. -/
theorem res_dv : Read.val_main_v125 (F := Ideal) (exitV m c (Proc.devRef .tc main_arg2)) (exitV m c (Proc.devRef .tc main_arg3)) (exitV m c (Proc.devRef .tc main_arg7)) (exitV m c (Proc.devRef .tc main_arg8)) (exitV m c (Proc.devRef .tc main_v4_0)) (exitV m c (Proc.devRef .tc main_v4_1)) (exitV m c (Proc.devRef .tc main_v4_3))
    = fun j : S2x10x768x512.Idx => R0 .bf16 ((I.data (j 0).val (j 1).val).dv (j 2).val (j 3).val) := by
  rw [exit_main_arg2, exit_main_arg3, exit_main_arg7, exit_main_arg8, exit_main_v4_0, exit_main_v4_1, exit_main_v4_3]
  exact funext (arrays_real H).v125

/-- The array of the gradient of the log-decay. -/
theorem res_dg : Read.val_main_v126 (F := Ideal) (exitV m c (Proc.devRef .tc main_arg2)) (exitV m c (Proc.devRef .tc main_arg3)) (exitV m c (Proc.devRef .tc main_arg5)) (exitV m c (Proc.devRef .tc main_arg7)) (exitV m c (Proc.devRef .tc main_arg8)) (exitV m c (Proc.devRef .tc main_v4_0)) (exitV m c (Proc.devRef .tc main_v4_1)) (exitV m c (Proc.devRef .tc main_v4_2)) (exitV m c (Proc.devRef .tc main_v4_3))
    = fun j : S2x10x768x256.Idx => R0 .f32 ((I.data (j 0).val (j 1).val).dg (j 2).val (j 3).val) := by
  rw [exit_main_arg2, exit_main_arg3, exit_main_arg5, exit_main_arg7, exit_main_arg8, exit_main_v4_0, exit_main_v4_1, exit_main_v4_2, exit_main_v4_3]
  exact funext (arrays_real H).v126

/-- The array of the gradient of the summed log-decay. -/
theorem res_db : Read.val_main_v127 (F := Ideal) (exitV m c (Proc.devRef .tc main_arg2)) (exitV m c (Proc.devRef .tc main_arg3)) (exitV m c (Proc.devRef .tc main_arg5)) (exitV m c (Proc.devRef .tc main_arg7)) (exitV m c (Proc.devRef .tc main_arg8)) (exitV m c (Proc.devRef .tc main_v4_0)) (exitV m c (Proc.devRef .tc main_v4_1)) (exitV m c (Proc.devRef .tc main_v4_2)) (exitV m c (Proc.devRef .tc main_v4_3))
    = fun j : S2x10x768x256.Idx => R0 .f32 ((I.data (j 0).val (j 1).val).db (j 2).val (j 3).val) := by
  rw [exit_main_arg2, exit_main_arg3, exit_main_arg5, exit_main_arg7, exit_main_arg8, exit_main_v4_0, exit_main_v4_1, exit_main_v4_2, exit_main_v4_3]
  exact funext (arrays_real H).v127

end RefArrays

end Cert.RV
-- ==== Proof.Finite.lean ====
/-
  What the precondition gives: the arguments hold real numbers.
-/
module

public import proofs.«01_k».proof.Proof.KernelVal
public import proofs.«01_k».proof.Proof.Gen.Pre_finite
public import Idealize.ShloMosaic.Lib.ReduceAll

@[expose] public section

noncomputable section

namespace Cert.RV

open Idealize.ShloMosaic Idealize.ShloMosaic.TcCoe Idealize.ShloMosaic.ValueIdx Idealize.SL.Sem
open Cert.Pre_finite

namespace Finite

/-! ## Which bytes decode to a real number -/

/-- A byte that is not all ones below its sign decodes, as an 8-bit float of four exponent bits, to a real number. -/
theorem real_e4m3 (b : BitVec 8) (h : b.setWidth 32 &&& 127#32 ≠ 127#32) : ∃ r : ℝ, (FloatOps.ofBits .fp8e4m3 b : Ideal .fp8e4m3) = R0 .fp8e4m3 r := by
  have e : ¬ ((b.extractLsb' 3 4).toNat = 15 ∧ (b.extractLsb' 0 3).toNat = 7) := by
    revert b
    decide +kernel
  show ∃ r : ℝ, Ideal.e4m3fn b = (r : EReal)
  unfold Ideal.e4m3fn
  dsimp only
  rw [if_neg e]
  split_ifs <;> exact ⟨_, rfl⟩

/-- A byte below `124` without its sign decodes, as an 8-bit float of five exponent bits, to a real number. -/
theorem real_e5m2 (b : BitVec 8) (h : (b.setWidth 32 &&& 127#32).toInt < (124#32 : BitVec 32).toInt) : ∃ r : ℝ, (FloatOps.ofBits .fp8e5m2 b : Ideal .fp8e5m2) = R0 .fp8e5m2 r := by
  have e : ¬ ((b.extractLsb' 2 5).toNat = 2 ^ 5 - 1) := by
    revert b
    decide +kernel
  show ∃ r : ℝ, Ideal.ieee 5 2 b = (r : EReal)
  unfold Ideal.ieee
  dsimp only
  rw [if_neg e]
  split_ifs <;> exact ⟨_, rfl⟩

/-- The float32 pattern of infinity is infinity. -/
theorem top_f32 : (FloatOps.ofBits .f32 0x7F800000#32 : Ideal .f32) = (⊤ : EReal) := by
  show Ideal.ofBits .f32 0x7F800000#32 = _
  simp [Ideal.ofBits, Ideal.ieee]

/-- A value whose magnitude is below infinity is a real number. -/
theorem real_f32 (x : Ideal .f32) (h : FloatOps.cmpf .olt (FloatOps.hostAbsf x : Ideal .f32) (FloatOps.ofBits .f32 0x7F800000#32 : Ideal .f32) = 1#1) : ∃ r : ℝ, x = R0 .f32 r := by
  rw [top_f32] at h
  have h2 : max (x : EReal) (-x) < ⊤ := by
    have h3 : BitVec.ofBool (decide (max (x : EReal) (-x) < ⊤)) = 1#1 := h
    by_contra hn
    rw [decide_eq_false hn] at h3
    exact absurd h3 (by decide)
  have ht : (x : EReal) ≠ ⊤ := fun e => by
    rw [e] at h2
    exact absurd h2 (by simp)
  have hb : (x : EReal) ≠ ⊥ := fun e => by
    rw [e] at h2
    exact absurd h2 (by simp)
  exact ⟨EReal.toReal x, (EReal.coe_toReal ht hb).symm⟩

/-! ## An array of real numbers as a function of its indices -/

/-- A function of the indices of an array of three axes is one of three numbers. -/
theorem exists3 {n0 n1 n2 : ℕ} {φ : FTy} (x : (⟨3, ![n0, n1, n2]⟩ : Shape).Idx → Ideal φ) (h : ∀ i, ∃ r : ℝ, x i = R0 φ r) :
    ∃ f : ℕ → ℕ → ℕ → ℝ, ∀ i, x i = R0 φ (f (i 0).val (i 1).val (i 2).val) := by
  choose r hr using h
  let e : (⟨3, ![n0, n1, n2]⟩ : Shape).Idx → ℕ × ℕ × ℕ := fun i => ((i 0).val, (i 1).val, (i 2).val)
  have he : Function.Injective e := fun i j hij => by
    obtain ⟨h0, h1, h2⟩ := (by simpa [e, Prod.ext_iff] using hij : _ ∧ _ ∧ _)
    funext a
    match a with
    | ⟨0, _⟩ => exact Fin.ext h0
    | ⟨1, _⟩ => exact Fin.ext h1
    | ⟨2, _⟩ => exact Fin.ext h2
  exact ⟨fun a b c => Function.extend e r 0 (a, b, c), fun i => (hr i).trans (congrArg (R0 φ) (he.extend_apply r 0 i).symm)⟩

/-- A function of the indices of an array of four axes is one of four numbers. -/
theorem exists4 {n0 n1 n2 n3 : ℕ} {φ : FTy} (x : (⟨4, ![n0, n1, n2, n3]⟩ : Shape).Idx → Ideal φ) (h : ∀ i, ∃ r : ℝ, x i = R0 φ r) :
    ∃ f : ℕ → ℕ → ℕ → ℕ → ℝ, ∀ i, x i = R0 φ (f (i 0).val (i 1).val (i 2).val (i 3).val) := by
  choose r hr using h
  let e : (⟨4, ![n0, n1, n2, n3]⟩ : Shape).Idx → ℕ × ℕ × ℕ × ℕ := fun i => ((i 0).val, (i 1).val, (i 2).val, (i 3).val)
  have he : Function.Injective e := fun i j hij => by
    obtain ⟨h0, h1, h2, h3⟩ := (by simpa [e, Prod.ext_iff] using hij : _ ∧ _ ∧ _ ∧ _)
    funext a
    match a with
    | ⟨0, _⟩ => exact Fin.ext h0
    | ⟨1, _⟩ => exact Fin.ext h1
    | ⟨2, _⟩ => exact Fin.ext h2
    | ⟨3, _⟩ => exact Fin.ext h3
  exact ⟨fun a b c d => Function.extend e r 0 (a, b, c, d), fun i => (hr i).trans (congrArg (R0 φ) (he.extend_apply r 0 i).symm)⟩

/-! ## The precondition read back -/

instance : Subsingleton S_.Idx := ⟨fun i j => funext fun a => a.elim0⟩

/-- The precondition is a conjunction, over the nine arguments, of a condition on each element. -/
theorem parts (A : Args) (h : fn (F := Ideal) A.a0 A.a1 A.a2 A.a3 A.a4 A.a5 A.a6 A.a7 A.a8 = fun _ => 1#1) :
    (∀ i, FloatOps.cmpf .olt (FloatOps.hostAbsf (A.a2 i) : Ideal .f32) (FloatOps.ofBits .f32 0x7F800000#32 : Ideal .f32) = 1#1)
    ∧ (∀ i, FloatOps.cmpf .olt (FloatOps.hostAbsf (A.a3 i) : Ideal .f32) (FloatOps.ofBits .f32 0x7F800000#32 : Ideal .f32) = 1#1)
    ∧ (∀ i, FloatOps.cmpf .olt (FloatOps.hostAbsf (A.a5 i) : Ideal .f32) (FloatOps.ofBits .f32 0x7F800000#32 : Ideal .f32) = 1#1)
    ∧ (∀ i, FloatOps.cmpf .olt (FloatOps.hostAbsf (A.a7 i) : Ideal .f32) (FloatOps.ofBits .f32 0x7F800000#32 : Ideal .f32) = 1#1)
    ∧ (∀ i, FloatOps.cmpf .olt (FloatOps.hostAbsf (A.a8 i) : Ideal .f32) (FloatOps.ofBits .f32 0x7F800000#32 : Ideal .f32) = 1#1)
    ∧ (∀ i, IntOp.cmpi .ne (BitVec.setWidth 32 (A.a0 i : BitVec 8) &&& 127#32) 127#32 = 1#1)
    ∧ (∀ i, IntOp.cmpi .ne (BitVec.setWidth 32 (A.a1 i : BitVec 8) &&& 127#32) 127#32 = 1#1)
    ∧ (∀ i, IntOp.cmpi .ne (BitVec.setWidth 32 (A.a4 i : BitVec 8) &&& 127#32) 127#32 = 1#1)
    ∧ (∀ i, IntOp.cmpi .slt (BitVec.setWidth 32 (A.a6 i : BitVec 8) &&& 127#32) 124#32 = 1#1) := by
  have h1 := congrFun h (fun a => a.elim0)
  unfold fn fn_part1 fn_part2 fn_part3 at h1
  dsimp only at h1
  obtain ⟨h1, b6⟩ := IntOp.andi_eq_one.1 h1
  obtain ⟨h1, b4⟩ := IntOp.andi_eq_one.1 h1
  obtain ⟨h1, b1⟩ := IntOp.andi_eq_one.1 h1
  obtain ⟨h1, b0⟩ := IntOp.andi_eq_one.1 h1
  obtain ⟨h1, b8⟩ := IntOp.andi_eq_one.1 h1
  obtain ⟨h1, b7⟩ := IntOp.andi_eq_one.1 h1
  obtain ⟨h1, b5⟩ := IntOp.andi_eq_one.1 h1
  obtain ⟨b2, b3⟩ := IntOp.andi_eq_one.1 h1
  exact ⟨fun i => Host.reduce_andi_all _ _ _ _ _ b2 i, fun i => Host.reduce_andi_all _ _ _ _ _ b3 i, fun i => Host.reduce_andi_all _ _ _ _ _ b5 i,
    fun i => Host.reduce_andi_all _ _ _ _ _ b7 i, fun i => Host.reduce_andi_all _ _ _ _ _ b8 i, fun i => Host.reduce_andi_all _ _ _ _ _ b0 i,
    fun i => Host.reduce_andi_all _ _ _ _ _ b1 i, fun i => Host.reduce_andi_all _ _ _ _ _ b4 i, fun i => Host.reduce_andi_all _ _ _ _ _ b6 i⟩

/-- Under the precondition the nine arguments hold real numbers. -/
theorem real (A : Args) (h : fn (F := Ideal) A.a0 A.a1 A.a2 A.a3 A.a4 A.a5 A.a6 A.a7 A.a8 = fun _ => 1#1) : ∃ I : Inp, A.Real I := by
  obtain ⟨b2, b3, b5, b7, b8, b0, b1, b4, b6⟩ := parts A h
  obtain ⟨q, hq⟩ := exists4 _ fun i => real_e4m3 (A.a0 i) (IntOp.cmpi_ne.1 (b0 i))
  obtain ⟨k, hk⟩ := exists4 _ fun i => real_e4m3 (A.a1 i) (IntOp.cmpi_ne.1 (b1 i))
  obtain ⟨v, hv⟩ := exists4 _ fun i => real_e4m3 (A.a4 i) (IntOp.cmpi_ne.1 (b4 i))
  obtain ⟨o, ho⟩ := exists4 _ fun i => real_e5m2 (A.a6 i) (IntOp.cmpi_slt.1 (b6 i))
  obtain ⟨qs, hqs⟩ := exists3 _ fun i => real_f32 (A.a2 i) (b2 i)
  obtain ⟨ks, hks⟩ := exists3 _ fun i => real_f32 (A.a3 i) (b3 i)
  obtain ⟨vs, hvs⟩ := exists3 _ fun i => real_f32 (A.a5 i) (b5 i)
  obtain ⟨ds, hds⟩ := exists3 _ fun i => real_f32 (A.a7 i) (b7 i)
  obtain ⟨g, hg⟩ := exists4 _ fun i => real_f32 (A.a8 i) (b8 i)
  exact ⟨{ q := q, k := k, v := v, o := o, qs := qs, ks := ks, vs := vs, ds := ds, g := g },
    { a0 := hq, a1 := hk, a2 := hqs, a3 := hks, a4 := hv, a5 := hvs, a6 := ho, a7 := hds, a8 := hg }⟩

end Finite

end Cert.RV
-- ==== Proof.lean ====
/- The proof of the five claims. The real-number core is Proof/RealVec, Reads, Blocks, Carry, Attn, Grads and Outs: the kernel's
   body as five gradients of real numbers. Proof/KernelVal and Arrays read the kernel's arguments and result arrays;
   Proof/Chunks, Scans and Stages the reference's operations; Proof/Decode and RefArrays its arguments and results;
   Proof/Finite the precondition. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.KernelIdeal.Value
public import proofs.«01_k».proof.Proof.Arrays
public import proofs.«01_k».proof.Proof.RefArrays
public import proofs.«01_k».proof.Proof.Finite
public import Idealize.ShloMosaic.Adequacy
public import Idealize.ShloMosaic.Init

@[expose] public section

noncomputable section

namespace Cert.Proof

open Idealize.ShloMosaic Idealize.SL.Sem Cert.RV

instance : Cert.Pre_finite.Facts := Cert.Pre_finite.Gen.facts

/-- The named constant of the kernel's exponentials is the reciprocal of the natural logarithm of two. -/
theorem preserves : preserves_Kernel_KernelIdeal :=
  IdealRules.named_const.statement Cert.KernelIdeal.κ "log2e" .f32 0x3FB8AA3B#32 (((Real.log 2)⁻¹ : ℝ) : EReal) rfl

/-- From arguments whose codes decode to real numbers and whose scales and log-decays are real, the kernel and the reference
    end with the same five arrays: both are the five gradients (`Cert.RV.Data`) of those real numbers, for each batch and head. -/
theorem algebraic : algebraic_KernelIdeal_ReferenceIdeal_pre_finite := by
  intro m g m' g' hpre hargs
  choose I HI using fun c => Finite.real (argsOf m c) (hpre c)
  have HR : ∀ c, (RefArrays.args m' c).Real (I c) := fun c => by
    obtain ⟨e0, e1, e2, e3, e4, e5, e6, e7, e8⟩ := hargs c
    have e : RefArrays.args m' c = argsOf m c := by
      unfold RefArrays.args argsOf
      rw [e0, e1, e2, e3, e4, e5, e6, e7, e8]
    rw [e]
    exact HI c
  refine ⟨fun c (j : Cert.KernelIdeal.S2x10x768x256.Idx) => R0 .bf16 (((I c).data (j 0).val (j 1).val).dq (j 2).val (j 3).val),
    fun c (j : Cert.KernelIdeal.S2x10x768x256.Idx) => R0 .bf16 (((I c).data (j 0).val (j 1).val).dk (j 2).val (j 3).val),
    fun c (j : Cert.KernelIdeal.S2x10x768x512.Idx) => R0 .bf16 (((I c).data (j 0).val (j 1).val).dv (j 2).val (j 3).val),
    fun c (j : Cert.KernelIdeal.S2x10x768x256.Idx) => R0 .f32 (((I c).data (j 0).val (j 1).val).dg (j 2).val (j 3).val),
    fun c (j : Cert.KernelIdeal.S2x10x768x256.Idx) => R0 .f32 (((I c).data (j 0).val (j 1).val).db (j 2).val (j 3).val), ?_, ?_⟩
  · refine (θ_run Cert.KernelIdeal.defs _ _).mono (fun r h c => ?_) (Cert.KernelIdeal.Value.run_blocks m g)
    obtain ⟨h0, h1, h2, h3, h4, ha⟩ := h c
    exact ⟨h0.trans (arr_dq (HI c)), h1.trans (arr_dk (HI c)), h2.trans (arr_dv (HI c)), h3.trans (arr_dg (HI c)), h4.trans (arr_db (HI c)), ha⟩
  · refine (θ_run Cert.ReferenceIdeal.defs _ _).mono (fun r h c => ?_) (Cert.ReferenceIdeal.Value.run m' g')
    obtain ⟨h0, h1, h2, h3, h4, ha⟩ := h c
    exact ⟨h0.trans ((Cert.ReferenceIdeal.Read.val_main_v123_eq _).trans (RefArrays.res_dq (HR c))),
      h1.trans ((Cert.ReferenceIdeal.Read.val_main_v124_eq _).trans (RefArrays.res_dk (HR c))),
      h2.trans ((Cert.ReferenceIdeal.Read.val_main_v125_eq _).trans (RefArrays.res_dv (HR c))),
      h3.trans ((Cert.ReferenceIdeal.Read.val_main_v126_eq _).trans (RefArrays.res_dg (HR c))),
      h4.trans ((Cert.ReferenceIdeal.Read.val_main_v127_eq _).trans (RefArrays.res_db (HR c))), ha⟩

/-- The five claims: each program runs to its end and leaves its arguments; the named constant; the equality of the results. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, preserves, algebraic⟩

end Cert.Proof

end
